-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x49x8 : Shape := ⟨3, ![8, 49, 8]⟩
abbrev S8x49x16x768 : Shape := ⟨4, ![8, 49, 16, 768]⟩
abbrev S_ : Shape := ⟨0, ![]⟩

class Facts : Prop where
  bcast_S_S8x49x8 : S_.BroadcastsInDim S8x49x8 (![] : Fin 0 → Fin S8x49x8.rank)
  reducesTo_S8x49x8_S_d0_1_2 : S8x49x8.ReducesTo [0, 1, 2] S_
  h_S_ : 0 < S_.numel

variable [Facts]

def fn {F : FTy → Type} [FloatOps F] (main_arg0 : IVec S8x49x8 32) (main_arg1 : FVec F S8x49x8 .f32) (main_arg2 : FVec F S8x49x16x768 .f32) : IVec S_ 1 :=
  let main_c : IVec S_ 32 := constantI S_ 32 0#32
  let main_v0 : IVec S8x49x8 32 := broadcastInDim S8x49x8 ![] bcast_S_S8x49x8 main_c
  let main_v1 : IVec S8x49x8 1 := cmpi .sge main_arg0 main_v0
  let main_c_0 : IVec S_ 32 := constantI S_ 32 49#32
  let main_v2 : IVec S8x49x8 32 := broadcastInDim S8x49x8 ![] bcast_S_S8x49x8 main_c_0
  let main_v3 : IVec S8x49x8 1 := cmpi .slt main_arg0 main_v2
  let main_v4 : IVec S8x49x8 1 := andi main_v1 main_v3
  let main_c_1 : IVec S_ 1 := constantI S_ 1 1#1
  let main_v5 : IVec S_ 1 := (fun x v => Host.reduce IntOp.andi x v reducesTo_S8x49x8_S_d0_1_2 h_S_) main_v4 main_c_1
  main_v5
-- ==== Kernel.lean ====
abbrev S8x49x8 : Shape := ⟨3, ![8, 49, 8]⟩
abbrev S8x49x16x768 : Shape := ⟨4, ![8, 49, 16, 768]⟩
abbrev S3136 : Shape := ⟨1, ![3136]⟩
abbrev S392x16x768 : Shape := ⟨3, ![392, 16, 768]⟩
abbrev S3136x16x768 : Shape := ⟨3, ![3136, 16, 768]⟩
abbrev S432 : Shape := ⟨1, ![432]⟩
abbrev S8x16x768 : Shape := ⟨3, ![8, 16, 768]⟩
abbrev S4x9x16x768 : Shape := ⟨4, ![4, 9, 16, 768]⟩
abbrev S_ : Shape := ⟨0, ![]⟩
abbrev S1x9x16x768 : Shape := ⟨4, ![1, 9, 16, 768]⟩
abbrev S9x16x768 : Shape := ⟨3, ![9, 16, 768]⟩
abbrev S392 : Shape := ⟨1, ![392]⟩
abbrev S16 : Shape := ⟨1, ![16]⟩
abbrev S1 : Shape := ⟨1, ![1]⟩
abbrev S1x16x768 : Shape := ⟨3, ![1, 16, 768]⟩
abbrev S16x768 : Shape := ⟨2, ![16, 768]⟩
abbrev S1x1x16x768 : Shape := ⟨4, ![1, 1, 16, 768]⟩
abbrev S8x49x8x16x768 : Shape := ⟨5, ![8, 49, 8, 16, 768]⟩

abbrev nBuf : Table → Nat
  | .hbm => 7
  | .shared => 1
  | .local .scVector .vmem => 2
  | _ => 0

abbrev bufTy : (tb : Table) → Fin (nBuf tb) → BufTy
  | .hbm, ⟨0, _⟩ => ⟨S8x49x8, .i32⟩
  | .hbm, ⟨1, _⟩ => ⟨S8x49x8, .f32⟩
  | .hbm, ⟨2, _⟩ => ⟨S8x49x16x768, .f32⟩
  | .hbm, ⟨3, _⟩ => ⟨S3136, .i32⟩
  | .hbm, ⟨4, _⟩ => ⟨S392x16x768, .f32⟩
  | .hbm, ⟨5, _⟩ => ⟨S3136x16x768, .f32⟩
  | .hbm, ⟨6, _⟩ => ⟨S8x49x8x16x768, .f32⟩
  | .shared, ⟨0, _⟩ => ⟨S4x9x16x768, .f32⟩
  | .local .scVector .vmem, ⟨0, _⟩ => ⟨S432, .i32⟩
  | .local .scVector .vmem, ⟨1, _⟩ => ⟨S8x16x768, .f32⟩
  | _, _ => ⟨S8x49x8, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let c8_i32 : BitVec 32 := 8#32
  let c4_i32_4 : BitVec 32 := 4#32
  let v19 : BitVec 32 := Scalar.remsi v1 c4_i32_4
  let v30 : BitVec 32 := Scalar.muli c8_i32 v19
  let v31 : BitVec 32 := Scalar.addi v22 v30
  let c0_i32_11 : BitVec 32 := 0#32
  let c0_i32_12 : BitVec 32 := 0#32
  ![v31.toNat, 0, 0]
def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_15 : BitVec 32 := 0#32
  let v34 : BitVec 1 := Scalar.cmpi .eq v19 c0_i32_15
  let v35 : BitVec 32 := Scalar.extui v34
  let c0_i32_16 : BitVec 32 := 0#32
  let v36 : BitVec 1 := Scalar.cmpi .ne v35 c0_i32_16
  v36

def k0_off2 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c0_i32_48 : BitVec 32 := 0#32
  let c0_i32_49 : BitVec 32 := 0#32
  let c0_i32_50 : BitVec 32 := 0#32
  ![v20.toNat, 0, 0, 0]
def k0_off3 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let c32_i32 : BitVec 32 := 32#32
  let v75 : BitVec 32 := Scalar.addi v22 c32_i32
  let c0_i32_51 : BitVec 32 := 0#32
  let c0_i32_52 : BitVec 32 := 0#32
  ![v75.toNat, 0, 0]
def k0_off4 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  ![v21.toNat]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_25 : BitVec 32 := 0#32
  let v55 : BitVec 1 := Scalar.cmpi .eq v19 c0_i32_25
  let v56 : BitVec 32 := Scalar.extui v55
  let c0_i32_26 : BitVec 32 := 0#32
  let v57 : BitVec 1 := Scalar.cmpi .ne v56 c0_i32_26
  v57

def k0_off5 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c0_i32_48 : BitVec 32 := 0#32
  let c0_i32_49 : BitVec 32 := 0#32
  let c0_i32_50 : BitVec 32 := 0#32
  ![v20.toNat, 0, 0, 0]
@[reducible] def k0_t1_loop : Scf.Loop 32 :=
  let c0_i32_30 : BitVec 32 := 0#32
  let c25_i32 : BitVec 32 := 25#32
  let v58 : BitVec 32 := Scalar.addi c0_i32_30 c25_i32
  let c1_i32_31 : BitVec 32 := 1#32
  ⟨c0_i32_30, v58, c1_i32_31⟩
def k0_off6 (k0_t1 : Fin k0_t1_loop.trips) : Fin 1 → Nat :=
  let c16_i32_48 : BitVec 32 := 16#32
  let c0_i32_30 : BitVec 32 := 0#32
  let c1_i32_31 : BitVec 32 := 1#32
  let arg13 : BitVec 32 := Scf.iv c0_i32_30 c1_i32_31 k0_t1
  let v75 : BitVec 32 := Scalar.muli c16_i32_48 arg13
  let v76 : Index := Scalar.indexCast v75
  ![v76.toNat]
def k0_off7 (i : grid0.Coords) (v80 : BitVec 32) : Fin 3 → Nat :=
  let c8_i32_51 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v83 : BitVec 32 := Scalar.muli c8_i32_51 v19
  let v84 : BitVec 32 := Scalar.subi v80 v83
  let c0_i32_309 : BitVec 32 := 0#32
  let c0_i32_310 : BitVec 32 := 0#32
  ![v84.toNat, 0, 0]
def k0_cond3 (i : grid0.Coords) (v80 : BitVec 32) : BitVec 1 :=
  let c8_i32_51 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v83 : BitVec 32 := Scalar.muli c8_i32_51 v19
  let v84 : BitVec 32 := Scalar.subi v80 v83
  let c0_i32_52 : BitVec 32 := 0#32
  let v88 : BitVec 1 := Scalar.cmpi .sge v84 c0_i32_52
  let c8_i32_53 : BitVec 32 := 8#32
  let v89 : BitVec 1 := Scalar.cmpi .slt v84 c8_i32_53
  let v90 : BitVec 1 := Scalar.andi v88 v89
  let v97 : BitVec 32 := Scalar.extui v90
  let c0_i32_55 : BitVec 32 := 0#32
  let v98 : BitVec 1 := Scalar.cmpi .ne v97 c0_i32_55
  v98

def k0_off8 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_49 : BitVec 32 := 16#32
  let v81 : BitVec 32 := Scalar.muli arg13 c16_i32_49
  let c0_i32_50 : BitVec 32 := 0#32
  let v82 : BitVec 32 := Scalar.addi v81 c0_i32_50
  let v559 : BitVec 32 := Scalar.addi v21 v82
  let c0_i32_311 : BitVec 32 := 0#32
  let c0_i32_312 : BitVec 32 := 0#32
  ![v559.toNat, 0, 0]
def k0_off9 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_49 : BitVec 32 := 16#32
  let v81 : BitVec 32 := Scalar.muli arg13 c16_i32_49
  let c0_i32_50 : BitVec 32 := 0#32
  let v82 : BitVec 32 := Scalar.addi v81 c0_i32_50
  let v560 : BitVec 32 := Scalar.addi v21 v82
  let c0_i32_310 : BitVec 32 := 0#32
  let c0_i32_311 : BitVec 32 := 0#32
  ![v560.toNat, 0, 0]
def k0_off10 (i : grid0.Coords) (v80 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v80 c32_i32_309
  let c0_i32_312 : BitVec 32 := 0#32
  let c0_i32_313 : BitVec 32 := 0#32
  ![v20.toNat, v559.toNat, 0, 0]
def k0_cond4 (i : grid0.Coords) (k0_t1 : Fin k0_t1_loop.trips) (v80 : BitVec 32) : BitVec 1 :=
  let c32_i32 : BitVec 32 := 32#32
  let v91 : BitVec 1 := Scalar.cmpi .sge v80 c32_i32
  let c41_i32 : BitVec 32 := 41#32
  let v92 : BitVec 1 := Scalar.cmpi .slt v80 c41_i32
  let v93 : BitVec 1 := Scalar.andi v91 v92
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v85 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v86 : BitVec 1 := Scalar.cmpi .slt arg13 v29
  let v87 : BitVec 1 := Scalar.andi v85 v86
  let v94 : BitVec 1 := Scalar.andi v93 v87
  let v99 : BitVec 32 := Scalar.extui v94
  let c0_i32_56 : BitVec 32 := 0#32
  let v100 : BitVec 1 := Scalar.cmpi .ne v99 c0_i32_56
  v100

def k0_off11 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_49 : BitVec 32 := 16#32
  let v81 : BitVec 32 := Scalar.muli arg13 c16_i32_49
  let c0_i32_50 : BitVec 32 := 0#32
  let v82 : BitVec 32 := Scalar.addi v81 c0_i32_50
  let v560 : BitVec 32 := Scalar.addi v21 v82
  let c0_i32_309 : BitVec 32 := 0#32
  let c0_i32_310 : BitVec 32 := 0#32
  ![v560.toNat, 0, 0]
def k0_off12 (i : grid0.Coords) (v80 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v80
  let c0_i32_311 : BitVec 32 := 0#32
  let c0_i32_312 : BitVec 32 := 0#32
  ![v559.toNat, 0, 0]
def k0_cond5 (i : grid0.Coords) (k0_t1 : Fin k0_t1_loop.trips) (v80 : BitVec 32) : BitVec 1 :=
  let c41_i32_54 : BitVec 32 := 41#32
  let v95 : BitVec 1 := Scalar.cmpi .sge v80 c41_i32_54
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v85 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v86 : BitVec 1 := Scalar.cmpi .slt arg13 v29
  let v87 : BitVec 1 := Scalar.andi v85 v86
  let v96 : BitVec 1 := Scalar.andi v95 v87
  let v101 : BitVec 32 := Scalar.extui v96
  let c0_i32_57 : BitVec 32 := 0#32
  let v102 : BitVec 1 := Scalar.cmpi .ne v101 c0_i32_57
  v102

def k0_chk1 (i : grid0.Coords) (k0_t1 : Fin k0_t1_loop.trips) (v80 : BitVec 32) : Prop :=
  (∀ (k0_h3 : k0_cond3 i v80 = 1#1), ∀ a, (k0_off7 i v80) a + S1x16x768.size a ≤ S8x16x768.size a) ∧
  (∀ (k0_h4 : k0_cond4 i k0_t1 v80 = 1#1), ∀ a, (k0_off10 i v80) a + S1x1x16x768.size a ≤ S4x9x16x768.size a) ∧
  (∀ (k0_h5 : k0_cond5 i k0_t1 v80 = 1#1), ∀ a, (k0_off12 i v80) a + S1x16x768.size a ≤ S392x16x768.size a)
theorem k0_off7_inb : ∀ (i : grid0.Coords) (k0_t1 : Fin k0_t1_loop.trips) (v80 : BitVec 32) (k0_hw1 : k0_chk1 i k0_t1 v80), ∀ (k0_h3 : k0_cond3 i v80 = 1#1), ∀ a, (k0_off7 i v80) a + S1x16x768.size a ≤ S8x16x768.size a := fun i k0_t1 v80 k0_hw1 k0_h3 => k0_hw1.1 k0_h3
theorem k0_off10_inb : ∀ (i : grid0.Coords) (k0_t1 : Fin k0_t1_loop.trips) (v80 : BitVec 32) (k0_hw1 : k0_chk1 i k0_t1 v80), ∀ (k0_h4 : k0_cond4 i k0_t1 v80 = 1#1), ∀ a, (k0_off10 i v80) a + S1x1x16x768.size a ≤ S4x9x16x768.size a := fun i k0_t1 v80 k0_hw1 k0_h4 => k0_hw1.2.1 k0_h4
theorem k0_off12_inb : ∀ (i : grid0.Coords) (k0_t1 : Fin k0_t1_loop.trips) (v80 : BitVec 32) (k0_hw1 : k0_chk1 i k0_t1 v80), ∀ (k0_h5 : k0_cond5 i k0_t1 v80 = 1#1), ∀ a, (k0_off12 i v80) a + S1x16x768.size a ≤ S392x16x768.size a := fun i k0_t1 v80 k0_hw1 k0_h5 => k0_hw1.2.2 k0_h5

def k0_off13 (i : grid0.Coords) (v110 : BitVec 32) : Fin 3 → Nat :=
  let c8_i32_66 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v113 : BitVec 32 := Scalar.muli c8_i32_66 v19
  let v114 : BitVec 32 := Scalar.subi v110 v113
  let c0_i32_309 : BitVec 32 := 0#32
  let c0_i32_310 : BitVec 32 := 0#32
  ![v114.toNat, 0, 0]
def k0_cond6 (i : grid0.Coords) (v110 : BitVec 32) : BitVec 1 :=
  let c8_i32_66 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v113 : BitVec 32 := Scalar.muli c8_i32_66 v19
  let v114 : BitVec 32 := Scalar.subi v110 v113
  let c0_i32_67 : BitVec 32 := 0#32
  let v118 : BitVec 1 := Scalar.cmpi .sge v114 c0_i32_67
  let c8_i32_68 : BitVec 32 := 8#32
  let v119 : BitVec 1 := Scalar.cmpi .slt v114 c8_i32_68
  let v120 : BitVec 1 := Scalar.andi v118 v119
  let v127 : BitVec 32 := Scalar.extui v120
  let c0_i32_72 : BitVec 32 := 0#32
  let v128 : BitVec 1 := Scalar.cmpi .ne v127 c0_i32_72
  v128

def k0_off14 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_64 : BitVec 32 := 16#32
  let v111 : BitVec 32 := Scalar.muli arg13 c16_i32_64
  let c1_i32_65 : BitVec 32 := 1#32
  let v112 : BitVec 32 := Scalar.addi v111 c1_i32_65
  let v559 : BitVec 32 := Scalar.addi v21 v112
  let c0_i32_311 : BitVec 32 := 0#32
  let c0_i32_312 : BitVec 32 := 0#32
  ![v559.toNat, 0, 0]
def k0_off15 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_64 : BitVec 32 := 16#32
  let v111 : BitVec 32 := Scalar.muli arg13 c16_i32_64
  let c1_i32_65 : BitVec 32 := 1#32
  let v112 : BitVec 32 := Scalar.addi v111 c1_i32_65
  let v560 : BitVec 32 := Scalar.addi v21 v112
  let c0_i32_310 : BitVec 32 := 0#32
  let c0_i32_311 : BitVec 32 := 0#32
  ![v560.toNat, 0, 0]
def k0_off16 (i : grid0.Coords) (v110 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v110 c32_i32_309
  let c0_i32_312 : BitVec 32 := 0#32
  let c0_i32_313 : BitVec 32 := 0#32
  ![v20.toNat, v559.toNat, 0, 0]
def k0_cond7 (i : grid0.Coords) (k0_t1 : Fin k0_t1_loop.trips) (v110 : BitVec 32) : BitVec 1 :=
  let c32_i32_69 : BitVec 32 := 32#32
  let v121 : BitVec 1 := Scalar.cmpi .sge v110 c32_i32_69
  let c41_i32_70 : BitVec 32 := 41#32
  let v122 : BitVec 1 := Scalar.cmpi .slt v110 c41_i32_70
  let v123 : BitVec 1 := Scalar.andi v121 v122
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v115 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v116 : BitVec 1 := Scalar.cmpi .slt arg13 v29
  let v117 : BitVec 1 := Scalar.andi v115 v116
  let v124 : BitVec 1 := Scalar.andi v123 v117
  let v129 : BitVec 32 := Scalar.extui v124
  let c0_i32_73 : BitVec 32 := 0#32
  let v130 : BitVec 1 := Scalar.cmpi .ne v129 c0_i32_73
  v130

def k0_off17 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_64 : BitVec 32 := 16#32
  let v111 : BitVec 32 := Scalar.muli arg13 c16_i32_64
  let c1_i32_65 : BitVec 32 := 1#32
  let v112 : BitVec 32 := Scalar.addi v111 c1_i32_65
  let v560 : BitVec 32 := Scalar.addi v21 v112
  let c0_i32_309 : BitVec 32 := 0#32
  let c0_i32_310 : BitVec 32 := 0#32
  ![v560.toNat, 0, 0]
def k0_off18 (i : grid0.Coords) (v110 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v110
  let c0_i32_311 : BitVec 32 := 0#32
  let c0_i32_312 : BitVec 32 := 0#32
  ![v559.toNat, 0, 0]
def k0_cond8 (i : grid0.Coords) (k0_t1 : Fin k0_t1_loop.trips) (v110 : BitVec 32) : BitVec 1 :=
  let c41_i32_71 : BitVec 32 := 41#32
  let v125 : BitVec 1 := Scalar.cmpi .sge v110 c41_i32_71
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v115 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v116 : BitVec 1 := Scalar.cmpi .slt arg13 v29
  let v117 : BitVec 1 := Scalar.andi v115 v116
  let v126 : BitVec 1 := Scalar.andi v125 v117
  let v131 : BitVec 32 := Scalar.extui v126
  let c0_i32_74 : BitVec 32 := 0#32
  let v132 : BitVec 1 := Scalar.cmpi .ne v131 c0_i32_74
  v132

def k0_chk2 (i : grid0.Coords) (k0_t1 : Fin k0_t1_loop.trips) (v110 : BitVec 32) : Prop :=
  (∀ (k0_h6 : k0_cond6 i v110 = 1#1), ∀ a, (k0_off13 i v110) a + S1x16x768.size a ≤ S8x16x768.size a) ∧
  (∀ (k0_h7 : k0_cond7 i k0_t1 v110 = 1#1), ∀ a, (k0_off16 i v110) a + S1x1x16x768.size a ≤ S4x9x16x768.size a) ∧
  (∀ (k0_h8 : k0_cond8 i k0_t1 v110 = 1#1), ∀ a, (k0_off18 i v110) a + S1x16x768.size a ≤ S392x16x768.size a)
theorem k0_off13_inb : ∀ (i : grid0.Coords) (k0_t1 : Fin k0_t1_loop.trips) (v110 : BitVec 32) (k0_hw2 : k0_chk2 i k0_t1 v110), ∀ (k0_h6 : k0_cond6 i v110 = 1#1), ∀ a, (k0_off13 i v110) a + S1x16x768.size a ≤ S8x16x768.size a := fun i k0_t1 v110 k0_hw2 k0_h6 => k0_hw2.1 k0_h6
theorem k0_off16_inb : ∀ (i : grid0.Coords) (k0_t1 : Fin k0_t1_loop.trips) (v110 : BitVec 32) (k0_hw2 : k0_chk2 i k0_t1 v110), ∀ (k0_h7 : k0_cond7 i k0_t1 v110 = 1#1), ∀ a, (k0_off16 i v110) a + S1x1x16x768.size a ≤ S4x9x16x768.size a := fun i k0_t1 v110 k0_hw2 k0_h7 => k0_hw2.2.1 k0_h7
theorem k0_off18_inb : ∀ (i : grid0.Coords) (k0_t1 : Fin k0_t1_loop.trips) (v110 : BitVec 32) (k0_hw2 : k0_chk2 i k0_t1 v110), ∀ (k0_h8 : k0_cond8 i k0_t1 v110 = 1#1), ∀ a, (k0_off18 i v110) a + S1x16x768.size a ≤ S392x16x768.size a := fun i k0_t1 v110 k0_hw2 k0_h8 => k0_hw2.2.2 k0_h8

def k0_off19 (i : grid0.Coords) (v140 : BitVec 32) : Fin 3 → Nat :=
  let c8_i32_82 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v143 : BitVec 32 := Scalar.muli c8_i32_82 v19
  let v144 : BitVec 32 := Scalar.subi v140 v143
  let c0_i32_309 : BitVec 32 := 0#32
  let c0_i32_310 : BitVec 32 := 0#32
  ![v144.toNat, 0, 0]
def k0_cond9 (i : grid0.Coords) (v140 : BitVec 32) : BitVec 1 :=
  let c8_i32_82 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v143 : BitVec 32 := Scalar.muli c8_i32_82 v19
  let v144 : BitVec 32 := Scalar.subi v140 v143
  let c0_i32_83 : BitVec 32 := 0#32
  let v148 : BitVec 1 := Scalar.cmpi .sge v144 c0_i32_83
  let c8_i32_84 : BitVec 32 := 8#32
  let v149 : BitVec 1 := Scalar.cmpi .slt v144 c8_i32_84
  let v150 : BitVec 1 := Scalar.andi v148 v149
  let v157 : BitVec 32 := Scalar.extui v150
  let c0_i32_88 : BitVec 32 := 0#32
  let v158 : BitVec 1 := Scalar.cmpi .ne v157 c0_i32_88
  v158

def k0_off20 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_81 : BitVec 32 := 16#32
  let v141 : BitVec 32 := Scalar.muli arg13 c16_i32_81
  let c2_i32 : BitVec 32 := 2#32
  let v142 : BitVec 32 := Scalar.addi v141 c2_i32
  let v559 : BitVec 32 := Scalar.addi v21 v142
  let c0_i32_311 : BitVec 32 := 0#32
  let c0_i32_312 : BitVec 32 := 0#32
  ![v559.toNat, 0, 0]
def k0_off21 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_81 : BitVec 32 := 16#32
  let v141 : BitVec 32 := Scalar.muli arg13 c16_i32_81
  let c2_i32 : BitVec 32 := 2#32
  let v142 : BitVec 32 := Scalar.addi v141 c2_i32
  let v560 : BitVec 32 := Scalar.addi v21 v142
  let c0_i32_310 : BitVec 32 := 0#32
  let c0_i32_311 : BitVec 32 := 0#32
  ![v560.toNat, 0, 0]
def k0_off22 (i : grid0.Coords) (v140 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v140 c32_i32_309
  let c0_i32_312 : BitVec 32 := 0#32
  let c0_i32_313 : BitVec 32 := 0#32
  ![v20.toNat, v559.toNat, 0, 0]
def k0_cond10 (i : grid0.Coords) (k0_t1 : Fin k0_t1_loop.trips) (v140 : BitVec 32) : BitVec 1 :=
  let c32_i32_85 : BitVec 32 := 32#32
  let v151 : BitVec 1 := Scalar.cmpi .sge v140 c32_i32_85
  let c41_i32_86 : BitVec 32 := 41#32
  let v152 : BitVec 1 := Scalar.cmpi .slt v140 c41_i32_86
  let v153 : BitVec 1 := Scalar.andi v151 v152
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v145 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v146 : BitVec 1 := Scalar.cmpi .slt arg13 v29
  let v147 : BitVec 1 := Scalar.andi v145 v146
  let v154 : BitVec 1 := Scalar.andi v153 v147
  let v159 : BitVec 32 := Scalar.extui v154
  let c0_i32_89 : BitVec 32 := 0#32
  let v160 : BitVec 1 := Scalar.cmpi .ne v159 c0_i32_89
  v160

def k0_off23 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_81 : BitVec 32 := 16#32
  let v141 : BitVec 32 := Scalar.muli arg13 c16_i32_81
  let c2_i32 : BitVec 32 := 2#32
  let v142 : BitVec 32 := Scalar.addi v141 c2_i32
  let v560 : BitVec 32 := Scalar.addi v21 v142
  let c0_i32_309 : BitVec 32 := 0#32
  let c0_i32_310 : BitVec 32 := 0#32
  ![v560.toNat, 0, 0]
def k0_off24 (i : grid0.Coords) (v140 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v140
  let c0_i32_311 : BitVec 32 := 0#32
  let c0_i32_312 : BitVec 32 := 0#32
  ![v559.toNat, 0, 0]
def k0_cond11 (i : grid0.Coords) (k0_t1 : Fin k0_t1_loop.trips) (v140 : BitVec 32) : BitVec 1 :=
  let c41_i32_87 : BitVec 32 := 41#32
  let v155 : BitVec 1 := Scalar.cmpi .sge v140 c41_i32_87
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v145 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v146 : BitVec 1 := Scalar.cmpi .slt arg13 v29
  let v147 : BitVec 1 := Scalar.andi v145 v146
  let v156 : BitVec 1 := Scalar.andi v155 v147
  let v161 : BitVec 32 := Scalar.extui v156
  let c0_i32_90 : BitVec 32 := 0#32
  let v162 : BitVec 1 := Scalar.cmpi .ne v161 c0_i32_90
  v162

def k0_chk3 (i : grid0.Coords) (k0_t1 : Fin k0_t1_loop.trips) (v140 : BitVec 32) : Prop :=
  (∀ (k0_h9 : k0_cond9 i v140 = 1#1), ∀ a, (k0_off19 i v140) a + S1x16x768.size a ≤ S8x16x768.size a) ∧
  (∀ (k0_h10 : k0_cond10 i k0_t1 v140 = 1#1), ∀ a, (k0_off22 i v140) a + S1x1x16x768.size a ≤ S4x9x16x768.size a) ∧
  (∀ (k0_h11 : k0_cond11 i k0_t1 v140 = 1#1), ∀ a, (k0_off24 i v140) a + S1x16x768.size a ≤ S392x16x768.size a)
theorem k0_off19_inb : ∀ (i : grid0.Coords) (k0_t1 : Fin k0_t1_loop.trips) (v140 : BitVec 32) (k0_hw3 : k0_chk3 i k0_t1 v140), ∀ (k0_h9 : k0_cond9 i v140 = 1#1), ∀ a, (k0_off19 i v140) a + S1x16x768.size a ≤ S8x16x768.size a := fun i k0_t1 v140 k0_hw3 k0_h9 => k0_hw3.1 k0_h9
theorem k0_off22_inb : ∀ (i : grid0.Coords) (k0_t1 : Fin k0_t1_loop.trips) (v140 : BitVec 32) (k0_hw3 : k0_chk3 i k0_t1 v140), ∀ (k0_h10 : k0_cond10 i k0_t1 v140 = 1#1), ∀ a, (k0_off22 i v140) a + S1x1x16x768.size a ≤ S4x9x16x768.size a := fun i k0_t1 v140 k0_hw3 k0_h10 => k0_hw3.2.1 k0_h10
theorem k0_off24_inb : ∀ (i : grid0.Coords) (k0_t1 : Fin k0_t1_loop.trips) (v140 : BitVec 32) (k0_hw3 : k0_chk3 i k0_t1 v140), ∀ (k0_h11 : k0_cond11 i k0_t1 v140 = 1#1), ∀ a, (k0_off24 i v140) a + S1x16x768.size a ≤ S392x16x768.size a := fun i k0_t1 v140 k0_hw3 k0_h11 => k0_hw3.2.2 k0_h11

def k0_off25 (i : grid0.Coords) (v170 : BitVec 32) : Fin 3 → Nat :=
  let c8_i32_98 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v173 : BitVec 32 := Scalar.muli c8_i32_98 v19
  let v174 : BitVec 32 := Scalar.subi v170 v173
  let c0_i32_309 : BitVec 32 := 0#32
  let c0_i32_310 : BitVec 32 := 0#32
  ![v174.toNat, 0, 0]
def k0_cond12 (i : grid0.Coords) (v170 : BitVec 32) : BitVec 1 :=
  let c8_i32_98 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v173 : BitVec 32 := Scalar.muli c8_i32_98 v19
  let v174 : BitVec 32 := Scalar.subi v170 v173
  let c0_i32_99 : BitVec 32 := 0#32
  let v178 : BitVec 1 := Scalar.cmpi .sge v174 c0_i32_99
  let c8_i32_100 : BitVec 32 := 8#32
  let v179 : BitVec 1 := Scalar.cmpi .slt v174 c8_i32_100
  let v180 : BitVec 1 := Scalar.andi v178 v179
  let v187 : BitVec 32 := Scalar.extui v180
  let c0_i32_104 : BitVec 32 := 0#32
  let v188 : BitVec 1 := Scalar.cmpi .ne v187 c0_i32_104
  v188

def k0_off26 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_97 : BitVec 32 := 16#32
  let v171 : BitVec 32 := Scalar.muli arg13 c16_i32_97
  let c3_i32 : BitVec 32 := 3#32
  let v172 : BitVec 32 := Scalar.addi v171 c3_i32
  let v559 : BitVec 32 := Scalar.addi v21 v172
  let c0_i32_311 : BitVec 32 := 0#32
  let c0_i32_312 : BitVec 32 := 0#32
  ![v559.toNat, 0, 0]
def k0_off27 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_97 : BitVec 32 := 16#32
  let v171 : BitVec 32 := Scalar.muli arg13 c16_i32_97
  let c3_i32 : BitVec 32 := 3#32
  let v172 : BitVec 32 := Scalar.addi v171 c3_i32
  let v560 : BitVec 32 := Scalar.addi v21 v172
  let c0_i32_310 : BitVec 32 := 0#32
  let c0_i32_311 : BitVec 32 := 0#32
  ![v560.toNat, 0, 0]
def k0_off28 (i : grid0.Coords) (v170 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v170 c32_i32_309
  let c0_i32_312 : BitVec 32 := 0#32
  let c0_i32_313 : BitVec 32 := 0#32
  ![v20.toNat, v559.toNat, 0, 0]
def k0_cond13 (i : grid0.Coords) (k0_t1 : Fin k0_t1_loop.trips) (v170 : BitVec 32) : BitVec 1 :=
  let c32_i32_101 : BitVec 32 := 32#32
  let v181 : BitVec 1 := Scalar.cmpi .sge v170 c32_i32_101
  let c41_i32_102 : BitVec 32 := 41#32
  let v182 : BitVec 1 := Scalar.cmpi .slt v170 c41_i32_102
  let v183 : BitVec 1 := Scalar.andi v181 v182
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v175 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v176 : BitVec 1 := Scalar.cmpi .slt arg13 v29
  let v177 : BitVec 1 := Scalar.andi v175 v176
  let v184 : BitVec 1 := Scalar.andi v183 v177
  let v189 : BitVec 32 := Scalar.extui v184
  let c0_i32_105 : BitVec 32 := 0#32
  let v190 : BitVec 1 := Scalar.cmpi .ne v189 c0_i32_105
  v190

def k0_off29 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_97 : BitVec 32 := 16#32
  let v171 : BitVec 32 := Scalar.muli arg13 c16_i32_97
  let c3_i32 : BitVec 32 := 3#32
  let v172 : BitVec 32 := Scalar.addi v171 c3_i32
  let v560 : BitVec 32 := Scalar.addi v21 v172
  let c0_i32_309 : BitVec 32 := 0#32
  let c0_i32_310 : BitVec 32 := 0#32
  ![v560.toNat, 0, 0]
def k0_off30 (i : grid0.Coords) (v170 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v170
  let c0_i32_311 : BitVec 32 := 0#32
  let c0_i32_312 : BitVec 32 := 0#32
  ![v559.toNat, 0, 0]
def k0_cond14 (i : grid0.Coords) (k0_t1 : Fin k0_t1_loop.trips) (v170 : BitVec 32) : BitVec 1 :=
  let c41_i32_103 : BitVec 32 := 41#32
  let v185 : BitVec 1 := Scalar.cmpi .sge v170 c41_i32_103
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v175 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v176 : BitVec 1 := Scalar.cmpi .slt arg13 v29
  let v177 : BitVec 1 := Scalar.andi v175 v176
  let v186 : BitVec 1 := Scalar.andi v185 v177
  let v191 : BitVec 32 := Scalar.extui v186
  let c0_i32_106 : BitVec 32 := 0#32
  let v192 : BitVec 1 := Scalar.cmpi .ne v191 c0_i32_106
  v192

def k0_chk4 (i : grid0.Coords) (k0_t1 : Fin k0_t1_loop.trips) (v170 : BitVec 32) : Prop :=
  (∀ (k0_h12 : k0_cond12 i v170 = 1#1), ∀ a, (k0_off25 i v170) a + S1x16x768.size a ≤ S8x16x768.size a) ∧
  (∀ (k0_h13 : k0_cond13 i k0_t1 v170 = 1#1), ∀ a, (k0_off28 i v170) a + S1x1x16x768.size a ≤ S4x9x16x768.size a) ∧
  (∀ (k0_h14 : k0_cond14 i k0_t1 v170 = 1#1), ∀ a, (k0_off30 i v170) a + S1x16x768.size a ≤ S392x16x768.size a)
theorem k0_off25_inb : ∀ (i : grid0.Coords) (k0_t1 : Fin k0_t1_loop.trips) (v170 : BitVec 32) (k0_hw4 : k0_chk4 i k0_t1 v170), ∀ (k0_h12 : k0_cond12 i v170 = 1#1), ∀ a, (k0_off25 i v170) a + S1x16x768.size a ≤ S8x16x768.size a := fun i k0_t1 v170 k0_hw4 k0_h12 => k0_hw4.1 k0_h12
theorem k0_off28_inb : ∀ (i : grid0.Coords) (k0_t1 : Fin k0_t1_loop.trips) (v170 : BitVec 32) (k0_hw4 : k0_chk4 i k0_t1 v170), ∀ (k0_h13 : k0_cond13 i k0_t1 v170 = 1#1), ∀ a, (k0_off28 i v170) a + S1x1x16x768.size a ≤ S4x9x16x768.size a := fun i k0_t1 v170 k0_hw4 k0_h13 => k0_hw4.2.1 k0_h13
theorem k0_off30_inb : ∀ (i : grid0.Coords) (k0_t1 : Fin k0_t1_loop.trips) (v170 : BitVec 32) (k0_hw4 : k0_chk4 i k0_t1 v170), ∀ (k0_h14 : k0_cond14 i k0_t1 v170 = 1#1), ∀ a, (k0_off30 i v170) a + S1x16x768.size a ≤ S392x16x768.size a := fun i k0_t1 v170 k0_hw4 k0_h14 => k0_hw4.2.2 k0_h14

def k0_off31 (i : grid0.Coords) (v200 : BitVec 32) : Fin 3 → Nat :=
  let c8_i32_115 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v203 : BitVec 32 := Scalar.muli c8_i32_115 v19
  let v204 : BitVec 32 := Scalar.subi v200 v203
  let c0_i32_309 : BitVec 32 := 0#32
  let c0_i32_310 : BitVec 32 := 0#32
  ![v204.toNat, 0, 0]
def k0_cond15 (i : grid0.Coords) (v200 : BitVec 32) : BitVec 1 :=
  let c8_i32_115 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v203 : BitVec 32 := Scalar.muli c8_i32_115 v19
  let v204 : BitVec 32 := Scalar.subi v200 v203
  let c0_i32_116 : BitVec 32 := 0#32
  let v208 : BitVec 1 := Scalar.cmpi .sge v204 c0_i32_116
  let c8_i32_117 : BitVec 32 := 8#32
  let v209 : BitVec 1 := Scalar.cmpi .slt v204 c8_i32_117
  let v210 : BitVec 1 := Scalar.andi v208 v209
  let v217 : BitVec 32 := Scalar.extui v210
  let c0_i32_121 : BitVec 32 := 0#32
  let v218 : BitVec 1 := Scalar.cmpi .ne v217 c0_i32_121
  v218

def k0_off32 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_113 : BitVec 32 := 16#32
  let v201 : BitVec 32 := Scalar.muli arg13 c16_i32_113
  let c4_i32_114 : BitVec 32 := 4#32
  let v202 : BitVec 32 := Scalar.addi v201 c4_i32_114
  let v559 : BitVec 32 := Scalar.addi v21 v202
  let c0_i32_311 : BitVec 32 := 0#32
  let c0_i32_312 : BitVec 32 := 0#32
  ![v559.toNat, 0, 0]
def k0_off33 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_113 : BitVec 32 := 16#32
  let v201 : BitVec 32 := Scalar.muli arg13 c16_i32_113
  let c4_i32_114 : BitVec 32 := 4#32
  let v202 : BitVec 32 := Scalar.addi v201 c4_i32_114
  let v560 : BitVec 32 := Scalar.addi v21 v202
  let c0_i32_310 : BitVec 32 := 0#32
  let c0_i32_311 : BitVec 32 := 0#32
  ![v560.toNat, 0, 0]
def k0_off34 (i : grid0.Coords) (v200 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v200 c32_i32_309
  let c0_i32_312 : BitVec 32 := 0#32
  let c0_i32_313 : BitVec 32 := 0#32
  ![v20.toNat, v559.toNat, 0, 0]
def k0_cond16 (i : grid0.Coords) (k0_t1 : Fin k0_t1_loop.trips) (v200 : BitVec 32) : BitVec 1 :=
  let c32_i32_118 : BitVec 32 := 32#32
  let v211 : BitVec 1 := Scalar.cmpi .sge v200 c32_i32_118
  let c41_i32_119 : BitVec 32 := 41#32
  let v212 : BitVec 1 := Scalar.cmpi .slt v200 c41_i32_119
  let v213 : BitVec 1 := Scalar.andi v211 v212
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v205 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v206 : BitVec 1 := Scalar.cmpi .slt arg13 v29
  let v207 : BitVec 1 := Scalar.andi v205 v206
  let v214 : BitVec 1 := Scalar.andi v213 v207
  let v219 : BitVec 32 := Scalar.extui v214
  let c0_i32_122 : BitVec 32 := 0#32
  let v220 : BitVec 1 := Scalar.cmpi .ne v219 c0_i32_122
  v220

def k0_off35 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_113 : BitVec 32 := 16#32
  let v201 : BitVec 32 := Scalar.muli arg13 c16_i32_113
  let c4_i32_114 : BitVec 32 := 4#32
  let v202 : BitVec 32 := Scalar.addi v201 c4_i32_114
  let v560 : BitVec 32 := Scalar.addi v21 v202
  let c0_i32_309 : BitVec 32 := 0#32
  let c0_i32_310 : BitVec 32 := 0#32
  ![v560.toNat, 0, 0]
def k0_off36 (i : grid0.Coords) (v200 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v200
  let c0_i32_311 : BitVec 32 := 0#32
  let c0_i32_312 : BitVec 32 := 0#32
  ![v559.toNat, 0, 0]
def k0_cond17 (i : grid0.Coords) (k0_t1 : Fin k0_t1_loop.trips) (v200 : BitVec 32) : BitVec 1 :=
  let c41_i32_120 : BitVec 32 := 41#32
  let v215 : BitVec 1 := Scalar.cmpi .sge v200 c41_i32_120
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v205 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v206 : BitVec 1 := Scalar.cmpi .slt arg13 v29
  let v207 : BitVec 1 := Scalar.andi v205 v206
  let v216 : BitVec 1 := Scalar.andi v215 v207
  let v221 : BitVec 32 := Scalar.extui v216
  let c0_i32_123 : BitVec 32 := 0#32
  let v222 : BitVec 1 := Scalar.cmpi .ne v221 c0_i32_123
  v222

def k0_chk5 (i : grid0.Coords) (k0_t1 : Fin k0_t1_loop.trips) (v200 : BitVec 32) : Prop :=
  (∀ (k0_h15 : k0_cond15 i v200 = 1#1), ∀ a, (k0_off31 i v200) a + S1x16x768.size a ≤ S8x16x768.size a) ∧
  (∀ (k0_h16 : k0_cond16 i k0_t1 v200 = 1#1), ∀ a, (k0_off34 i v200) a + S1x1x16x768.size a ≤ S4x9x16x768.size a) ∧
  (∀ (k0_h17 : k0_cond17 i k0_t1 v200 = 1#1), ∀ a, (k0_off36 i v200) a + S1x16x768.size a ≤ S392x16x768.size a)
theorem k0_off31_inb : ∀ (i : grid0.Coords) (k0_t1 : Fin k0_t1_loop.trips) (v200 : BitVec 32) (k0_hw5 : k0_chk5 i k0_t1 v200), ∀ (k0_h15 : k0_cond15 i v200 = 1#1), ∀ a, (k0_off31 i v200) a + S1x16x768.size a ≤ S8x16x768.size a := fun i k0_t1 v200 k0_hw5 k0_h15 => k0_hw5.1 k0_h15
theorem k0_off34_inb : ∀ (i : grid0.Coords) (k0_t1 : Fin k0_t1_loop.trips) (v200 : BitVec 32) (k0_hw5 : k0_chk5 i k0_t1 v200), ∀ (k0_h16 : k0_cond16 i k0_t1 v200 = 1#1), ∀ a, (k0_off34 i v200) a + S1x1x16x768.size a ≤ S4x9x16x768.size a := fun i k0_t1 v200 k0_hw5 k0_h16 => k0_hw5.2.1 k0_h16
theorem k0_off36_inb : ∀ (i : grid0.Coords) (k0_t1 : Fin k0_t1_loop.trips) (v200 : BitVec 32) (k0_hw5 : k0_chk5 i k0_t1 v200), ∀ (k0_h17 : k0_cond17 i k0_t1 v200 = 1#1), ∀ a, (k0_off36 i v200) a + S1x16x768.size a ≤ S392x16x768.size a := fun i k0_t1 v200 k0_hw5 k0_h17 => k0_hw5.2.2 k0_h17

def k0_off37 (i : grid0.Coords) (v230 : BitVec 32) : Fin 3 → Nat :=
  let c8_i32_131 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v233 : BitVec 32 := Scalar.muli c8_i32_131 v19
  let v234 : BitVec 32 := Scalar.subi v230 v233
  let c0_i32_309 : BitVec 32 := 0#32
  let c0_i32_310 : BitVec 32 := 0#32
  ![v234.toNat, 0, 0]
def k0_cond18 (i : grid0.Coords) (v230 : BitVec 32) : BitVec 1 :=
  let c8_i32_131 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v233 : BitVec 32 := Scalar.muli c8_i32_131 v19
  let v234 : BitVec 32 := Scalar.subi v230 v233
  let c0_i32_132 : BitVec 32 := 0#32
  let v238 : BitVec 1 := Scalar.cmpi .sge v234 c0_i32_132
  let c8_i32_133 : BitVec 32 := 8#32
  let v239 : BitVec 1 := Scalar.cmpi .slt v234 c8_i32_133
  let v240 : BitVec 1 := Scalar.andi v238 v239
  let v247 : BitVec 32 := Scalar.extui v240
  let c0_i32_137 : BitVec 32 := 0#32
  let v248 : BitVec 1 := Scalar.cmpi .ne v247 c0_i32_137
  v248

def k0_off38 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_130 : BitVec 32 := 16#32
  let v231 : BitVec 32 := Scalar.muli arg13 c16_i32_130
  let c5_i32 : BitVec 32 := 5#32
  let v232 : BitVec 32 := Scalar.addi v231 c5_i32
  let v559 : BitVec 32 := Scalar.addi v21 v232
  let c0_i32_311 : BitVec 32 := 0#32
  let c0_i32_312 : BitVec 32 := 0#32
  ![v559.toNat, 0, 0]
def k0_off39 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_130 : BitVec 32 := 16#32
  let v231 : BitVec 32 := Scalar.muli arg13 c16_i32_130
  let c5_i32 : BitVec 32 := 5#32
  let v232 : BitVec 32 := Scalar.addi v231 c5_i32
  let v560 : BitVec 32 := Scalar.addi v21 v232
  let c0_i32_310 : BitVec 32 := 0#32
  let c0_i32_311 : BitVec 32 := 0#32
  ![v560.toNat, 0, 0]
def k0_off40 (i : grid0.Coords) (v230 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v230 c32_i32_309
  let c0_i32_312 : BitVec 32 := 0#32
  let c0_i32_313 : BitVec 32 := 0#32
  ![v20.toNat, v559.toNat, 0, 0]
def k0_cond19 (i : grid0.Coords) (k0_t1 : Fin k0_t1_loop.trips) (v230 : BitVec 32) : BitVec 1 :=
  let c32_i32_134 : BitVec 32 := 32#32
  let v241 : BitVec 1 := Scalar.cmpi .sge v230 c32_i32_134
  let c41_i32_135 : BitVec 32 := 41#32
  let v242 : BitVec 1 := Scalar.cmpi .slt v230 c41_i32_135
  let v243 : BitVec 1 := Scalar.andi v241 v242
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v235 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v236 : BitVec 1 := Scalar.cmpi .slt arg13 v29
  let v237 : BitVec 1 := Scalar.andi v235 v236
  let v244 : BitVec 1 := Scalar.andi v243 v237
  let v249 : BitVec 32 := Scalar.extui v244
  let c0_i32_138 : BitVec 32 := 0#32
  let v250 : BitVec 1 := Scalar.cmpi .ne v249 c0_i32_138
  v250

def k0_off41 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_130 : BitVec 32 := 16#32
  let v231 : BitVec 32 := Scalar.muli arg13 c16_i32_130
  let c5_i32 : BitVec 32 := 5#32
  let v232 : BitVec 32 := Scalar.addi v231 c5_i32
  let v560 : BitVec 32 := Scalar.addi v21 v232
  let c0_i32_309 : BitVec 32 := 0#32
  let c0_i32_310 : BitVec 32 := 0#32
  ![v560.toNat, 0, 0]
def k0_off42 (i : grid0.Coords) (v230 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v230
  let c0_i32_311 : BitVec 32 := 0#32
  let c0_i32_312 : BitVec 32 := 0#32
  ![v559.toNat, 0, 0]
def k0_cond20 (i : grid0.Coords) (k0_t1 : Fin k0_t1_loop.trips) (v230 : BitVec 32) : BitVec 1 :=
  let c41_i32_136 : BitVec 32 := 41#32
  let v245 : BitVec 1 := Scalar.cmpi .sge v230 c41_i32_136
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v235 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v236 : BitVec 1 := Scalar.cmpi .slt arg13 v29
  let v237 : BitVec 1 := Scalar.andi v235 v236
  let v246 : BitVec 1 := Scalar.andi v245 v237
  let v251 : BitVec 32 := Scalar.extui v246
  let c0_i32_139 : BitVec 32 := 0#32
  let v252 : BitVec 1 := Scalar.cmpi .ne v251 c0_i32_139
  v252

def k0_chk6 (i : grid0.Coords) (k0_t1 : Fin k0_t1_loop.trips) (v230 : BitVec 32) : Prop :=
  (∀ (k0_h18 : k0_cond18 i v230 = 1#1), ∀ a, (k0_off37 i v230) a + S1x16x768.size a ≤ S8x16x768.size a) ∧
  (∀ (k0_h19 : k0_cond19 i k0_t1 v230 = 1#1), ∀ a, (k0_off40 i v230) a + S1x1x16x768.size a ≤ S4x9x16x768.size a) ∧
  (∀ (k0_h20 : k0_cond20 i k0_t1 v230 = 1#1), ∀ a, (k0_off42 i v230) a + S1x16x768.size a ≤ S392x16x768.size a)
theorem k0_off37_inb : ∀ (i : grid0.Coords) (k0_t1 : Fin k0_t1_loop.trips) (v230 : BitVec 32) (k0_hw6 : k0_chk6 i k0_t1 v230), ∀ (k0_h18 : k0_cond18 i v230 = 1#1), ∀ a, (k0_off37 i v230) a + S1x16x768.size a ≤ S8x16x768.size a := fun i k0_t1 v230 k0_hw6 k0_h18 => k0_hw6.1 k0_h18
theorem k0_off40_inb : ∀ (i : grid0.Coords) (k0_t1 : Fin k0_t1_loop.trips) (v230 : BitVec 32) (k0_hw6 : k0_chk6 i k0_t1 v230), ∀ (k0_h19 : k0_cond19 i k0_t1 v230 = 1#1), ∀ a, (k0_off40 i v230) a + S1x1x16x768.size a ≤ S4x9x16x768.size a := fun i k0_t1 v230 k0_hw6 k0_h19 => k0_hw6.2.1 k0_h19
theorem k0_off42_inb : ∀ (i : grid0.Coords) (k0_t1 : Fin k0_t1_loop.trips) (v230 : BitVec 32) (k0_hw6 : k0_chk6 i k0_t1 v230), ∀ (k0_h20 : k0_cond20 i k0_t1 v230 = 1#1), ∀ a, (k0_off42 i v230) a + S1x16x768.size a ≤ S392x16x768.size a := fun i k0_t1 v230 k0_hw6 k0_h20 => k0_hw6.2.2 k0_h20

def k0_off43 (i : grid0.Coords) (v260 : BitVec 32) : Fin 3 → Nat :=
  let c8_i32_148 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v263 : BitVec 32 := Scalar.muli c8_i32_148 v19
  let v264 : BitVec 32 := Scalar.subi v260 v263
  let c0_i32_309 : BitVec 32 := 0#32
  let c0_i32_310 : BitVec 32 := 0#32
  ![v264.toNat, 0, 0]
def k0_cond21 (i : grid0.Coords) (v260 : BitVec 32) : BitVec 1 :=
  let c8_i32_148 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v263 : BitVec 32 := Scalar.muli c8_i32_148 v19
  let v264 : BitVec 32 := Scalar.subi v260 v263
  let c0_i32_149 : BitVec 32 := 0#32
  let v268 : BitVec 1 := Scalar.cmpi .sge v264 c0_i32_149
  let c8_i32_150 : BitVec 32 := 8#32
  let v269 : BitVec 1 := Scalar.cmpi .slt v264 c8_i32_150
  let v270 : BitVec 1 := Scalar.andi v268 v269
  let v277 : BitVec 32 := Scalar.extui v270
  let c0_i32_154 : BitVec 32 := 0#32
  let v278 : BitVec 1 := Scalar.cmpi .ne v277 c0_i32_154
  v278

def k0_off44 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_146 : BitVec 32 := 16#32
  let v261 : BitVec 32 := Scalar.muli arg13 c16_i32_146
  let c6_i32_147 : BitVec 32 := 6#32
  let v262 : BitVec 32 := Scalar.addi v261 c6_i32_147
  let v559 : BitVec 32 := Scalar.addi v21 v262
  let c0_i32_311 : BitVec 32 := 0#32
  let c0_i32_312 : BitVec 32 := 0#32
  ![v559.toNat, 0, 0]
def k0_off45 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_146 : BitVec 32 := 16#32
  let v261 : BitVec 32 := Scalar.muli arg13 c16_i32_146
  let c6_i32_147 : BitVec 32 := 6#32
  let v262 : BitVec 32 := Scalar.addi v261 c6_i32_147
  let v560 : BitVec 32 := Scalar.addi v21 v262
  let c0_i32_310 : BitVec 32 := 0#32
  let c0_i32_311 : BitVec 32 := 0#32
  ![v560.toNat, 0, 0]
def k0_off46 (i : grid0.Coords) (v260 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v260 c32_i32_309
  let c0_i32_312 : BitVec 32 := 0#32
  let c0_i32_313 : BitVec 32 := 0#32
  ![v20.toNat, v559.toNat, 0, 0]
def k0_cond22 (i : grid0.Coords) (k0_t1 : Fin k0_t1_loop.trips) (v260 : BitVec 32) : BitVec 1 :=
  let c32_i32_151 : BitVec 32 := 32#32
  let v271 : BitVec 1 := Scalar.cmpi .sge v260 c32_i32_151
  let c41_i32_152 : BitVec 32 := 41#32
  let v272 : BitVec 1 := Scalar.cmpi .slt v260 c41_i32_152
  let v273 : BitVec 1 := Scalar.andi v271 v272
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v265 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v266 : BitVec 1 := Scalar.cmpi .slt arg13 v29
  let v267 : BitVec 1 := Scalar.andi v265 v266
  let v274 : BitVec 1 := Scalar.andi v273 v267
  let v279 : BitVec 32 := Scalar.extui v274
  let c0_i32_155 : BitVec 32 := 0#32
  let v280 : BitVec 1 := Scalar.cmpi .ne v279 c0_i32_155
  v280

def k0_off47 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_146 : BitVec 32 := 16#32
  let v261 : BitVec 32 := Scalar.muli arg13 c16_i32_146
  let c6_i32_147 : BitVec 32 := 6#32
  let v262 : BitVec 32 := Scalar.addi v261 c6_i32_147
  let v560 : BitVec 32 := Scalar.addi v21 v262
  let c0_i32_309 : BitVec 32 := 0#32
  let c0_i32_310 : BitVec 32 := 0#32
  ![v560.toNat, 0, 0]
def k0_off48 (i : grid0.Coords) (v260 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v260
  let c0_i32_311 : BitVec 32 := 0#32
  let c0_i32_312 : BitVec 32 := 0#32
  ![v559.toNat, 0, 0]
def k0_cond23 (i : grid0.Coords) (k0_t1 : Fin k0_t1_loop.trips) (v260 : BitVec 32) : BitVec 1 :=
  let c41_i32_153 : BitVec 32 := 41#32
  let v275 : BitVec 1 := Scalar.cmpi .sge v260 c41_i32_153
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v265 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v266 : BitVec 1 := Scalar.cmpi .slt arg13 v29
  let v267 : BitVec 1 := Scalar.andi v265 v266
  let v276 : BitVec 1 := Scalar.andi v275 v267
  let v281 : BitVec 32 := Scalar.extui v276
  let c0_i32_156 : BitVec 32 := 0#32
  let v282 : BitVec 1 := Scalar.cmpi .ne v281 c0_i32_156
  v282

def k0_chk7 (i : grid0.Coords) (k0_t1 : Fin k0_t1_loop.trips) (v260 : BitVec 32) : Prop :=
  (∀ (k0_h21 : k0_cond21 i v260 = 1#1), ∀ a, (k0_off43 i v260) a + S1x16x768.size a ≤ S8x16x768.size a) ∧
  (∀ (k0_h22 : k0_cond22 i k0_t1 v260 = 1#1), ∀ a, (k0_off46 i v260) a + S1x1x16x768.size a ≤ S4x9x16x768.size a) ∧
  (∀ (k0_h23 : k0_cond23 i k0_t1 v260 = 1#1), ∀ a, (k0_off48 i v260) a + S1x16x768.size a ≤ S392x16x768.size a)
theorem k0_off43_inb : ∀ (i : grid0.Coords) (k0_t1 : Fin k0_t1_loop.trips) (v260 : BitVec 32) (k0_hw7 : k0_chk7 i k0_t1 v260), ∀ (k0_h21 : k0_cond21 i v260 = 1#1), ∀ a, (k0_off43 i v260) a + S1x16x768.size a ≤ S8x16x768.size a := fun i k0_t1 v260 k0_hw7 k0_h21 => k0_hw7.1 k0_h21
theorem k0_off46_inb : ∀ (i : grid0.Coords) (k0_t1 : Fin k0_t1_loop.trips) (v260 : BitVec 32) (k0_hw7 : k0_chk7 i k0_t1 v260), ∀ (k0_h22 : k0_cond22 i k0_t1 v260 = 1#1), ∀ a, (k0_off46 i v260) a + S1x1x16x768.size a ≤ S4x9x16x768.size a := fun i k0_t1 v260 k0_hw7 k0_h22 => k0_hw7.2.1 k0_h22
theorem k0_off48_inb : ∀ (i : grid0.Coords) (k0_t1 : Fin k0_t1_loop.trips) (v260 : BitVec 32) (k0_hw7 : k0_chk7 i k0_t1 v260), ∀ (k0_h23 : k0_cond23 i k0_t1 v260 = 1#1), ∀ a, (k0_off48 i v260) a + S1x16x768.size a ≤ S392x16x768.size a := fun i k0_t1 v260 k0_hw7 k0_h23 => k0_hw7.2.2 k0_h23

def k0_off49 (i : grid0.Coords) (v290 : BitVec 32) : Fin 3 → Nat :=
  let c8_i32_165 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v293 : BitVec 32 := Scalar.muli c8_i32_165 v19
  let v294 : BitVec 32 := Scalar.subi v290 v293
  let c0_i32_309 : BitVec 32 := 0#32
  let c0_i32_310 : BitVec 32 := 0#32
  ![v294.toNat, 0, 0]
def k0_cond24 (i : grid0.Coords) (v290 : BitVec 32) : BitVec 1 :=
  let c8_i32_165 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v293 : BitVec 32 := Scalar.muli c8_i32_165 v19
  let v294 : BitVec 32 := Scalar.subi v290 v293
  let c0_i32_166 : BitVec 32 := 0#32
  let v298 : BitVec 1 := Scalar.cmpi .sge v294 c0_i32_166
  let c8_i32_167 : BitVec 32 := 8#32
  let v299 : BitVec 1 := Scalar.cmpi .slt v294 c8_i32_167
  let v300 : BitVec 1 := Scalar.andi v298 v299
  let v307 : BitVec 32 := Scalar.extui v300
  let c0_i32_171 : BitVec 32 := 0#32
  let v308 : BitVec 1 := Scalar.cmpi .ne v307 c0_i32_171
  v308

def k0_off50 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_163 : BitVec 32 := 16#32
  let v291 : BitVec 32 := Scalar.muli arg13 c16_i32_163
  let c7_i32_164 : BitVec 32 := 7#32
  let v292 : BitVec 32 := Scalar.addi v291 c7_i32_164
  let v559 : BitVec 32 := Scalar.addi v21 v292
  let c0_i32_311 : BitVec 32 := 0#32
  let c0_i32_312 : BitVec 32 := 0#32
  ![v559.toNat, 0, 0]
def k0_off51 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_163 : BitVec 32 := 16#32
  let v291 : BitVec 32 := Scalar.muli arg13 c16_i32_163
  let c7_i32_164 : BitVec 32 := 7#32
  let v292 : BitVec 32 := Scalar.addi v291 c7_i32_164
  let v560 : BitVec 32 := Scalar.addi v21 v292
  let c0_i32_310 : BitVec 32 := 0#32
  let c0_i32_311 : BitVec 32 := 0#32
  ![v560.toNat, 0, 0]
def k0_off52 (i : grid0.Coords) (v290 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v290 c32_i32_309
  let c0_i32_312 : BitVec 32 := 0#32
  let c0_i32_313 : BitVec 32 := 0#32
  ![v20.toNat, v559.toNat, 0, 0]
def k0_cond25 (i : grid0.Coords) (k0_t1 : Fin k0_t1_loop.trips) (v290 : BitVec 32) : BitVec 1 :=
  let c32_i32_168 : BitVec 32 := 32#32
  let v301 : BitVec 1 := Scalar.cmpi .sge v290 c32_i32_168
  let c41_i32_169 : BitVec 32 := 41#32
  let v302 : BitVec 1 := Scalar.cmpi .slt v290 c41_i32_169
  let v303 : BitVec 1 := Scalar.andi v301 v302
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v295 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v296 : BitVec 1 := Scalar.cmpi .slt arg13 v29
  let v297 : BitVec 1 := Scalar.andi v295 v296
  let v304 : BitVec 1 := Scalar.andi v303 v297
  let v309 : BitVec 32 := Scalar.extui v304
  let c0_i32_172 : BitVec 32 := 0#32
  let v310 : BitVec 1 := Scalar.cmpi .ne v309 c0_i32_172
  v310

def k0_off53 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_163 : BitVec 32 := 16#32
  let v291 : BitVec 32 := Scalar.muli arg13 c16_i32_163
  let c7_i32_164 : BitVec 32 := 7#32
  let v292 : BitVec 32 := Scalar.addi v291 c7_i32_164
  let v560 : BitVec 32 := Scalar.addi v21 v292
  let c0_i32_309 : BitVec 32 := 0#32
  let c0_i32_310 : BitVec 32 := 0#32
  ![v560.toNat, 0, 0]
def k0_off54 (i : grid0.Coords) (v290 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v290
  let c0_i32_311 : BitVec 32 := 0#32
  let c0_i32_312 : BitVec 32 := 0#32
  ![v559.toNat, 0, 0]
def k0_cond26 (i : grid0.Coords) (k0_t1 : Fin k0_t1_loop.trips) (v290 : BitVec 32) : BitVec 1 :=
  let c41_i32_170 : BitVec 32 := 41#32
  let v305 : BitVec 1 := Scalar.cmpi .sge v290 c41_i32_170
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v295 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v296 : BitVec 1 := Scalar.cmpi .slt arg13 v29
  let v297 : BitVec 1 := Scalar.andi v295 v296
  let v306 : BitVec 1 := Scalar.andi v305 v297
  let v311 : BitVec 32 := Scalar.extui v306
  let c0_i32_173 : BitVec 32 := 0#32
  let v312 : BitVec 1 := Scalar.cmpi .ne v311 c0_i32_173
  v312

def k0_chk8 (i : grid0.Coords) (k0_t1 : Fin k0_t1_loop.trips) (v290 : BitVec 32) : Prop :=
  (∀ (k0_h24 : k0_cond24 i v290 = 1#1), ∀ a, (k0_off49 i v290) a + S1x16x768.size a ≤ S8x16x768.size a) ∧
  (∀ (k0_h25 : k0_cond25 i k0_t1 v290 = 1#1), ∀ a, (k0_off52 i v290) a + S1x1x16x768.size a ≤ S4x9x16x768.size a) ∧
  (∀ (k0_h26 : k0_cond26 i k0_t1 v290 = 1#1), ∀ a, (k0_off54 i v290) a + S1x16x768.size a ≤ S392x16x768.size a)
theorem k0_off49_inb : ∀ (i : grid0.Coords) (k0_t1 : Fin k0_t1_loop.trips) (v290 : BitVec 32) (k0_hw8 : k0_chk8 i k0_t1 v290), ∀ (k0_h24 : k0_cond24 i v290 = 1#1), ∀ a, (k0_off49 i v290) a + S1x16x768.size a ≤ S8x16x768.size a := fun i k0_t1 v290 k0_hw8 k0_h24 => k0_hw8.1 k0_h24
theorem k0_off52_inb : ∀ (i : grid0.Coords) (k0_t1 : Fin k0_t1_loop.trips) (v290 : BitVec 32) (k0_hw8 : k0_chk8 i k0_t1 v290), ∀ (k0_h25 : k0_cond25 i k0_t1 v290 = 1#1), ∀ a, (k0_off52 i v290) a + S1x1x16x768.size a ≤ S4x9x16x768.size a := fun i k0_t1 v290 k0_hw8 k0_h25 => k0_hw8.2.1 k0_h25
theorem k0_off54_inb : ∀ (i : grid0.Coords) (k0_t1 : Fin k0_t1_loop.trips) (v290 : BitVec 32) (k0_hw8 : k0_chk8 i k0_t1 v290), ∀ (k0_h26 : k0_cond26 i k0_t1 v290 = 1#1), ∀ a, (k0_off54 i v290) a + S1x16x768.size a ≤ S392x16x768.size a := fun i k0_t1 v290 k0_hw8 k0_h26 => k0_hw8.2.2 k0_h26

def k0_off55 (i : grid0.Coords) (v320 : BitVec 32) : Fin 3 → Nat :=
  let c8_i32_182 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v323 : BitVec 32 := Scalar.muli c8_i32_182 v19
  let v324 : BitVec 32 := Scalar.subi v320 v323
  let c0_i32_309 : BitVec 32 := 0#32
  let c0_i32_310 : BitVec 32 := 0#32
  ![v324.toNat, 0, 0]
def k0_cond27 (i : grid0.Coords) (v320 : BitVec 32) : BitVec 1 :=
  let c8_i32_182 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v323 : BitVec 32 := Scalar.muli c8_i32_182 v19
  let v324 : BitVec 32 := Scalar.subi v320 v323
  let c0_i32_183 : BitVec 32 := 0#32
  let v328 : BitVec 1 := Scalar.cmpi .sge v324 c0_i32_183
  let c8_i32_184 : BitVec 32 := 8#32
  let v329 : BitVec 1 := Scalar.cmpi .slt v324 c8_i32_184
  let v330 : BitVec 1 := Scalar.andi v328 v329
  let v337 : BitVec 32 := Scalar.extui v330
  let c0_i32_188 : BitVec 32 := 0#32
  let v338 : BitVec 1 := Scalar.cmpi .ne v337 c0_i32_188
  v338

def k0_off56 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_180 : BitVec 32 := 16#32
  let v321 : BitVec 32 := Scalar.muli arg13 c16_i32_180
  let c8_i32_181 : BitVec 32 := 8#32
  let v322 : BitVec 32 := Scalar.addi v321 c8_i32_181
  let v559 : BitVec 32 := Scalar.addi v21 v322
  let c0_i32_311 : BitVec 32 := 0#32
  let c0_i32_312 : BitVec 32 := 0#32
  ![v559.toNat, 0, 0]
def k0_off57 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_180 : BitVec 32 := 16#32
  let v321 : BitVec 32 := Scalar.muli arg13 c16_i32_180
  let c8_i32_181 : BitVec 32 := 8#32
  let v322 : BitVec 32 := Scalar.addi v321 c8_i32_181
  let v560 : BitVec 32 := Scalar.addi v21 v322
  let c0_i32_310 : BitVec 32 := 0#32
  let c0_i32_311 : BitVec 32 := 0#32
  ![v560.toNat, 0, 0]
def k0_cond28 (i : grid0.Coords) (k0_t1 : Fin k0_t1_loop.trips) (v320 : BitVec 32) : BitVec 1 :=
  let c32_i32_185 : BitVec 32 := 32#32
  let v331 : BitVec 1 := Scalar.cmpi .sge v320 c32_i32_185
  let c41_i32_186 : BitVec 32 := 41#32
  let v332 : BitVec 1 := Scalar.cmpi .slt v320 c41_i32_186
  let v333 : BitVec 1 := Scalar.andi v331 v332
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v325 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v326 : BitVec 1 := Scalar.cmpi .slt arg13 v29
  let v327 : BitVec 1 := Scalar.andi v325 v326
  let v334 : BitVec 1 := Scalar.andi v333 v327
  let v339 : BitVec 32 := Scalar.extui v334
  let c0_i32_189 : BitVec 32 := 0#32
  let v340 : BitVec 1 := Scalar.cmpi .ne v339 c0_i32_189
  v340

def k0_off58 (i : grid0.Coords) (v320 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v320 c32_i32_309
  let c0_i32_312 : BitVec 32 := 0#32
  let c0_i32_313 : BitVec 32 := 0#32
  ![v20.toNat, v559.toNat, 0, 0]
def k0_off59 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_180 : BitVec 32 := 16#32
  let v321 : BitVec 32 := Scalar.muli arg13 c16_i32_180
  let c8_i32_181 : BitVec 32 := 8#32
  let v322 : BitVec 32 := Scalar.addi v321 c8_i32_181
  let v560 : BitVec 32 := Scalar.addi v21 v322
  let c0_i32_309 : BitVec 32 := 0#32
  let c0_i32_310 : BitVec 32 := 0#32
  ![v560.toNat, 0, 0]
def k0_cond29 (i : grid0.Coords) (k0_t1 : Fin k0_t1_loop.trips) (v320 : BitVec 32) : BitVec 1 :=
  let c41_i32_187 : BitVec 32 := 41#32
  let v335 : BitVec 1 := Scalar.cmpi .sge v320 c41_i32_187
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v325 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v326 : BitVec 1 := Scalar.cmpi .slt arg13 v29
  let v327 : BitVec 1 := Scalar.andi v325 v326
  let v336 : BitVec 1 := Scalar.andi v335 v327
  let v341 : BitVec 32 := Scalar.extui v336
  let c0_i32_190 : BitVec 32 := 0#32
  let v342 : BitVec 1 := Scalar.cmpi .ne v341 c0_i32_190
  v342

def k0_off60 (i : grid0.Coords) (v320 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v320
  let c0_i32_311 : BitVec 32 := 0#32
  let c0_i32_312 : BitVec 32 := 0#32
  ![v559.toNat, 0, 0]

def k0_chk9 (i : grid0.Coords) (k0_t1 : Fin k0_t1_loop.trips) (v320 : BitVec 32) : Prop :=
  (∀ (k0_h27 : k0_cond27 i v320 = 1#1), ∀ a, (k0_off55 i v320) a + S1x16x768.size a ≤ S8x16x768.size a) ∧
  (∀ (k0_h27 : k0_cond27 i v320 = 1#1), ∀ a, (k0_off56 i k0_t1) a + S1x16x768.size a ≤ S3136x16x768.size a) ∧
  (∀ (k0_h28 : k0_cond28 i k0_t1 v320 = 1#1), ∀ a, (k0_off57 i k0_t1) a + S1x16x768.size a ≤ S3136x16x768.size a) ∧
  (∀ (k0_h28 : k0_cond28 i k0_t1 v320 = 1#1), ∀ a, (k0_off58 i v320) a + S1x1x16x768.size a ≤ S4x9x16x768.size a) ∧
  (∀ (k0_h29 : k0_cond29 i k0_t1 v320 = 1#1), ∀ a, (k0_off59 i k0_t1) a + S1x16x768.size a ≤ S3136x16x768.size a) ∧
  (∀ (k0_h29 : k0_cond29 i k0_t1 v320 = 1#1), ∀ a, (k0_off60 i v320) a + S1x16x768.size a ≤ S392x16x768.size a)
theorem k0_off55_inb : ∀ (i : grid0.Coords) (k0_t1 : Fin k0_t1_loop.trips) (v320 : BitVec 32) (k0_hw9 : k0_chk9 i k0_t1 v320), ∀ (k0_h27 : k0_cond27 i v320 = 1#1), ∀ a, (k0_off55 i v320) a + S1x16x768.size a ≤ S8x16x768.size a := fun i k0_t1 v320 k0_hw9 k0_h27 => k0_hw9.1 k0_h27
theorem k0_off56_inb : ∀ (i : grid0.Coords) (k0_t1 : Fin k0_t1_loop.trips) (v320 : BitVec 32) (k0_hw9 : k0_chk9 i k0_t1 v320), ∀ (k0_h27 : k0_cond27 i v320 = 1#1), ∀ a, (k0_off56 i k0_t1) a + S1x16x768.size a ≤ S3136x16x768.size a := fun i k0_t1 v320 k0_hw9 k0_h27 => k0_hw9.2.1 k0_h27
theorem k0_off57_inb : ∀ (i : grid0.Coords) (k0_t1 : Fin k0_t1_loop.trips) (v320 : BitVec 32) (k0_hw9 : k0_chk9 i k0_t1 v320), ∀ (k0_h28 : k0_cond28 i k0_t1 v320 = 1#1), ∀ a, (k0_off57 i k0_t1) a + S1x16x768.size a ≤ S3136x16x768.size a := fun i k0_t1 v320 k0_hw9 k0_h28 => k0_hw9.2.2.1 k0_h28
theorem k0_off58_inb : ∀ (i : grid0.Coords) (k0_t1 : Fin k0_t1_loop.trips) (v320 : BitVec 32) (k0_hw9 : k0_chk9 i k0_t1 v320), ∀ (k0_h28 : k0_cond28 i k0_t1 v320 = 1#1), ∀ a, (k0_off58 i v320) a + S1x1x16x768.size a ≤ S4x9x16x768.size a := fun i k0_t1 v320 k0_hw9 k0_h28 => k0_hw9.2.2.2.1 k0_h28
theorem k0_off59_inb : ∀ (i : grid0.Coords) (k0_t1 : Fin k0_t1_loop.trips) (v320 : BitVec 32) (k0_hw9 : k0_chk9 i k0_t1 v320), ∀ (k0_h29 : k0_cond29 i k0_t1 v320 = 1#1), ∀ a, (k0_off59 i k0_t1) a + S1x16x768.size a ≤ S3136x16x768.size a := fun i k0_t1 v320 k0_hw9 k0_h29 => k0_hw9.2.2.2.2.1 k0_h29
theorem k0_off60_inb : ∀ (i : grid0.Coords) (k0_t1 : Fin k0_t1_loop.trips) (v320 : BitVec 32) (k0_hw9 : k0_chk9 i k0_t1 v320), ∀ (k0_h29 : k0_cond29 i k0_t1 v320 = 1#1), ∀ a, (k0_off60 i v320) a + S1x16x768.size a ≤ S392x16x768.size a := fun i k0_t1 v320 k0_hw9 k0_h29 => k0_hw9.2.2.2.2.2 k0_h29

def k0_off61 (i : grid0.Coords) (v350 : BitVec 32) : Fin 3 → Nat :=
  let c8_i32_198 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v353 : BitVec 32 := Scalar.muli c8_i32_198 v19
  let v354 : BitVec 32 := Scalar.subi v350 v353
  let c0_i32_309 : BitVec 32 := 0#32
  let c0_i32_310 : BitVec 32 := 0#32
  ![v354.toNat, 0, 0]
def k0_cond30 (i : grid0.Coords) (v350 : BitVec 32) : BitVec 1 :=
  let c8_i32_198 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v353 : BitVec 32 := Scalar.muli c8_i32_198 v19
  let v354 : BitVec 32 := Scalar.subi v350 v353
  let c0_i32_199 : BitVec 32 := 0#32
  let v358 : BitVec 1 := Scalar.cmpi .sge v354 c0_i32_199
  let c8_i32_200 : BitVec 32 := 8#32
  let v359 : BitVec 1 := Scalar.cmpi .slt v354 c8_i32_200
  let v360 : BitVec 1 := Scalar.andi v358 v359
  let v367 : BitVec 32 := Scalar.extui v360
  let c0_i32_204 : BitVec 32 := 0#32
  let v368 : BitVec 1 := Scalar.cmpi .ne v367 c0_i32_204
  v368

def k0_off62 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_197 : BitVec 32 := 16#32
  let v351 : BitVec 32 := Scalar.muli arg13 c16_i32_197
  let c9_i32 : BitVec 32 := 9#32
  let v352 : BitVec 32 := Scalar.addi v351 c9_i32
  let v559 : BitVec 32 := Scalar.addi v21 v352
  let c0_i32_311 : BitVec 32 := 0#32
  let c0_i32_312 : BitVec 32 := 0#32
  ![v559.toNat, 0, 0]
def k0_off63 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_197 : BitVec 32 := 16#32
  let v351 : BitVec 32 := Scalar.muli arg13 c16_i32_197
  let c9_i32 : BitVec 32 := 9#32
  let v352 : BitVec 32 := Scalar.addi v351 c9_i32
  let v560 : BitVec 32 := Scalar.addi v21 v352
  let c0_i32_310 : BitVec 32 := 0#32
  let c0_i32_311 : BitVec 32 := 0#32
  ![v560.toNat, 0, 0]
def k0_cond31 (i : grid0.Coords) (k0_t1 : Fin k0_t1_loop.trips) (v350 : BitVec 32) : BitVec 1 :=
  let c32_i32_201 : BitVec 32 := 32#32
  let v361 : BitVec 1 := Scalar.cmpi .sge v350 c32_i32_201
  let c41_i32_202 : BitVec 32 := 41#32
  let v362 : BitVec 1 := Scalar.cmpi .slt v350 c41_i32_202
  let v363 : BitVec 1 := Scalar.andi v361 v362
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v355 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v356 : BitVec 1 := Scalar.cmpi .slt arg13 v29
  let v357 : BitVec 1 := Scalar.andi v355 v356
  let v364 : BitVec 1 := Scalar.andi v363 v357
  let v369 : BitVec 32 := Scalar.extui v364
  let c0_i32_205 : BitVec 32 := 0#32
  let v370 : BitVec 1 := Scalar.cmpi .ne v369 c0_i32_205
  v370

def k0_off64 (i : grid0.Coords) (v350 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v350 c32_i32_309
  let c0_i32_312 : BitVec 32 := 0#32
  let c0_i32_313 : BitVec 32 := 0#32
  ![v20.toNat, v559.toNat, 0, 0]
def k0_off65 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_197 : BitVec 32 := 16#32
  let v351 : BitVec 32 := Scalar.muli arg13 c16_i32_197
  let c9_i32 : BitVec 32 := 9#32
  let v352 : BitVec 32 := Scalar.addi v351 c9_i32
  let v560 : BitVec 32 := Scalar.addi v21 v352
  let c0_i32_309 : BitVec 32 := 0#32
  let c0_i32_310 : BitVec 32 := 0#32
  ![v560.toNat, 0, 0]
def k0_cond32 (i : grid0.Coords) (k0_t1 : Fin k0_t1_loop.trips) (v350 : BitVec 32) : BitVec 1 :=
  let c41_i32_203 : BitVec 32 := 41#32
  let v365 : BitVec 1 := Scalar.cmpi .sge v350 c41_i32_203
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v355 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v356 : BitVec 1 := Scalar.cmpi .slt arg13 v29
  let v357 : BitVec 1 := Scalar.andi v355 v356
  let v366 : BitVec 1 := Scalar.andi v365 v357
  let v371 : BitVec 32 := Scalar.extui v366
  let c0_i32_206 : BitVec 32 := 0#32
  let v372 : BitVec 1 := Scalar.cmpi .ne v371 c0_i32_206
  v372

def k0_off66 (i : grid0.Coords) (v350 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v350
  let c0_i32_311 : BitVec 32 := 0#32
  let c0_i32_312 : BitVec 32 := 0#32
  ![v559.toNat, 0, 0]

def k0_chk10 (i : grid0.Coords) (k0_t1 : Fin k0_t1_loop.trips) (v350 : BitVec 32) : Prop :=
  (∀ (k0_h30 : k0_cond30 i v350 = 1#1), ∀ a, (k0_off61 i v350) a + S1x16x768.size a ≤ S8x16x768.size a) ∧
  (∀ (k0_h30 : k0_cond30 i v350 = 1#1), ∀ a, (k0_off62 i k0_t1) a + S1x16x768.size a ≤ S3136x16x768.size a) ∧
  (∀ (k0_h31 : k0_cond31 i k0_t1 v350 = 1#1), ∀ a, (k0_off63 i k0_t1) a + S1x16x768.size a ≤ S3136x16x768.size a) ∧
  (∀ (k0_h31 : k0_cond31 i k0_t1 v350 = 1#1), ∀ a, (k0_off64 i v350) a + S1x1x16x768.size a ≤ S4x9x16x768.size a) ∧
  (∀ (k0_h32 : k0_cond32 i k0_t1 v350 = 1#1), ∀ a, (k0_off65 i k0_t1) a + S1x16x768.size a ≤ S3136x16x768.size a) ∧
  (∀ (k0_h32 : k0_cond32 i k0_t1 v350 = 1#1), ∀ a, (k0_off66 i v350) a + S1x16x768.size a ≤ S392x16x768.size a)
theorem k0_off61_inb : ∀ (i : grid0.Coords) (k0_t1 : Fin k0_t1_loop.trips) (v350 : BitVec 32) (k0_hw10 : k0_chk10 i k0_t1 v350), ∀ (k0_h30 : k0_cond30 i v350 = 1#1), ∀ a, (k0_off61 i v350) a + S1x16x768.size a ≤ S8x16x768.size a := fun i k0_t1 v350 k0_hw10 k0_h30 => k0_hw10.1 k0_h30
theorem k0_off62_inb : ∀ (i : grid0.Coords) (k0_t1 : Fin k0_t1_loop.trips) (v350 : BitVec 32) (k0_hw10 : k0_chk10 i k0_t1 v350), ∀ (k0_h30 : k0_cond30 i v350 = 1#1), ∀ a, (k0_off62 i k0_t1) a + S1x16x768.size a ≤ S3136x16x768.size a := fun i k0_t1 v350 k0_hw10 k0_h30 => k0_hw10.2.1 k0_h30
theorem k0_off63_inb : ∀ (i : grid0.Coords) (k0_t1 : Fin k0_t1_loop.trips) (v350 : BitVec 32) (k0_hw10 : k0_chk10 i k0_t1 v350), ∀ (k0_h31 : k0_cond31 i k0_t1 v350 = 1#1), ∀ a, (k0_off63 i k0_t1) a + S1x16x768.size a ≤ S3136x16x768.size a := fun i k0_t1 v350 k0_hw10 k0_h31 => k0_hw10.2.2.1 k0_h31
theorem k0_off64_inb : ∀ (i : grid0.Coords) (k0_t1 : Fin k0_t1_loop.trips) (v350 : BitVec 32) (k0_hw10 : k0_chk10 i k0_t1 v350), ∀ (k0_h31 : k0_cond31 i k0_t1 v350 = 1#1), ∀ a, (k0_off64 i v350) a + S1x1x16x768.size a ≤ S4x9x16x768.size a := fun i k0_t1 v350 k0_hw10 k0_h31 => k0_hw10.2.2.2.1 k0_h31
theorem k0_off65_inb : ∀ (i : grid0.Coords) (k0_t1 : Fin k0_t1_loop.trips) (v350 : BitVec 32) (k0_hw10 : k0_chk10 i k0_t1 v350), ∀ (k0_h32 : k0_cond32 i k0_t1 v350 = 1#1), ∀ a, (k0_off65 i k0_t1) a + S1x16x768.size a ≤ S3136x16x768.size a := fun i k0_t1 v350 k0_hw10 k0_h32 => k0_hw10.2.2.2.2.1 k0_h32
theorem k0_off66_inb : ∀ (i : grid0.Coords) (k0_t1 : Fin k0_t1_loop.trips) (v350 : BitVec 32) (k0_hw10 : k0_chk10 i k0_t1 v350), ∀ (k0_h32 : k0_cond32 i k0_t1 v350 = 1#1), ∀ a, (k0_off66 i v350) a + S1x16x768.size a ≤ S392x16x768.size a := fun i k0_t1 v350 k0_hw10 k0_h32 => k0_hw10.2.2.2.2.2 k0_h32

def k0_off67 (i : grid0.Coords) (v380 : BitVec 32) : Fin 3 → Nat :=
  let c8_i32_214 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v383 : BitVec 32 := Scalar.muli c8_i32_214 v19
  let v384 : BitVec 32 := Scalar.subi v380 v383
  let c0_i32_309 : BitVec 32 := 0#32
  let c0_i32_310 : BitVec 32 := 0#32
  ![v384.toNat, 0, 0]
def k0_cond33 (i : grid0.Coords) (v380 : BitVec 32) : BitVec 1 :=
  let c8_i32_214 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v383 : BitVec 32 := Scalar.muli c8_i32_214 v19
  let v384 : BitVec 32 := Scalar.subi v380 v383
  let c0_i32_215 : BitVec 32 := 0#32
  let v388 : BitVec 1 := Scalar.cmpi .sge v384 c0_i32_215
  let c8_i32_216 : BitVec 32 := 8#32
  let v389 : BitVec 1 := Scalar.cmpi .slt v384 c8_i32_216
  let v390 : BitVec 1 := Scalar.andi v388 v389
  let v397 : BitVec 32 := Scalar.extui v390
  let c0_i32_220 : BitVec 32 := 0#32
  let v398 : BitVec 1 := Scalar.cmpi .ne v397 c0_i32_220
  v398

def k0_off68 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_213 : BitVec 32 := 16#32
  let v381 : BitVec 32 := Scalar.muli arg13 c16_i32_213
  let c10_i32 : BitVec 32 := 10#32
  let v382 : BitVec 32 := Scalar.addi v381 c10_i32
  let v559 : BitVec 32 := Scalar.addi v21 v382
  let c0_i32_311 : BitVec 32 := 0#32
  let c0_i32_312 : BitVec 32 := 0#32
  ![v559.toNat, 0, 0]
def k0_off69 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_213 : BitVec 32 := 16#32
  let v381 : BitVec 32 := Scalar.muli arg13 c16_i32_213
  let c10_i32 : BitVec 32 := 10#32
  let v382 : BitVec 32 := Scalar.addi v381 c10_i32
  let v560 : BitVec 32 := Scalar.addi v21 v382
  let c0_i32_310 : BitVec 32 := 0#32
  let c0_i32_311 : BitVec 32 := 0#32
  ![v560.toNat, 0, 0]
def k0_cond34 (i : grid0.Coords) (k0_t1 : Fin k0_t1_loop.trips) (v380 : BitVec 32) : BitVec 1 :=
  let c32_i32_217 : BitVec 32 := 32#32
  let v391 : BitVec 1 := Scalar.cmpi .sge v380 c32_i32_217
  let c41_i32_218 : BitVec 32 := 41#32
  let v392 : BitVec 1 := Scalar.cmpi .slt v380 c41_i32_218
  let v393 : BitVec 1 := Scalar.andi v391 v392
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v385 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v386 : BitVec 1 := Scalar.cmpi .slt arg13 v29
  let v387 : BitVec 1 := Scalar.andi v385 v386
  let v394 : BitVec 1 := Scalar.andi v393 v387
  let v399 : BitVec 32 := Scalar.extui v394
  let c0_i32_221 : BitVec 32 := 0#32
  let v400 : BitVec 1 := Scalar.cmpi .ne v399 c0_i32_221
  v400

def k0_off70 (i : grid0.Coords) (v380 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v380 c32_i32_309
  let c0_i32_312 : BitVec 32 := 0#32
  let c0_i32_313 : BitVec 32 := 0#32
  ![v20.toNat, v559.toNat, 0, 0]
def k0_off71 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_213 : BitVec 32 := 16#32
  let v381 : BitVec 32 := Scalar.muli arg13 c16_i32_213
  let c10_i32 : BitVec 32 := 10#32
  let v382 : BitVec 32 := Scalar.addi v381 c10_i32
  let v560 : BitVec 32 := Scalar.addi v21 v382
  let c0_i32_309 : BitVec 32 := 0#32
  let c0_i32_310 : BitVec 32 := 0#32
  ![v560.toNat, 0, 0]
def k0_cond35 (i : grid0.Coords) (k0_t1 : Fin k0_t1_loop.trips) (v380 : BitVec 32) : BitVec 1 :=
  let c41_i32_219 : BitVec 32 := 41#32
  let v395 : BitVec 1 := Scalar.cmpi .sge v380 c41_i32_219
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v385 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v386 : BitVec 1 := Scalar.cmpi .slt arg13 v29
  let v387 : BitVec 1 := Scalar.andi v385 v386
  let v396 : BitVec 1 := Scalar.andi v395 v387
  let v401 : BitVec 32 := Scalar.extui v396
  let c0_i32_222 : BitVec 32 := 0#32
  let v402 : BitVec 1 := Scalar.cmpi .ne v401 c0_i32_222
  v402

def k0_off72 (i : grid0.Coords) (v380 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v380
  let c0_i32_311 : BitVec 32 := 0#32
  let c0_i32_312 : BitVec 32 := 0#32
  ![v559.toNat, 0, 0]

def k0_chk11 (i : grid0.Coords) (k0_t1 : Fin k0_t1_loop.trips) (v380 : BitVec 32) : Prop :=
  (∀ (k0_h33 : k0_cond33 i v380 = 1#1), ∀ a, (k0_off67 i v380) a + S1x16x768.size a ≤ S8x16x768.size a) ∧
  (∀ (k0_h33 : k0_cond33 i v380 = 1#1), ∀ a, (k0_off68 i k0_t1) a + S1x16x768.size a ≤ S3136x16x768.size a) ∧
  (∀ (k0_h34 : k0_cond34 i k0_t1 v380 = 1#1), ∀ a, (k0_off69 i k0_t1) a + S1x16x768.size a ≤ S3136x16x768.size a) ∧
  (∀ (k0_h34 : k0_cond34 i k0_t1 v380 = 1#1), ∀ a, (k0_off70 i v380) a + S1x1x16x768.size a ≤ S4x9x16x768.size a) ∧
  (∀ (k0_h35 : k0_cond35 i k0_t1 v380 = 1#1), ∀ a, (k0_off71 i k0_t1) a + S1x16x768.size a ≤ S3136x16x768.size a) ∧
  (∀ (k0_h35 : k0_cond35 i k0_t1 v380 = 1#1), ∀ a, (k0_off72 i v380) a + S1x16x768.size a ≤ S392x16x768.size a)
theorem k0_off67_inb : ∀ (i : grid0.Coords) (k0_t1 : Fin k0_t1_loop.trips) (v380 : BitVec 32) (k0_hw11 : k0_chk11 i k0_t1 v380), ∀ (k0_h33 : k0_cond33 i v380 = 1#1), ∀ a, (k0_off67 i v380) a + S1x16x768.size a ≤ S8x16x768.size a := fun i k0_t1 v380 k0_hw11 k0_h33 => k0_hw11.1 k0_h33
theorem k0_off68_inb : ∀ (i : grid0.Coords) (k0_t1 : Fin k0_t1_loop.trips) (v380 : BitVec 32) (k0_hw11 : k0_chk11 i k0_t1 v380), ∀ (k0_h33 : k0_cond33 i v380 = 1#1), ∀ a, (k0_off68 i k0_t1) a + S1x16x768.size a ≤ S3136x16x768.size a := fun i k0_t1 v380 k0_hw11 k0_h33 => k0_hw11.2.1 k0_h33
theorem k0_off69_inb : ∀ (i : grid0.Coords) (k0_t1 : Fin k0_t1_loop.trips) (v380 : BitVec 32) (k0_hw11 : k0_chk11 i k0_t1 v380), ∀ (k0_h34 : k0_cond34 i k0_t1 v380 = 1#1), ∀ a, (k0_off69 i k0_t1) a + S1x16x768.size a ≤ S3136x16x768.size a := fun i k0_t1 v380 k0_hw11 k0_h34 => k0_hw11.2.2.1 k0_h34
theorem k0_off70_inb : ∀ (i : grid0.Coords) (k0_t1 : Fin k0_t1_loop.trips) (v380 : BitVec 32) (k0_hw11 : k0_chk11 i k0_t1 v380), ∀ (k0_h34 : k0_cond34 i k0_t1 v380 = 1#1), ∀ a, (k0_off70 i v380) a + S1x1x16x768.size a ≤ S4x9x16x768.size a := fun i k0_t1 v380 k0_hw11 k0_h34 => k0_hw11.2.2.2.1 k0_h34
theorem k0_off71_inb : ∀ (i : grid0.Coords) (k0_t1 : Fin k0_t1_loop.trips) (v380 : BitVec 32) (k0_hw11 : k0_chk11 i k0_t1 v380), ∀ (k0_h35 : k0_cond35 i k0_t1 v380 = 1#1), ∀ a, (k0_off71 i k0_t1) a + S1x16x768.size a ≤ S3136x16x768.size a := fun i k0_t1 v380 k0_hw11 k0_h35 => k0_hw11.2.2.2.2.1 k0_h35
theorem k0_off72_inb : ∀ (i : grid0.Coords) (k0_t1 : Fin k0_t1_loop.trips) (v380 : BitVec 32) (k0_hw11 : k0_chk11 i k0_t1 v380), ∀ (k0_h35 : k0_cond35 i k0_t1 v380 = 1#1), ∀ a, (k0_off72 i v380) a + S1x16x768.size a ≤ S392x16x768.size a := fun i k0_t1 v380 k0_hw11 k0_h35 => k0_hw11.2.2.2.2.2 k0_h35

def k0_off73 (i : grid0.Coords) (v410 : BitVec 32) : Fin 3 → Nat :=
  let c8_i32_230 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v413 : BitVec 32 := Scalar.muli c8_i32_230 v19
  let v414 : BitVec 32 := Scalar.subi v410 v413
  let c0_i32_309 : BitVec 32 := 0#32
  let c0_i32_310 : BitVec 32 := 0#32
  ![v414.toNat, 0, 0]
def k0_cond36 (i : grid0.Coords) (v410 : BitVec 32) : BitVec 1 :=
  let c8_i32_230 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v413 : BitVec 32 := Scalar.muli c8_i32_230 v19
  let v414 : BitVec 32 := Scalar.subi v410 v413
  let c0_i32_231 : BitVec 32 := 0#32
  let v418 : BitVec 1 := Scalar.cmpi .sge v414 c0_i32_231
  let c8_i32_232 : BitVec 32 := 8#32
  let v419 : BitVec 1 := Scalar.cmpi .slt v414 c8_i32_232
  let v420 : BitVec 1 := Scalar.andi v418 v419
  let v427 : BitVec 32 := Scalar.extui v420
  let c0_i32_236 : BitVec 32 := 0#32
  let v428 : BitVec 1 := Scalar.cmpi .ne v427 c0_i32_236
  v428

def k0_off74 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_229 : BitVec 32 := 16#32
  let v411 : BitVec 32 := Scalar.muli arg13 c16_i32_229
  let c11_i32 : BitVec 32 := 11#32
  let v412 : BitVec 32 := Scalar.addi v411 c11_i32
  let v559 : BitVec 32 := Scalar.addi v21 v412
  let c0_i32_311 : BitVec 32 := 0#32
  let c0_i32_312 : BitVec 32 := 0#32
  ![v559.toNat, 0, 0]
def k0_off75 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_229 : BitVec 32 := 16#32
  let v411 : BitVec 32 := Scalar.muli arg13 c16_i32_229
  let c11_i32 : BitVec 32 := 11#32
  let v412 : BitVec 32 := Scalar.addi v411 c11_i32
  let v560 : BitVec 32 := Scalar.addi v21 v412
  let c0_i32_310 : BitVec 32 := 0#32
  let c0_i32_311 : BitVec 32 := 0#32
  ![v560.toNat, 0, 0]
def k0_cond37 (i : grid0.Coords) (k0_t1 : Fin k0_t1_loop.trips) (v410 : BitVec 32) : BitVec 1 :=
  let c32_i32_233 : BitVec 32 := 32#32
  let v421 : BitVec 1 := Scalar.cmpi .sge v410 c32_i32_233
  let c41_i32_234 : BitVec 32 := 41#32
  let v422 : BitVec 1 := Scalar.cmpi .slt v410 c41_i32_234
  let v423 : BitVec 1 := Scalar.andi v421 v422
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v415 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v416 : BitVec 1 := Scalar.cmpi .slt arg13 v29
  let v417 : BitVec 1 := Scalar.andi v415 v416
  let v424 : BitVec 1 := Scalar.andi v423 v417
  let v429 : BitVec 32 := Scalar.extui v424
  let c0_i32_237 : BitVec 32 := 0#32
  let v430 : BitVec 1 := Scalar.cmpi .ne v429 c0_i32_237
  v430

def k0_off76 (i : grid0.Coords) (v410 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v410 c32_i32_309
  let c0_i32_312 : BitVec 32 := 0#32
  let c0_i32_313 : BitVec 32 := 0#32
  ![v20.toNat, v559.toNat, 0, 0]
def k0_off77 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_229 : BitVec 32 := 16#32
  let v411 : BitVec 32 := Scalar.muli arg13 c16_i32_229
  let c11_i32 : BitVec 32 := 11#32
  let v412 : BitVec 32 := Scalar.addi v411 c11_i32
  let v560 : BitVec 32 := Scalar.addi v21 v412
  let c0_i32_309 : BitVec 32 := 0#32
  let c0_i32_310 : BitVec 32 := 0#32
  ![v560.toNat, 0, 0]
def k0_cond38 (i : grid0.Coords) (k0_t1 : Fin k0_t1_loop.trips) (v410 : BitVec 32) : BitVec 1 :=
  let c41_i32_235 : BitVec 32 := 41#32
  let v425 : BitVec 1 := Scalar.cmpi .sge v410 c41_i32_235
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v415 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v416 : BitVec 1 := Scalar.cmpi .slt arg13 v29
  let v417 : BitVec 1 := Scalar.andi v415 v416
  let v426 : BitVec 1 := Scalar.andi v425 v417
  let v431 : BitVec 32 := Scalar.extui v426
  let c0_i32_238 : BitVec 32 := 0#32
  let v432 : BitVec 1 := Scalar.cmpi .ne v431 c0_i32_238
  v432

def k0_off78 (i : grid0.Coords) (v410 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v410
  let c0_i32_311 : BitVec 32 := 0#32
  let c0_i32_312 : BitVec 32 := 0#32
  ![v559.toNat, 0, 0]

def k0_chk12 (i : grid0.Coords) (k0_t1 : Fin k0_t1_loop.trips) (v410 : BitVec 32) : Prop :=
  (∀ (k0_h36 : k0_cond36 i v410 = 1#1), ∀ a, (k0_off73 i v410) a + S1x16x768.size a ≤ S8x16x768.size a) ∧
  (∀ (k0_h36 : k0_cond36 i v410 = 1#1), ∀ a, (k0_off74 i k0_t1) a + S1x16x768.size a ≤ S3136x16x768.size a) ∧
  (∀ (k0_h37 : k0_cond37 i k0_t1 v410 = 1#1), ∀ a, (k0_off75 i k0_t1) a + S1x16x768.size a ≤ S3136x16x768.size a) ∧
  (∀ (k0_h37 : k0_cond37 i k0_t1 v410 = 1#1), ∀ a, (k0_off76 i v410) a + S1x1x16x768.size a ≤ S4x9x16x768.size a) ∧
  (∀ (k0_h38 : k0_cond38 i k0_t1 v410 = 1#1), ∀ a, (k0_off77 i k0_t1) a + S1x16x768.size a ≤ S3136x16x768.size a) ∧
  (∀ (k0_h38 : k0_cond38 i k0_t1 v410 = 1#1), ∀ a, (k0_off78 i v410) a + S1x16x768.size a ≤ S392x16x768.size a)
theorem k0_off73_inb : ∀ (i : grid0.Coords) (k0_t1 : Fin k0_t1_loop.trips) (v410 : BitVec 32) (k0_hw12 : k0_chk12 i k0_t1 v410), ∀ (k0_h36 : k0_cond36 i v410 = 1#1), ∀ a, (k0_off73 i v410) a + S1x16x768.size a ≤ S8x16x768.size a := fun i k0_t1 v410 k0_hw12 k0_h36 => k0_hw12.1 k0_h36
theorem k0_off74_inb : ∀ (i : grid0.Coords) (k0_t1 : Fin k0_t1_loop.trips) (v410 : BitVec 32) (k0_hw12 : k0_chk12 i k0_t1 v410), ∀ (k0_h36 : k0_cond36 i v410 = 1#1), ∀ a, (k0_off74 i k0_t1) a + S1x16x768.size a ≤ S3136x16x768.size a := fun i k0_t1 v410 k0_hw12 k0_h36 => k0_hw12.2.1 k0_h36
theorem k0_off75_inb : ∀ (i : grid0.Coords) (k0_t1 : Fin k0_t1_loop.trips) (v410 : BitVec 32) (k0_hw12 : k0_chk12 i k0_t1 v410), ∀ (k0_h37 : k0_cond37 i k0_t1 v410 = 1#1), ∀ a, (k0_off75 i k0_t1) a + S1x16x768.size a ≤ S3136x16x768.size a := fun i k0_t1 v410 k0_hw12 k0_h37 => k0_hw12.2.2.1 k0_h37
theorem k0_off76_inb : ∀ (i : grid0.Coords) (k0_t1 : Fin k0_t1_loop.trips) (v410 : BitVec 32) (k0_hw12 : k0_chk12 i k0_t1 v410), ∀ (k0_h37 : k0_cond37 i k0_t1 v410 = 1#1), ∀ a, (k0_off76 i v410) a + S1x1x16x768.size a ≤ S4x9x16x768.size a := fun i k0_t1 v410 k0_hw12 k0_h37 => k0_hw12.2.2.2.1 k0_h37
theorem k0_off77_inb : ∀ (i : grid0.Coords) (k0_t1 : Fin k0_t1_loop.trips) (v410 : BitVec 32) (k0_hw12 : k0_chk12 i k0_t1 v410), ∀ (k0_h38 : k0_cond38 i k0_t1 v410 = 1#1), ∀ a, (k0_off77 i k0_t1) a + S1x16x768.size a ≤ S3136x16x768.size a := fun i k0_t1 v410 k0_hw12 k0_h38 => k0_hw12.2.2.2.2.1 k0_h38
theorem k0_off78_inb : ∀ (i : grid0.Coords) (k0_t1 : Fin k0_t1_loop.trips) (v410 : BitVec 32) (k0_hw12 : k0_chk12 i k0_t1 v410), ∀ (k0_h38 : k0_cond38 i k0_t1 v410 = 1#1), ∀ a, (k0_off78 i v410) a + S1x16x768.size a ≤ S392x16x768.size a := fun i k0_t1 v410 k0_hw12 k0_h38 => k0_hw12.2.2.2.2.2 k0_h38

def k0_off79 (i : grid0.Coords) (v440 : BitVec 32) : Fin 3 → Nat :=
  let c8_i32_246 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v443 : BitVec 32 := Scalar.muli c8_i32_246 v19
  let v444 : BitVec 32 := Scalar.subi v440 v443
  let c0_i32_309 : BitVec 32 := 0#32
  let c0_i32_310 : BitVec 32 := 0#32
  ![v444.toNat, 0, 0]
def k0_cond39 (i : grid0.Coords) (v440 : BitVec 32) : BitVec 1 :=
  let c8_i32_246 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v443 : BitVec 32 := Scalar.muli c8_i32_246 v19
  let v444 : BitVec 32 := Scalar.subi v440 v443
  let c0_i32_247 : BitVec 32 := 0#32
  let v448 : BitVec 1 := Scalar.cmpi .sge v444 c0_i32_247
  let c8_i32_248 : BitVec 32 := 8#32
  let v449 : BitVec 1 := Scalar.cmpi .slt v444 c8_i32_248
  let v450 : BitVec 1 := Scalar.andi v448 v449
  let v457 : BitVec 32 := Scalar.extui v450
  let c0_i32_252 : BitVec 32 := 0#32
  let v458 : BitVec 1 := Scalar.cmpi .ne v457 c0_i32_252
  v458

def k0_off80 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_245 : BitVec 32 := 16#32
  let v441 : BitVec 32 := Scalar.muli arg13 c16_i32_245
  let c12_i32 : BitVec 32 := 12#32
  let v442 : BitVec 32 := Scalar.addi v441 c12_i32
  let v559 : BitVec 32 := Scalar.addi v21 v442
  let c0_i32_311 : BitVec 32 := 0#32
  let c0_i32_312 : BitVec 32 := 0#32
  ![v559.toNat, 0, 0]
def k0_off81 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_245 : BitVec 32 := 16#32
  let v441 : BitVec 32 := Scalar.muli arg13 c16_i32_245
  let c12_i32 : BitVec 32 := 12#32
  let v442 : BitVec 32 := Scalar.addi v441 c12_i32
  let v560 : BitVec 32 := Scalar.addi v21 v442
  let c0_i32_310 : BitVec 32 := 0#32
  let c0_i32_311 : BitVec 32 := 0#32
  ![v560.toNat, 0, 0]
def k0_cond40 (i : grid0.Coords) (k0_t1 : Fin k0_t1_loop.trips) (v440 : BitVec 32) : BitVec 1 :=
  let c32_i32_249 : BitVec 32 := 32#32
  let v451 : BitVec 1 := Scalar.cmpi .sge v440 c32_i32_249
  let c41_i32_250 : BitVec 32 := 41#32
  let v452 : BitVec 1 := Scalar.cmpi .slt v440 c41_i32_250
  let v453 : BitVec 1 := Scalar.andi v451 v452
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v445 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v446 : BitVec 1 := Scalar.cmpi .slt arg13 v29
  let v447 : BitVec 1 := Scalar.andi v445 v446
  let v454 : BitVec 1 := Scalar.andi v453 v447
  let v459 : BitVec 32 := Scalar.extui v454
  let c0_i32_253 : BitVec 32 := 0#32
  let v460 : BitVec 1 := Scalar.cmpi .ne v459 c0_i32_253
  v460

def k0_off82 (i : grid0.Coords) (v440 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v440 c32_i32_309
  let c0_i32_312 : BitVec 32 := 0#32
  let c0_i32_313 : BitVec 32 := 0#32
  ![v20.toNat, v559.toNat, 0, 0]
def k0_off83 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_245 : BitVec 32 := 16#32
  let v441 : BitVec 32 := Scalar.muli arg13 c16_i32_245
  let c12_i32 : BitVec 32 := 12#32
  let v442 : BitVec 32 := Scalar.addi v441 c12_i32
  let v560 : BitVec 32 := Scalar.addi v21 v442
  let c0_i32_309 : BitVec 32 := 0#32
  let c0_i32_310 : BitVec 32 := 0#32
  ![v560.toNat, 0, 0]
def k0_cond41 (i : grid0.Coords) (k0_t1 : Fin k0_t1_loop.trips) (v440 : BitVec 32) : BitVec 1 :=
  let c41_i32_251 : BitVec 32 := 41#32
  let v455 : BitVec 1 := Scalar.cmpi .sge v440 c41_i32_251
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v445 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v446 : BitVec 1 := Scalar.cmpi .slt arg13 v29
  let v447 : BitVec 1 := Scalar.andi v445 v446
  let v456 : BitVec 1 := Scalar.andi v455 v447
  let v461 : BitVec 32 := Scalar.extui v456
  let c0_i32_254 : BitVec 32 := 0#32
  let v462 : BitVec 1 := Scalar.cmpi .ne v461 c0_i32_254
  v462

def k0_off84 (i : grid0.Coords) (v440 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v440
  let c0_i32_311 : BitVec 32 := 0#32
  let c0_i32_312 : BitVec 32 := 0#32
  ![v559.toNat, 0, 0]

def k0_chk13 (i : grid0.Coords) (k0_t1 : Fin k0_t1_loop.trips) (v440 : BitVec 32) : Prop :=
  (∀ (k0_h39 : k0_cond39 i v440 = 1#1), ∀ a, (k0_off79 i v440) a + S1x16x768.size a ≤ S8x16x768.size a) ∧
  (∀ (k0_h39 : k0_cond39 i v440 = 1#1), ∀ a, (k0_off80 i k0_t1) a + S1x16x768.size a ≤ S3136x16x768.size a) ∧
  (∀ (k0_h40 : k0_cond40 i k0_t1 v440 = 1#1), ∀ a, (k0_off81 i k0_t1) a + S1x16x768.size a ≤ S3136x16x768.size a) ∧
  (∀ (k0_h40 : k0_cond40 i k0_t1 v440 = 1#1), ∀ a, (k0_off82 i v440) a + S1x1x16x768.size a ≤ S4x9x16x768.size a) ∧
  (∀ (k0_h41 : k0_cond41 i k0_t1 v440 = 1#1), ∀ a, (k0_off83 i k0_t1) a + S1x16x768.size a ≤ S3136x16x768.size a) ∧
  (∀ (k0_h41 : k0_cond41 i k0_t1 v440 = 1#1), ∀ a, (k0_off84 i v440) a + S1x16x768.size a ≤ S392x16x768.size a)
theorem k0_off79_inb : ∀ (i : grid0.Coords) (k0_t1 : Fin k0_t1_loop.trips) (v440 : BitVec 32) (k0_hw13 : k0_chk13 i k0_t1 v440), ∀ (k0_h39 : k0_cond39 i v440 = 1#1), ∀ a, (k0_off79 i v440) a + S1x16x768.size a ≤ S8x16x768.size a := fun i k0_t1 v440 k0_hw13 k0_h39 => k0_hw13.1 k0_h39
theorem k0_off80_inb : ∀ (i : grid0.Coords) (k0_t1 : Fin k0_t1_loop.trips) (v440 : BitVec 32) (k0_hw13 : k0_chk13 i k0_t1 v440), ∀ (k0_h39 : k0_cond39 i v440 = 1#1), ∀ a, (k0_off80 i k0_t1) a + S1x16x768.size a ≤ S3136x16x768.size a := fun i k0_t1 v440 k0_hw13 k0_h39 => k0_hw13.2.1 k0_h39
theorem k0_off81_inb : ∀ (i : grid0.Coords) (k0_t1 : Fin k0_t1_loop.trips) (v440 : BitVec 32) (k0_hw13 : k0_chk13 i k0_t1 v440), ∀ (k0_h40 : k0_cond40 i k0_t1 v440 = 1#1), ∀ a, (k0_off81 i k0_t1) a + S1x16x768.size a ≤ S3136x16x768.size a := fun i k0_t1 v440 k0_hw13 k0_h40 => k0_hw13.2.2.1 k0_h40
theorem k0_off82_inb : ∀ (i : grid0.Coords) (k0_t1 : Fin k0_t1_loop.trips) (v440 : BitVec 32) (k0_hw13 : k0_chk13 i k0_t1 v440), ∀ (k0_h40 : k0_cond40 i k0_t1 v440 = 1#1), ∀ a, (k0_off82 i v440) a + S1x1x16x768.size a ≤ S4x9x16x768.size a := fun i k0_t1 v440 k0_hw13 k0_h40 => k0_hw13.2.2.2.1 k0_h40
theorem k0_off83_inb : ∀ (i : grid0.Coords) (k0_t1 : Fin k0_t1_loop.trips) (v440 : BitVec 32) (k0_hw13 : k0_chk13 i k0_t1 v440), ∀ (k0_h41 : k0_cond41 i k0_t1 v440 = 1#1), ∀ a, (k0_off83 i k0_t1) a + S1x16x768.size a ≤ S3136x16x768.size a := fun i k0_t1 v440 k0_hw13 k0_h41 => k0_hw13.2.2.2.2.1 k0_h41
theorem k0_off84_inb : ∀ (i : grid0.Coords) (k0_t1 : Fin k0_t1_loop.trips) (v440 : BitVec 32) (k0_hw13 : k0_chk13 i k0_t1 v440), ∀ (k0_h41 : k0_cond41 i k0_t1 v440 = 1#1), ∀ a, (k0_off84 i v440) a + S1x16x768.size a ≤ S392x16x768.size a := fun i k0_t1 v440 k0_hw13 k0_h41 => k0_hw13.2.2.2.2.2 k0_h41

def k0_off85 (i : grid0.Coords) (v470 : BitVec 32) : Fin 3 → Nat :=
  let c8_i32_262 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v473 : BitVec 32 := Scalar.muli c8_i32_262 v19
  let v474 : BitVec 32 := Scalar.subi v470 v473
  let c0_i32_309 : BitVec 32 := 0#32
  let c0_i32_310 : BitVec 32 := 0#32
  ![v474.toNat, 0, 0]
def k0_cond42 (i : grid0.Coords) (v470 : BitVec 32) : BitVec 1 :=
  let c8_i32_262 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v473 : BitVec 32 := Scalar.muli c8_i32_262 v19
  let v474 : BitVec 32 := Scalar.subi v470 v473
  let c0_i32_263 : BitVec 32 := 0#32
  let v478 : BitVec 1 := Scalar.cmpi .sge v474 c0_i32_263
  let c8_i32_264 : BitVec 32 := 8#32
  let v479 : BitVec 1 := Scalar.cmpi .slt v474 c8_i32_264
  let v480 : BitVec 1 := Scalar.andi v478 v479
  let v487 : BitVec 32 := Scalar.extui v480
  let c0_i32_268 : BitVec 32 := 0#32
  let v488 : BitVec 1 := Scalar.cmpi .ne v487 c0_i32_268
  v488

def k0_off86 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_261 : BitVec 32 := 16#32
  let v471 : BitVec 32 := Scalar.muli arg13 c16_i32_261
  let c13_i32 : BitVec 32 := 13#32
  let v472 : BitVec 32 := Scalar.addi v471 c13_i32
  let v559 : BitVec 32 := Scalar.addi v21 v472
  let c0_i32_311 : BitVec 32 := 0#32
  let c0_i32_312 : BitVec 32 := 0#32
  ![v559.toNat, 0, 0]
def k0_off87 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_261 : BitVec 32 := 16#32
  let v471 : BitVec 32 := Scalar.muli arg13 c16_i32_261
  let c13_i32 : BitVec 32 := 13#32
  let v472 : BitVec 32 := Scalar.addi v471 c13_i32
  let v560 : BitVec 32 := Scalar.addi v21 v472
  let c0_i32_310 : BitVec 32 := 0#32
  let c0_i32_311 : BitVec 32 := 0#32
  ![v560.toNat, 0, 0]
def k0_cond43 (i : grid0.Coords) (k0_t1 : Fin k0_t1_loop.trips) (v470 : BitVec 32) : BitVec 1 :=
  let c32_i32_265 : BitVec 32 := 32#32
  let v481 : BitVec 1 := Scalar.cmpi .sge v470 c32_i32_265
  let c41_i32_266 : BitVec 32 := 41#32
  let v482 : BitVec 1 := Scalar.cmpi .slt v470 c41_i32_266
  let v483 : BitVec 1 := Scalar.andi v481 v482
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v475 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v476 : BitVec 1 := Scalar.cmpi .slt arg13 v29
  let v477 : BitVec 1 := Scalar.andi v475 v476
  let v484 : BitVec 1 := Scalar.andi v483 v477
  let v489 : BitVec 32 := Scalar.extui v484
  let c0_i32_269 : BitVec 32 := 0#32
  let v490 : BitVec 1 := Scalar.cmpi .ne v489 c0_i32_269
  v490

def k0_off88 (i : grid0.Coords) (v470 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v470 c32_i32_309
  let c0_i32_312 : BitVec 32 := 0#32
  let c0_i32_313 : BitVec 32 := 0#32
  ![v20.toNat, v559.toNat, 0, 0]
def k0_off89 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_261 : BitVec 32 := 16#32
  let v471 : BitVec 32 := Scalar.muli arg13 c16_i32_261
  let c13_i32 : BitVec 32 := 13#32
  let v472 : BitVec 32 := Scalar.addi v471 c13_i32
  let v560 : BitVec 32 := Scalar.addi v21 v472
  let c0_i32_309 : BitVec 32 := 0#32
  let c0_i32_310 : BitVec 32 := 0#32
  ![v560.toNat, 0, 0]
def k0_cond44 (i : grid0.Coords) (k0_t1 : Fin k0_t1_loop.trips) (v470 : BitVec 32) : BitVec 1 :=
  let c41_i32_267 : BitVec 32 := 41#32
  let v485 : BitVec 1 := Scalar.cmpi .sge v470 c41_i32_267
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v475 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v476 : BitVec 1 := Scalar.cmpi .slt arg13 v29
  let v477 : BitVec 1 := Scalar.andi v475 v476
  let v486 : BitVec 1 := Scalar.andi v485 v477
  let v491 : BitVec 32 := Scalar.extui v486
  let c0_i32_270 : BitVec 32 := 0#32
  let v492 : BitVec 1 := Scalar.cmpi .ne v491 c0_i32_270
  v492

def k0_off90 (i : grid0.Coords) (v470 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v470
  let c0_i32_311 : BitVec 32 := 0#32
  let c0_i32_312 : BitVec 32 := 0#32
  ![v559.toNat, 0, 0]

def k0_chk14 (i : grid0.Coords) (k0_t1 : Fin k0_t1_loop.trips) (v470 : BitVec 32) : Prop :=
  (∀ (k0_h42 : k0_cond42 i v470 = 1#1), ∀ a, (k0_off85 i v470) a + S1x16x768.size a ≤ S8x16x768.size a) ∧
  (∀ (k0_h42 : k0_cond42 i v470 = 1#1), ∀ a, (k0_off86 i k0_t1) a + S1x16x768.size a ≤ S3136x16x768.size a) ∧
  (∀ (k0_h43 : k0_cond43 i k0_t1 v470 = 1#1), ∀ a, (k0_off87 i k0_t1) a + S1x16x768.size a ≤ S3136x16x768.size a) ∧
  (∀ (k0_h43 : k0_cond43 i k0_t1 v470 = 1#1), ∀ a, (k0_off88 i v470) a + S1x1x16x768.size a ≤ S4x9x16x768.size a) ∧
  (∀ (k0_h44 : k0_cond44 i k0_t1 v470 = 1#1), ∀ a, (k0_off89 i k0_t1) a + S1x16x768.size a ≤ S3136x16x768.size a) ∧
  (∀ (k0_h44 : k0_cond44 i k0_t1 v470 = 1#1), ∀ a, (k0_off90 i v470) a + S1x16x768.size a ≤ S392x16x768.size a)
theorem k0_off85_inb : ∀ (i : grid0.Coords) (k0_t1 : Fin k0_t1_loop.trips) (v470 : BitVec 32) (k0_hw14 : k0_chk14 i k0_t1 v470), ∀ (k0_h42 : k0_cond42 i v470 = 1#1), ∀ a, (k0_off85 i v470) a + S1x16x768.size a ≤ S8x16x768.size a := fun i k0_t1 v470 k0_hw14 k0_h42 => k0_hw14.1 k0_h42
theorem k0_off86_inb : ∀ (i : grid0.Coords) (k0_t1 : Fin k0_t1_loop.trips) (v470 : BitVec 32) (k0_hw14 : k0_chk14 i k0_t1 v470), ∀ (k0_h42 : k0_cond42 i v470 = 1#1), ∀ a, (k0_off86 i k0_t1) a + S1x16x768.size a ≤ S3136x16x768.size a := fun i k0_t1 v470 k0_hw14 k0_h42 => k0_hw14.2.1 k0_h42
theorem k0_off87_inb : ∀ (i : grid0.Coords) (k0_t1 : Fin k0_t1_loop.trips) (v470 : BitVec 32) (k0_hw14 : k0_chk14 i k0_t1 v470), ∀ (k0_h43 : k0_cond43 i k0_t1 v470 = 1#1), ∀ a, (k0_off87 i k0_t1) a + S1x16x768.size a ≤ S3136x16x768.size a := fun i k0_t1 v470 k0_hw14 k0_h43 => k0_hw14.2.2.1 k0_h43
theorem k0_off88_inb : ∀ (i : grid0.Coords) (k0_t1 : Fin k0_t1_loop.trips) (v470 : BitVec 32) (k0_hw14 : k0_chk14 i k0_t1 v470), ∀ (k0_h43 : k0_cond43 i k0_t1 v470 = 1#1), ∀ a, (k0_off88 i v470) a + S1x1x16x768.size a ≤ S4x9x16x768.size a := fun i k0_t1 v470 k0_hw14 k0_h43 => k0_hw14.2.2.2.1 k0_h43
theorem k0_off89_inb : ∀ (i : grid0.Coords) (k0_t1 : Fin k0_t1_loop.trips) (v470 : BitVec 32) (k0_hw14 : k0_chk14 i k0_t1 v470), ∀ (k0_h44 : k0_cond44 i k0_t1 v470 = 1#1), ∀ a, (k0_off89 i k0_t1) a + S1x16x768.size a ≤ S3136x16x768.size a := fun i k0_t1 v470 k0_hw14 k0_h44 => k0_hw14.2.2.2.2.1 k0_h44
theorem k0_off90_inb : ∀ (i : grid0.Coords) (k0_t1 : Fin k0_t1_loop.trips) (v470 : BitVec 32) (k0_hw14 : k0_chk14 i k0_t1 v470), ∀ (k0_h44 : k0_cond44 i k0_t1 v470 = 1#1), ∀ a, (k0_off90 i v470) a + S1x16x768.size a ≤ S392x16x768.size a := fun i k0_t1 v470 k0_hw14 k0_h44 => k0_hw14.2.2.2.2.2 k0_h44

def k0_off91 (i : grid0.Coords) (v500 : BitVec 32) : Fin 3 → Nat :=
  let c8_i32_278 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v503 : BitVec 32 := Scalar.muli c8_i32_278 v19
  let v504 : BitVec 32 := Scalar.subi v500 v503
  let c0_i32_309 : BitVec 32 := 0#32
  let c0_i32_310 : BitVec 32 := 0#32
  ![v504.toNat, 0, 0]
def k0_cond45 (i : grid0.Coords) (v500 : BitVec 32) : BitVec 1 :=
  let c8_i32_278 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v503 : BitVec 32 := Scalar.muli c8_i32_278 v19
  let v504 : BitVec 32 := Scalar.subi v500 v503
  let c0_i32_279 : BitVec 32 := 0#32
  let v508 : BitVec 1 := Scalar.cmpi .sge v504 c0_i32_279
  let c8_i32_280 : BitVec 32 := 8#32
  let v509 : BitVec 1 := Scalar.cmpi .slt v504 c8_i32_280
  let v510 : BitVec 1 := Scalar.andi v508 v509
  let v517 : BitVec 32 := Scalar.extui v510
  let c0_i32_284 : BitVec 32 := 0#32
  let v518 : BitVec 1 := Scalar.cmpi .ne v517 c0_i32_284
  v518

def k0_off92 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_277 : BitVec 32 := 16#32
  let v501 : BitVec 32 := Scalar.muli arg13 c16_i32_277
  let c14_i32 : BitVec 32 := 14#32
  let v502 : BitVec 32 := Scalar.addi v501 c14_i32
  let v559 : BitVec 32 := Scalar.addi v21 v502
  let c0_i32_311 : BitVec 32 := 0#32
  let c0_i32_312 : BitVec 32 := 0#32
  ![v559.toNat, 0, 0]
def k0_off93 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_277 : BitVec 32 := 16#32
  let v501 : BitVec 32 := Scalar.muli arg13 c16_i32_277
  let c14_i32 : BitVec 32 := 14#32
  let v502 : BitVec 32 := Scalar.addi v501 c14_i32
  let v560 : BitVec 32 := Scalar.addi v21 v502
  let c0_i32_310 : BitVec 32 := 0#32
  let c0_i32_311 : BitVec 32 := 0#32
  ![v560.toNat, 0, 0]
def k0_cond46 (i : grid0.Coords) (k0_t1 : Fin k0_t1_loop.trips) (v500 : BitVec 32) : BitVec 1 :=
  let c32_i32_281 : BitVec 32 := 32#32
  let v511 : BitVec 1 := Scalar.cmpi .sge v500 c32_i32_281
  let c41_i32_282 : BitVec 32 := 41#32
  let v512 : BitVec 1 := Scalar.cmpi .slt v500 c41_i32_282
  let v513 : BitVec 1 := Scalar.andi v511 v512
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v505 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v506 : BitVec 1 := Scalar.cmpi .slt arg13 v29
  let v507 : BitVec 1 := Scalar.andi v505 v506
  let v514 : BitVec 1 := Scalar.andi v513 v507
  let v519 : BitVec 32 := Scalar.extui v514
  let c0_i32_285 : BitVec 32 := 0#32
  let v520 : BitVec 1 := Scalar.cmpi .ne v519 c0_i32_285
  v520

def k0_off94 (i : grid0.Coords) (v500 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v500 c32_i32_309
  let c0_i32_312 : BitVec 32 := 0#32
  let c0_i32_313 : BitVec 32 := 0#32
  ![v20.toNat, v559.toNat, 0, 0]
def k0_off95 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_277 : BitVec 32 := 16#32
  let v501 : BitVec 32 := Scalar.muli arg13 c16_i32_277
  let c14_i32 : BitVec 32 := 14#32
  let v502 : BitVec 32 := Scalar.addi v501 c14_i32
  let v560 : BitVec 32 := Scalar.addi v21 v502
  let c0_i32_309 : BitVec 32 := 0#32
  let c0_i32_310 : BitVec 32 := 0#32
  ![v560.toNat, 0, 0]
def k0_cond47 (i : grid0.Coords) (k0_t1 : Fin k0_t1_loop.trips) (v500 : BitVec 32) : BitVec 1 :=
  let c41_i32_283 : BitVec 32 := 41#32
  let v515 : BitVec 1 := Scalar.cmpi .sge v500 c41_i32_283
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v505 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v506 : BitVec 1 := Scalar.cmpi .slt arg13 v29
  let v507 : BitVec 1 := Scalar.andi v505 v506
  let v516 : BitVec 1 := Scalar.andi v515 v507
  let v521 : BitVec 32 := Scalar.extui v516
  let c0_i32_286 : BitVec 32 := 0#32
  let v522 : BitVec 1 := Scalar.cmpi .ne v521 c0_i32_286
  v522

def k0_off96 (i : grid0.Coords) (v500 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v500
  let c0_i32_311 : BitVec 32 := 0#32
  let c0_i32_312 : BitVec 32 := 0#32
  ![v559.toNat, 0, 0]

def k0_chk15 (i : grid0.Coords) (k0_t1 : Fin k0_t1_loop.trips) (v500 : BitVec 32) : Prop :=
  (∀ (k0_h45 : k0_cond45 i v500 = 1#1), ∀ a, (k0_off91 i v500) a + S1x16x768.size a ≤ S8x16x768.size a) ∧
  (∀ (k0_h45 : k0_cond45 i v500 = 1#1), ∀ a, (k0_off92 i k0_t1) a + S1x16x768.size a ≤ S3136x16x768.size a) ∧
  (∀ (k0_h46 : k0_cond46 i k0_t1 v500 = 1#1), ∀ a, (k0_off93 i k0_t1) a + S1x16x768.size a ≤ S3136x16x768.size a) ∧
  (∀ (k0_h46 : k0_cond46 i k0_t1 v500 = 1#1), ∀ a, (k0_off94 i v500) a + S1x1x16x768.size a ≤ S4x9x16x768.size a) ∧
  (∀ (k0_h47 : k0_cond47 i k0_t1 v500 = 1#1), ∀ a, (k0_off95 i k0_t1) a + S1x16x768.size a ≤ S3136x16x768.size a) ∧
  (∀ (k0_h47 : k0_cond47 i k0_t1 v500 = 1#1), ∀ a, (k0_off96 i v500) a + S1x16x768.size a ≤ S392x16x768.size a)
theorem k0_off91_inb : ∀ (i : grid0.Coords) (k0_t1 : Fin k0_t1_loop.trips) (v500 : BitVec 32) (k0_hw15 : k0_chk15 i k0_t1 v500), ∀ (k0_h45 : k0_cond45 i v500 = 1#1), ∀ a, (k0_off91 i v500) a + S1x16x768.size a ≤ S8x16x768.size a := fun i k0_t1 v500 k0_hw15 k0_h45 => k0_hw15.1 k0_h45
theorem k0_off92_inb : ∀ (i : grid0.Coords) (k0_t1 : Fin k0_t1_loop.trips) (v500 : BitVec 32) (k0_hw15 : k0_chk15 i k0_t1 v500), ∀ (k0_h45 : k0_cond45 i v500 = 1#1), ∀ a, (k0_off92 i k0_t1) a + S1x16x768.size a ≤ S3136x16x768.size a := fun i k0_t1 v500 k0_hw15 k0_h45 => k0_hw15.2.1 k0_h45
theorem k0_off93_inb : ∀ (i : grid0.Coords) (k0_t1 : Fin k0_t1_loop.trips) (v500 : BitVec 32) (k0_hw15 : k0_chk15 i k0_t1 v500), ∀ (k0_h46 : k0_cond46 i k0_t1 v500 = 1#1), ∀ a, (k0_off93 i k0_t1) a + S1x16x768.size a ≤ S3136x16x768.size a := fun i k0_t1 v500 k0_hw15 k0_h46 => k0_hw15.2.2.1 k0_h46
theorem k0_off94_inb : ∀ (i : grid0.Coords) (k0_t1 : Fin k0_t1_loop.trips) (v500 : BitVec 32) (k0_hw15 : k0_chk15 i k0_t1 v500), ∀ (k0_h46 : k0_cond46 i k0_t1 v500 = 1#1), ∀ a, (k0_off94 i v500) a + S1x1x16x768.size a ≤ S4x9x16x768.size a := fun i k0_t1 v500 k0_hw15 k0_h46 => k0_hw15.2.2.2.1 k0_h46
theorem k0_off95_inb : ∀ (i : grid0.Coords) (k0_t1 : Fin k0_t1_loop.trips) (v500 : BitVec 32) (k0_hw15 : k0_chk15 i k0_t1 v500), ∀ (k0_h47 : k0_cond47 i k0_t1 v500 = 1#1), ∀ a, (k0_off95 i k0_t1) a + S1x16x768.size a ≤ S3136x16x768.size a := fun i k0_t1 v500 k0_hw15 k0_h47 => k0_hw15.2.2.2.2.1 k0_h47
theorem k0_off96_inb : ∀ (i : grid0.Coords) (k0_t1 : Fin k0_t1_loop.trips) (v500 : BitVec 32) (k0_hw15 : k0_chk15 i k0_t1 v500), ∀ (k0_h47 : k0_cond47 i k0_t1 v500 = 1#1), ∀ a, (k0_off96 i v500) a + S1x16x768.size a ≤ S392x16x768.size a := fun i k0_t1 v500 k0_hw15 k0_h47 => k0_hw15.2.2.2.2.2 k0_h47

def k0_off97 (i : grid0.Coords) (v530 : BitVec 32) : Fin 3 → Nat :=
  let c8_i32_294 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v533 : BitVec 32 := Scalar.muli c8_i32_294 v19
  let v534 : BitVec 32 := Scalar.subi v530 v533
  let c0_i32_309 : BitVec 32 := 0#32
  let c0_i32_310 : BitVec 32 := 0#32
  ![v534.toNat, 0, 0]
def k0_cond48 (i : grid0.Coords) (v530 : BitVec 32) : BitVec 1 :=
  let c8_i32_294 : BitVec 32 := 8#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let v533 : BitVec 32 := Scalar.muli c8_i32_294 v19
  let v534 : BitVec 32 := Scalar.subi v530 v533
  let c0_i32_295 : BitVec 32 := 0#32
  let v538 : BitVec 1 := Scalar.cmpi .sge v534 c0_i32_295
  let c8_i32_296 : BitVec 32 := 8#32
  let v539 : BitVec 1 := Scalar.cmpi .slt v534 c8_i32_296
  let v540 : BitVec 1 := Scalar.andi v538 v539
  let v547 : BitVec 32 := Scalar.extui v540
  let c0_i32_300 : BitVec 32 := 0#32
  let v548 : BitVec 1 := Scalar.cmpi .ne v547 c0_i32_300
  v548

def k0_off98 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_293 : BitVec 32 := 16#32
  let v531 : BitVec 32 := Scalar.muli arg13 c16_i32_293
  let c15_i32 : BitVec 32 := 15#32
  let v532 : BitVec 32 := Scalar.addi v531 c15_i32
  let v559 : BitVec 32 := Scalar.addi v21 v532
  let c0_i32_311 : BitVec 32 := 0#32
  let c0_i32_312 : BitVec 32 := 0#32
  ![v559.toNat, 0, 0]
def k0_off99 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_293 : BitVec 32 := 16#32
  let v531 : BitVec 32 := Scalar.muli arg13 c16_i32_293
  let c15_i32 : BitVec 32 := 15#32
  let v532 : BitVec 32 := Scalar.addi v531 c15_i32
  let v560 : BitVec 32 := Scalar.addi v21 v532
  let c0_i32_310 : BitVec 32 := 0#32
  let c0_i32_311 : BitVec 32 := 0#32
  ![v560.toNat, 0, 0]
def k0_cond49 (i : grid0.Coords) (k0_t1 : Fin k0_t1_loop.trips) (v530 : BitVec 32) : BitVec 1 :=
  let c32_i32_297 : BitVec 32 := 32#32
  let v541 : BitVec 1 := Scalar.cmpi .sge v530 c32_i32_297
  let c41_i32_298 : BitVec 32 := 41#32
  let v542 : BitVec 1 := Scalar.cmpi .slt v530 c41_i32_298
  let v543 : BitVec 1 := Scalar.andi v541 v542
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v535 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v536 : BitVec 1 := Scalar.cmpi .slt arg13 v29
  let v537 : BitVec 1 := Scalar.andi v535 v536
  let v544 : BitVec 1 := Scalar.andi v543 v537
  let v549 : BitVec 32 := Scalar.extui v544
  let c0_i32_301 : BitVec 32 := 0#32
  let v550 : BitVec 1 := Scalar.cmpi .ne v549 c0_i32_301
  v550

def k0_off100 (i : grid0.Coords) (v530 : BitVec 32) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c32_i32_309 : BitVec 32 := 32#32
  let v559 : BitVec 32 := Scalar.subi v530 c32_i32_309
  let c0_i32_312 : BitVec 32 := 0#32
  let c0_i32_313 : BitVec 32 := 0#32
  ![v20.toNat, v559.toNat, 0, 0]
def k0_off101 (i : grid0.Coords) (k0_t1 : Fin k0_t1_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c392_i32 : BitVec 32 := 392#32
  let v21 : BitVec 32 := Scalar.muli v18 c392_i32
  let c0_i32_30 : BitVec 32 := 0#32
  let c1_i32_31 : BitVec 32 := 1#32
  let arg13 : BitVec 32 := Scf.iv c0_i32_30 c1_i32_31 k0_t1
  let c16_i32_293 : BitVec 32 := 16#32
  let v531 : BitVec 32 := Scalar.muli arg13 c16_i32_293
  let c15_i32 : BitVec 32 := 15#32
  let v532 : BitVec 32 := Scalar.addi v531 c15_i32
  let v560 : BitVec 32 := Scalar.addi v21 v532
  let c0_i32_309 : BitVec 32 := 0#32
  let c0_i32_310 : BitVec 32 := 0#32
  ![v560.toNat, 0, 0]
def k0_cond50 (i : grid0.Coords) (k0_t1 : Fin k0_t1_loop.trips) (v530 : BitVec 32) : BitVec 1 :=
  let c41_i32_299 : BitVec 32 := 41#32
  let v545 : BitVec 1 := Scalar.cmpi .sge v530 c41_i32_299
  let c0_i32_30 : BitVec 32 := 0#32
  let c1_i32_31 : BitVec 32 := 1#32
  let arg13 : BitVec 32 := Scf.iv c0_i32_30 c1_i32_31 k0_t1
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_4 : BitVec 32 := 4#32
  let v19 : BitVec 32 := Scalar.remsi v1 c4_i32_4
  let c0_i32_6 : BitVec 32 := 0#32
  let v23 : BitVec 1 := Scalar.cmpi .eq v19 c0_i32_6
  let c0_i32_8 : BitVec 32 := 0#32
  let c6_i32 : BitVec 32 := 6#32
  let v24 : BitVec 32 := Scalar.muli c6_i32 v19
  let c1_i32_7 : BitVec 32 := 1#32
  let v25 : BitVec 32 := Scalar.addi v24 c1_i32_7
  let v26 : BitVec 32 := Scalar.select v23 c0_i32_8 v25
  let v535 : BitVec 1 := Scalar.cmpi .sge arg13 v26
  let c0_i32_9 : BitVec 32 := 0#32
  let v27 : BitVec 1 := Scalar.cmpi .eq v19 c0_i32_9
  let c7_i32 : BitVec 32 := 7#32
  let c6_i32_10 : BitVec 32 := 6#32
  let v28 : BitVec 32 := Scalar.select v27 c7_i32 c6_i32_10
  let v29 : BitVec 32 := Scalar.addi v26 v28
  let v536 : BitVec 1 := Scalar.cmpi .slt arg13 v29
  let v537 : BitVec 1 := Scalar.andi v535 v536
  let v546 : BitVec 1 := Scalar.andi v545 v537
  let v551 : BitVec 32 := Scalar.extui v546
  let c0_i32_302 : BitVec 32 := 0#32
  let v552 : BitVec 1 := Scalar.cmpi .ne v551 c0_i32_302
  v552

def k0_off102 (i : grid0.Coords) (v530 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c49_i32 : BitVec 32 := 49#32
  let v22 : BitVec 32 := Scalar.muli v18 c49_i32
  let v559 : BitVec 32 := Scalar.addi v22 v530
  let c0_i32_311 : BitVec 32 := 0#32
  let c0_i32_312 : BitVec 32 := 0#32
  ![v559.toNat, 0, 0]

def k0_chk16 (i : grid0.Coords) (k0_t1 : Fin k0_t1_loop.trips) (v530 : BitVec 32) : Prop :=
  (∀ (k0_h48 : k0_cond48 i v530 = 1#1), ∀ a, (k0_off97 i v530) a + S1x16x768.size a ≤ S8x16x768.size a) ∧
  (∀ (k0_h48 : k0_cond48 i v530 = 1#1), ∀ a, (k0_off98 i k0_t1) a + S1x16x768.size a ≤ S3136x16x768.size a) ∧
  (∀ (k0_h49 : k0_cond49 i k0_t1 v530 = 1#1), ∀ a, (k0_off99 i k0_t1) a + S1x16x768.size a ≤ S3136x16x768.size a) ∧
  (∀ (k0_h49 : k0_cond49 i k0_t1 v530 = 1#1), ∀ a, (k0_off100 i v530) a + S1x1x16x768.size a ≤ S4x9x16x768.size a) ∧
  (∀ (k0_h50 : k0_cond50 i k0_t1 v530 = 1#1), ∀ a, (k0_off101 i k0_t1) a + S1x16x768.size a ≤ S3136x16x768.size a) ∧
  (∀ (k0_h50 : k0_cond50 i k0_t1 v530 = 1#1), ∀ a, (k0_off102 i v530) a + S1x16x768.size a ≤ S392x16x768.size a)
theorem k0_off97_inb : ∀ (i : grid0.Coords) (k0_t1 : Fin k0_t1_loop.trips) (v530 : BitVec 32) (k0_hw16 : k0_chk16 i k0_t1 v530), ∀ (k0_h48 : k0_cond48 i v530 = 1#1), ∀ a, (k0_off97 i v530) a + S1x16x768.size a ≤ S8x16x768.size a := fun i k0_t1 v530 k0_hw16 k0_h48 => k0_hw16.1 k0_h48
theorem k0_off98_inb : ∀ (i : grid0.Coords) (k0_t1 : Fin k0_t1_loop.trips) (v530 : BitVec 32) (k0_hw16 : k0_chk16 i k0_t1 v530), ∀ (k0_h48 : k0_cond48 i v530 = 1#1), ∀ a, (k0_off98 i k0_t1) a + S1x16x768.size a ≤ S3136x16x768.size a := fun i k0_t1 v530 k0_hw16 k0_h48 => k0_hw16.2.1 k0_h48
theorem k0_off99_inb : ∀ (i : grid0.Coords) (k0_t1 : Fin k0_t1_loop.trips) (v530 : BitVec 32) (k0_hw16 : k0_chk16 i k0_t1 v530), ∀ (k0_h49 : k0_cond49 i k0_t1 v530 = 1#1), ∀ a, (k0_off99 i k0_t1) a + S1x16x768.size a ≤ S3136x16x768.size a := fun i k0_t1 v530 k0_hw16 k0_h49 => k0_hw16.2.2.1 k0_h49
theorem k0_off100_inb : ∀ (i : grid0.Coords) (k0_t1 : Fin k0_t1_loop.trips) (v530 : BitVec 32) (k0_hw16 : k0_chk16 i k0_t1 v530), ∀ (k0_h49 : k0_cond49 i k0_t1 v530 = 1#1), ∀ a, (k0_off100 i v530) a + S1x1x16x768.size a ≤ S4x9x16x768.size a := fun i k0_t1 v530 k0_hw16 k0_h49 => k0_hw16.2.2.2.1 k0_h49
theorem k0_off101_inb : ∀ (i : grid0.Coords) (k0_t1 : Fin k0_t1_loop.trips) (v530 : BitVec 32) (k0_hw16 : k0_chk16 i k0_t1 v530), ∀ (k0_h50 : k0_cond50 i k0_t1 v530 = 1#1), ∀ a, (k0_off101 i k0_t1) a + S1x16x768.size a ≤ S3136x16x768.size a := fun i k0_t1 v530 k0_hw16 k0_h50 => k0_hw16.2.2.2.2.1 k0_h50
theorem k0_off102_inb : ∀ (i : grid0.Coords) (k0_t1 : Fin k0_t1_loop.trips) (v530 : BitVec 32) (k0_hw16 : k0_chk16 i k0_t1 v530), ∀ (k0_h50 : k0_cond50 i k0_t1 v530 = 1#1), ∀ a, (k0_off102 i v530) a + S1x16x768.size a ≤ S392x16x768.size a := fun i k0_t1 v530 k0_hw16 k0_h50 => k0_hw16.2.2.2.2.2 k0_h50

@[reducible] def k0_t2_loop (v59_0 : BitVec 32) : Scf.Loop 32 :=
  let c0_i32_34 : BitVec 32 := 0#32
  let v60 : BitVec 32 := Scalar.subi v59_0 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let c1_i32_36 : BitVec 32 := 1#32
  ⟨c0_i32_34, v64, c1_i32_36⟩

@[reducible] def k0_t3_loop (v59_0 : BitVec 32) : Scf.Loop 32 :=
  let c0_i32_34 : BitVec 32 := 0#32
  let v60 : BitVec 32 := Scalar.subi v59_0 c0_i32_34
  let c1_i32_35 : BitVec 32 := 1#32
  let v62 : BitVec 32 := Scalar.divsi v60 c1_i32_35
  let v63 : BitVec 32 := Scalar.muli v62 c1_i32_35
  let v64 : BitVec 32 := Scalar.addi c0_i32_34 v63
  let v61 : BitVec 32 := Scalar.addi c0_i32_34 v60
  let c1_i32_37 : BitVec 32 := 1#32
  ⟨v64, v61, c1_i32_37⟩

def k0_chk17 (v59_0 : BitVec 32) : Prop :=
  ((k0_t2_loop v59_0).OK) ∧
  ((k0_t3_loop v59_0).OK)
theorem k0_t2_ok : ∀ (v59_0 : BitVec 32) (k0_hw17 : k0_chk17 v59_0), (k0_t2_loop v59_0).OK := fun v59_0 k0_hw17 => k0_hw17.1
theorem k0_t3_ok : ∀ (v59_0 : BitVec 32) (k0_hw17 : k0_chk17 v59_0), (k0_t3_loop v59_0).OK := fun v59_0 k0_hw17 => k0_hw17.2

@[reducible] def k0_t4_loop (v59_1 : BitVec 32) : Scf.Loop 32 :=
  let c0_i32_39 : BitVec 32 := 0#32
  let v65 : BitVec 32 := Scalar.subi v59_1 c0_i32_39
  let c1_i32_40 : BitVec 32 := 1#32
  let v67 : BitVec 32 := Scalar.divsi v65 c1_i32_40
  let v68 : BitVec 32 := Scalar.muli v67 c1_i32_40
  let v69 : BitVec 32 := Scalar.addi c0_i32_39 v68
  let c1_i32_41 : BitVec 32 := 1#32
  ⟨c0_i32_39, v69, c1_i32_41⟩

def k0_off103 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c0_i32_48 : BitVec 32 := 0#32
  let c0_i32_52 : BitVec 32 := 0#32
  let c0_i32_53 : BitVec 32 := 0#32
  ![v20.toNat, 0, 0, 0]
@[reducible] def k0_t5_loop (v59_1 : BitVec 32) : Scf.Loop 32 :=
  let c0_i32_39 : BitVec 32 := 0#32
  let v65 : BitVec 32 := Scalar.subi v59_1 c0_i32_39
  let c1_i32_40 : BitVec 32 := 1#32
  let v67 : BitVec 32 := Scalar.divsi v65 c1_i32_40
  let v68 : BitVec 32 := Scalar.muli v67 c1_i32_40
  let v69 : BitVec 32 := Scalar.addi c0_i32_39 v68
  let v66 : BitVec 32 := Scalar.addi c0_i32_39 v65
  let c1_i32_42 : BitVec 32 := 1#32
  ⟨v69, v66, c1_i32_42⟩

def k0_chk18 (v59_1 : BitVec 32) : Prop :=
  ((k0_t4_loop v59_1).OK) ∧
  ((k0_t5_loop v59_1).OK)
theorem k0_t4_ok : ∀ (v59_1 : BitVec 32) (k0_hw18 : k0_chk18 v59_1), (k0_t4_loop v59_1).OK := fun v59_1 k0_hw18 => k0_hw18.1
theorem k0_t5_ok : ∀ (v59_1 : BitVec 32) (k0_hw18 : k0_chk18 v59_1), (k0_t5_loop v59_1).OK := fun v59_1 k0_hw18 => k0_hw18.2

def k0_off104 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_5 : BitVec 32 := 4#32
  let v20 : BitVec 32 := Scalar.remsi v18 c4_i32_5
  let c0_i32_48 : BitVec 32 := 0#32
  let c0_i32_52 : BitVec 32 := 0#32
  let c0_i32_53 : BitVec 32 := 0#32
  ![v20.toNat, 0, 0, 0]
@[reducible] def k0_t6_loop (v59_2 : BitVec 32) : Scf.Loop 32 :=
  let c0_i32_44 : BitVec 32 := 0#32
  let v70 : BitVec 32 := Scalar.subi v59_2 c0_i32_44
  let c1_i32_45 : BitVec 32 := 1#32
  let v72 : BitVec 32 := Scalar.divsi v70 c1_i32_45
  let v73 : BitVec 32 := Scalar.muli v72 c1_i32_45
  let v74 : BitVec 32 := Scalar.addi c0_i32_44 v73
  let c1_i32_46 : BitVec 32 := 1#32
  ⟨c0_i32_44, v74, c1_i32_46⟩

@[reducible] def k0_t7_loop (v59_2 : BitVec 32) : Scf.Loop 32 :=
  let c0_i32_44 : BitVec 32 := 0#32
  let v70 : BitVec 32 := Scalar.subi v59_2 c0_i32_44
  let c1_i32_45 : BitVec 32 := 1#32
  let v72 : BitVec 32 := Scalar.divsi v70 c1_i32_45
  let v73 : BitVec 32 := Scalar.muli v72 c1_i32_45
  let v74 : BitVec 32 := Scalar.addi c0_i32_44 v73
  let v71 : BitVec 32 := Scalar.addi c0_i32_44 v70
  let c1_i32_47 : BitVec 32 := 1#32
  ⟨v74, v71, c1_i32_47⟩

def k0_chk19 (v59_2 : BitVec 32) : Prop :=
  ((k0_t6_loop v59_2).OK) ∧
  ((k0_t7_loop v59_2).OK)
theorem k0_t6_ok : ∀ (v59_2 : BitVec 32) (k0_hw19 : k0_chk19 v59_2), (k0_t6_loop v59_2).OK := fun v59_2 k0_hw19 => k0_hw19.1
theorem k0_t7_ok : ∀ (v59_2 : BitVec 32) (k0_hw19 : k0_chk19 v59_2), (k0_t7_loop v59_2).OK := fun v59_2 k0_hw19 => k0_hw19.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x49x8 : Shape := ⟨3, ![8, 49, 8]⟩
abbrev S8x49x16x768 : Shape := ⟨4, ![8, 49, 16, 768]⟩
abbrev S8 : Shape := ⟨1, ![8]⟩
abbrev S8x1x1 : Shape := ⟨3, ![8, 1, 1]⟩
abbrev S_ : Shape := ⟨0, ![]⟩
abbrev S8x49x8x1 : Shape := ⟨4, ![8, 49, 8, 1]⟩
abbrev S8x49x8x2 : Shape := ⟨4, ![8, 49, 8, 2]⟩
abbrev S8x49x8x16x768 : Shape := ⟨5, ![8, 49, 8, 16, 768]⟩

abbrev nBuf : Space → Nat
  | .hbm => 24
  | .vmem => 0
  | .smem => 0
  | _ => 0

abbrev bufTy : (tb : Table) → Fin (tcTables nBuf tb) → BufTy
  | .hbm, ⟨0, _⟩ => ⟨S8x49x8, .i32⟩
  | .hbm, ⟨1, _⟩ => ⟨S8x49x8, .f32⟩
  | .hbm, ⟨2, _⟩ => ⟨S8x49x16x768, .f32⟩
  | .hbm, ⟨3, _⟩ => ⟨S8, .i32⟩
  | .hbm, ⟨4, _⟩ => ⟨S8x1x1, .i32⟩
  | .hbm, ⟨5, _⟩ => ⟨S_, .i32⟩
  | .hbm, ⟨6, _⟩ => ⟨S8x1x1, .i32⟩
  | .hbm, ⟨7, _⟩ => ⟨S8x1x1, .i1⟩
  | .hbm, ⟨8, _⟩ => ⟨S_, .i32⟩
  | .hbm, ⟨9, _⟩ => ⟨S8x1x1, .i32⟩
  | .hbm, ⟨10, _⟩ => ⟨S8x1x1, .i32⟩
  | .hbm, ⟨11, _⟩ => ⟨S8x1x1, .i32⟩
  | .hbm, ⟨12, _⟩ => ⟨S_, .i32⟩
  | .hbm, ⟨13, _⟩ => ⟨S8x49x8, .i32⟩
  | .hbm, ⟨14, _⟩ => ⟨S8x49x8, .i1⟩
  | .hbm, ⟨15, _⟩ => ⟨S_, .i32⟩
  | .hbm, ⟨16, _⟩ => ⟨S8x49x8, .i32⟩
  | .hbm, ⟨17, _⟩ => ⟨S8x49x8, .i32⟩
  | .hbm, ⟨18, _⟩ => ⟨S8x49x8, .i32⟩
  | .hbm, ⟨19, _⟩ => ⟨S8x49x8, .i32⟩
  | .hbm, ⟨20, _⟩ => ⟨S8x49x8x1, .i32⟩
  | .hbm, ⟨21, _⟩ => ⟨S8x49x8x1, .i32⟩
  | .hbm, ⟨22, _⟩ => ⟨S8x49x8x2, .i32⟩
  | .hbm, ⟨23, _⟩ => ⟨S8x49x8x16x768, .f32⟩
  | _, _ => ⟨S8x49x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Words.lean ====
/-
  The integer side of the gather kernel: which section, quarter and groups a tile serves, which of its three sources a
  table word names, and the closed forms of the offsets and conditions the kernel computes from them.

  Tile `(c, s)` of the grid is number `16·c + s`. Its SECTION is that number over 4, its QUARTER the remainder. A
  section has 392 words; the kernel pads them to 400 and reads them in 25 groups of sixteen. A word is an index below
  49, or the all-ones padding word, which names no row.
-/
module

public import proofs.«01_k».proof.Defs
public import proofs.«01_k».proof.Proof.Gen.KernelIdeal
public import proofs.«01_k».proof.Proof.Gen.KernelIdeal.Skeleton
public import Idealize.ShloMosaic.Lib.ValueLayout
public import Idealize.ShloMosaic.Lib.Pipeline.Value

@[expose] public section

set_option maxRecDepth 16384

namespace Cert.Proof.Words

open Cert.KernelIdeal Cert.KernelIdeal.Gen
open Idealize.ShloMosaic Idealize.ShloMosaic.ValueIdx

/-! ## The tile's numbers -/

/-- The tile's number among the thirty-two. -/
abbrev wid (i : grid0.Coords) : ℕ := 16 * (i 0).val + (i 1).val
/-- The section the tile works on. -/
abbrev sec (i : grid0.Coords) : ℕ := wid i / 4
/-- The quarter of its section the tile serves. -/
abbrev qtr (i : grid0.Coords) : ℕ := wid i % 4

theorem i0_lt (i : grid0.Coords) : (i 0).val < 2 := (i 0).isLt
theorem i1_lt (i : grid0.Coords) : (i 1).val < 16 := (i 1).isLt
theorem wid_lt (i : grid0.Coords) : wid i < 32 := by have := i0_lt i; have := i1_lt i; unfold wid; omega
theorem sec_lt (i : grid0.Coords) : sec i < 8 := by have := wid_lt i; unfold sec; omega
theorem qtr_lt (i : grid0.Coords) : qtr i < 4 := by unfold qtr; omega
theorem wid_eq (i : grid0.Coords) : wid i = 4 * sec i + qtr i := by unfold sec qtr; omega

/-- The quarter that serves group `g`: the first seven groups are quarter 0's, then six each. -/
def groupQ (g : ℕ) : ℕ := if g < 7 then 0 else (g - 1) / 6

theorem groupQ_lt {g : ℕ} (hg : g < 25) : groupQ g < 4 := by unfold groupQ; split <;> omega

/-! ## The tile's numbers as the kernel computes them -/

/-- The tile's number, as a machine word. -/
def widW (i : grid0.Coords) : BitVec 32 :=
  Scalar.addi (Scalar.muli (BitVec.ofNat 32 (i 0).val) 16#32) (BitVec.ofNat 32 (i 1).val)
/-- The section, by the kernel's floor division. -/
def secW (i : grid0.Coords) : BitVec 32 :=
  Scalar.select
    (Scalar.andi
      (Scalar.cmpi .ne
        (Scalar.subi (Scalar.extui (Scalar.cmpi .sgt (widW i) 0#32)) (Scalar.extui (Scalar.cmpi .slt (widW i) 0#32)))
        (Scalar.subi (Scalar.extui (Scalar.cmpi .sgt 4#32 0#32)) (Scalar.extui (Scalar.cmpi .slt 4#32 0#32))))
      (Scalar.cmpi .ne (Scalar.remsi (widW i) 4#32) 0#32))
    (Scalar.subi (Scalar.divsi (widW i) 4#32) 1#32) (Scalar.divsi (widW i) 4#32)
/-- The quarter. -/
def qtrW (i : grid0.Coords) : BitVec 32 := Scalar.remsi (widW i) 4#32
/-- The first group of the quarter. -/
def g0W (i : grid0.Coords) : BitVec 32 :=
  Scalar.select (Scalar.cmpi .eq (qtrW i) 0#32) 0#32 (Scalar.addi (Scalar.muli 6#32 (qtrW i)) 1#32)
/-- The group after the quarter's last. -/
def g1W (i : grid0.Coords) : BitVec 32 :=
  Scalar.addi (g0W i) (Scalar.select (Scalar.cmpi .eq (qtrW i) 0#32) 7#32 6#32)

/-- A statement about a tile's two coordinates, checked at the thirty-two. -/
theorem forall_coords {P : ℕ → ℕ → Prop} (h : ∀ (a : Fin 2) (b : Fin 16), P a.val b.val) (i : grid0.Coords) :
    P (i 0).val (i 1).val := h ⟨(i 0).val, i0_lt i⟩ ⟨(i 1).val, i1_lt i⟩

theorem secW_eq : ∀ i : grid0.Coords, secW i = BitVec.ofNat 32 (sec i) := by decide +kernel
theorem qtrW_eq : ∀ i : grid0.Coords, qtrW i = BitVec.ofNat 32 (qtr i) := by decide +kernel

theorem trips1 : k0_t1_loop.trips = 25 := by decide +kernel
theorem t1_lt (t : Fin k0_t1_loop.trips) : t.val < 25 := trips1 ▸ t.isLt

theorem iv_eq : ∀ t : Fin k0_t1_loop.trips, Scf.iv 0#32 1#32 t.val = BitVec.ofNat 32 t.val := by decide +kernel

/-- The group's bit, as the kernel computes it: the group lies in the quarter's range. -/
def mineW (i : grid0.Coords) (t : Fin k0_t1_loop.trips) : BitVec 1 :=
  Scalar.andi (Scalar.cmpi .sge (Scf.iv 0#32 1#32 t.val) (g0W i)) (Scalar.cmpi .slt (Scf.iv 0#32 1#32 t.val) (g1W i))

theorem mineW_eq : ∀ (i : grid0.Coords) (t : Fin k0_t1_loop.trips),
    mineW i t = if groupQ t.val = qtr i then 1#1 else 0#1 := by decide +kernel

/-! ## The words and what they name -/

/-- A word the kernel may read: an index below 49, or the padding word. -/
def Word (w : BitVec 32) : Prop := w.toNat < 49 ∨ w = 0xFFFFFFFF#32

/-- Word `w` at place `b` of the section is a row of the tile's own eight staged rows. -/
def Own1 (i : grid0.Coords) (w : BitVec 32) : Prop := 8 * qtr i ≤ w.toNat ∧ w.toNat < 8 * qtr i + 8
/-- It is one of the nine rows the section's tiles share, in one of the tile's groups. -/
def Own2 (i : grid0.Coords) (b : ℕ) (w : BitVec 32) : Prop := 32 ≤ w.toNat ∧ w.toNat < 41 ∧ groupQ (b / 16) = qtr i
/-- It is one of the rows that stay in the table, in one of the tile's groups. -/
def Own3 (i : grid0.Coords) (b : ℕ) (w : BitVec 32) : Prop := 41 ≤ w.toNat ∧ w.toNat < 49 ∧ groupQ (b / 16) = qtr i

instance (i : grid0.Coords) (w : BitVec 32) : Decidable (Own1 i w) := by unfold Own1; infer_instance
instance (i : grid0.Coords) (b : ℕ) (w : BitVec 32) : Decidable (Own2 i b w) := by unfold Own2; infer_instance
instance (i : grid0.Coords) (b : ℕ) (w : BitVec 32) : Decidable (Own3 i b w) := by unfold Own3; infer_instance

/-- A property of every word the kernel may read, checked at the fifty. -/
theorem forall_word {P : BitVec 32 → Prop} (h : ∀ n : Fin 49, P (BitVec.ofNat 32 n.val)) (h' : P 0xFFFFFFFF#32)
    {w : BitVec 32} (hw : Word w) : P w := by
  rcases hw with hw | rfl
  · have := h ⟨w.toNat, hw⟩
    rwa [show BitVec.ofNat 32 w.toNat = w from by simp] at this
  · exact h'

/-- The first source's bit, as the kernel computes it. -/
def bit1 (i : grid0.Coords) (w : BitVec 32) : BitVec 1 :=
  Scalar.andi (Scalar.cmpi .sge (Scalar.subi w (Scalar.muli 8#32 (qtrW i))) 0#32)
    (Scalar.cmpi .slt (Scalar.subi w (Scalar.muli 8#32 (qtrW i))) 8#32)
/-- The second source's. -/
def bit2 (i : grid0.Coords) (t : Fin k0_t1_loop.trips) (w : BitVec 32) : BitVec 1 :=
  Scalar.andi (Scalar.andi (Scalar.cmpi .sge w 32#32) (Scalar.cmpi .slt w 41#32)) (mineW i t)
/-- The third source's. -/
def bit3 (i : grid0.Coords) (t : Fin k0_t1_loop.trips) (w : BitVec 32) : BitVec 1 :=
  Scalar.andi (Scalar.cmpi .sge w 41#32) (mineW i t)

theorem bit1_all : ∀ (i : grid0.Coords),
    (∀ n : Fin 49, bit1 i (BitVec.ofNat 32 n.val) = if Own1 i (BitVec.ofNat 32 n.val) then 1#1 else 0#1) ∧
      bit1 i 0xFFFFFFFF#32 = if Own1 i 0xFFFFFFFF#32 then 1#1 else 0#1 := by decide +kernel

theorem bit1_eq (i : grid0.Coords) {w : BitVec 32} (hw : Word w) : bit1 i w = if Own1 i w then 1#1 else 0#1 :=
  forall_word (P := fun w => bit1 i w = if Own1 i w then 1#1 else 0#1) (bit1_all i).1 (bit1_all i).2 hw

theorem and_mine (x : BitVec 1) (i : grid0.Coords) (t : Fin k0_t1_loop.trips) (p : Prop) [Decidable p]
    (hx : x = if p then 1#1 else 0#1) :
    Scalar.andi x (mineW i t) = if p ∧ groupQ t.val = qtr i then 1#1 else 0#1 := by
  rw [hx, mineW_eq]
  by_cases h : p <;> by_cases h' : groupQ t.val = qtr i <;> simp [h, h', Scalar.andi, IntOp.andi]

theorem range2 {w : BitVec 32} (hw : Word w) :
    Scalar.andi (Scalar.cmpi .sge w 32#32) (Scalar.cmpi .slt w 41#32)
      = if 32 ≤ w.toNat ∧ w.toNat < 41 then 1#1 else 0#1 :=
  forall_word (P := fun w => Scalar.andi (Scalar.cmpi .sge w 32#32) (Scalar.cmpi .slt w 41#32)
      = if 32 ≤ w.toNat ∧ w.toNat < 41 then 1#1 else 0#1) (by decide +kernel) (by decide +kernel) hw

theorem range3 {w : BitVec 32} (hw : Word w) :
    Scalar.cmpi .sge w 41#32 = if 41 ≤ w.toNat ∧ w.toNat < 49 then 1#1 else 0#1 :=
  forall_word (P := fun w => Scalar.cmpi .sge w 41#32 = if 41 ≤ w.toNat ∧ w.toNat < 49 then 1#1 else 0#1)
    (by decide +kernel) (by decide +kernel) hw

theorem bit2_eq (i : grid0.Coords) (t : Fin k0_t1_loop.trips) (j : ℕ) (hj : j < 16) {w : BitVec 32} (hw : Word w) :
    bit2 i t w = if Own2 i (16 * t.val + j) w then 1#1 else 0#1 := by
  unfold bit2
  rw [and_mine _ i t _ (range2 hw)]
  refine if_congr ?_ rfl rfl
  unfold Own2
  rw [show (16 * t.val + j) / 16 = t.val by omega]
  exact and_assoc

theorem bit3_eq (i : grid0.Coords) (t : Fin k0_t1_loop.trips) (j : ℕ) (hj : j < 16) {w : BitVec 32} (hw : Word w) :
    bit3 i t w = if Own3 i (16 * t.val + j) w then 1#1 else 0#1 := by
  unfold bit3
  rw [and_mine _ i t _ (range3 hw)]
  refine if_congr ?_ rfl rfl
  unfold Own3
  rw [show (16 * t.val + j) / 16 = t.val by omega]
  exact and_assoc

/-- The condition a guard tests: its bit widened and compared against zero. -/
def guard (x : BitVec 1) : BitVec 1 := Scalar.cmpi .ne (Scalar.extui x : BitVec 32) 0#32

theorem guard_ite (p : Prop) [Decidable p] : guard (if p then 1#1 else 0#1) = 1#1 ↔ p := by
  by_cases h : p
  · simp only [h, if_true, iff_true]; decide +kernel
  · simp only [h, if_false, iff_false]; decide +kernel

theorem guard1 (i : grid0.Coords) {w : BitVec 32} (hw : Word w) : guard (bit1 i w) = 1#1 ↔ Own1 i w := by
  rw [bit1_eq i hw, guard_ite]
theorem guard2 (i : grid0.Coords) (t : Fin k0_t1_loop.trips) (j : ℕ) (hj : j < 16) {w : BitVec 32} (hw : Word w) :
    guard (bit2 i t w) = 1#1 ↔ Own2 i (16 * t.val + j) w := by rw [bit2_eq i t j hj hw, guard_ite]
theorem guard3 (i : grid0.Coords) (t : Fin k0_t1_loop.trips) (j : ℕ) (hj : j < 16) {w : BitVec 32} (hw : Word w) :
    guard (bit3 i t w) = 1#1 ↔ Own3 i (16 * t.val + j) w := by rw [bit3_eq i t j hj hw, guard_ite]

/-! ## The offsets -/

/-- The destination row of lane `j` of group `t`. -/
def outOff (i : grid0.Coords) (t : Fin k0_t1_loop.trips) (j : BitVec 32) : Fin 3 → ℕ :=
  ![(Scalar.addi (Scalar.muli (secW i) 392#32) (Scalar.addi (Scalar.muli (Scf.iv 0#32 1#32 t.val) 16#32) j)).toNat, 0, 0]
/-- The source row among the tile's own. -/
def srcOff1 (i : grid0.Coords) (w : BitVec 32) : Fin 3 → ℕ := ![(Scalar.subi w (Scalar.muli 8#32 (qtrW i))).toNat, 0, 0]
/-- The source row among the shared ones, in the section's slot. -/
def srcOff2 (i : grid0.Coords) (w : BitVec 32) : Fin 4 → ℕ :=
  ![(Scalar.remsi (secW i) 4#32).toNat, (Scalar.subi w 32#32).toNat, 0, 0]
/-- The source row in the table. -/
def srcOff3 (i : grid0.Coords) (w : BitVec 32) : Fin 3 → ℕ := ![(Scalar.addi (Scalar.muli (secW i) 49#32) w).toNat, 0, 0]

theorem outOff_eq (i : grid0.Coords) (t : Fin k0_t1_loop.trips) (j : ℕ) (hj : j < 16) :
    outOff i t (BitVec.ofNat 32 j) = ![392 * sec i + (16 * t.val + j), 0, 0] := by
  have h1 := sec_lt i; have h2 := t1_lt t
  have : (Scalar.addi (Scalar.muli (secW i) 392#32)
      (Scalar.addi (Scalar.muli (Scf.iv 0#32 1#32 t.val) 16#32) (BitVec.ofNat 32 j))).toNat = 392 * sec i + (16 * t.val + j) := by
    rw [secW_eq, iv_eq]
    simp only [Scalar.addi, Scalar.muli, IntOp.addi, IntOp.muli, BitVec.toNat_add, BitVec.toNat_mul, BitVec.toNat_ofNat]
    omega
  unfold outOff; rw [this]

theorem srcOff1_eq (i : grid0.Coords) {w : BitVec 32} (hw : Own1 i w) : srcOff1 i w = ![w.toNat - 8 * qtr i, 0, 0] := by
  have h1 := qtr_lt i
  have : (Scalar.subi w (Scalar.muli 8#32 (qtrW i))).toNat = w.toNat - 8 * qtr i := by
    rw [qtrW_eq]
    unfold Own1 at hw
    simp only [Scalar.subi, Scalar.muli, IntOp.subi, IntOp.muli, BitVec.toNat_sub, BitVec.toNat_mul, BitVec.toNat_ofNat]
    omega
  unfold srcOff1; rw [this]

theorem slotW_eq : ∀ i : grid0.Coords, (Scalar.remsi (secW i) 4#32).toNat = sec i % 4 := by decide +kernel

theorem srcOff2_eq (i : grid0.Coords) {b : ℕ} {w : BitVec 32} (hw : Own2 i b w) :
    srcOff2 i w = ![sec i % 4, w.toNat - 32, 0, 0] := by
  have : (Scalar.subi w 32#32).toNat = w.toNat - 32 := by
    unfold Own2 at hw
    simp only [Scalar.subi, IntOp.subi, BitVec.toNat_sub, BitVec.toNat_ofNat]
    omega
  unfold srcOff2; rw [this, slotW_eq]

theorem srcOff3_eq (i : grid0.Coords) {b : ℕ} {w : BitVec 32} (hw : Own3 i b w) :
    srcOff3 i w = ![49 * sec i + w.toNat, 0, 0] := by
  have h1 := sec_lt i
  have : (Scalar.addi (Scalar.muli (secW i) 49#32) w).toNat = 49 * sec i + w.toNat := by
    rw [secW_eq]
    unfold Own3 at hw
    simp only [Scalar.addi, Scalar.muli, IntOp.addi, IntOp.muli, BitVec.toNat_add, BitVec.toNat_mul, BitVec.toNat_ofNat]
    omega
  unfold srcOff3; rw [this]

theorem off1_eq : ∀ i : grid0.Coords, k0_off1 i = ![49 * sec i + 8 * qtr i, 0, 0] := by decide +kernel
theorem off2_eq : ∀ i : grid0.Coords, k0_off2 i = ![sec i % 4, 0, 0, 0] := by decide +kernel
theorem off3_eq : ∀ i : grid0.Coords, k0_off3 i = ![49 * sec i + 32, 0, 0] := by decide +kernel
theorem off4_eq : ∀ i : grid0.Coords, k0_off4 i = ![392 * sec i] := by decide +kernel
theorem off5_eq : ∀ i : grid0.Coords, k0_off5 i = ![sec i % 4, 0, 0, 0] := by decide +kernel
theorem cond1_iff : ∀ i : grid0.Coords, k0_cond1 i = 1#1 ↔ qtr i = 0 := by decide +kernel
theorem cond2_iff : ∀ i : grid0.Coords, k0_cond2 i = 1#1 ↔ qtr i = 0 := by decide +kernel

/-! ## The side conditions of a word

The rows a word names lie in bounds whenever its guard holds; the output row does for every real place of the section. -/

theorem inb1 (i : grid0.Coords) {w : BitVec 32} (hw : Word w) (h : guard (bit1 i w) = 1#1) :
    ∀ a, srcOff1 i w a + S1x16x768.size a ≤ S8x16x768.size a := by
  have ho := (guard1 i hw).mp h
  rw [srcOff1_eq i ho]
  unfold Own1 at ho
  intro a
  fin_cases a <;> simp [S1x16x768, S8x16x768] <;> omega

theorem inb2 (i : grid0.Coords) (t : Fin k0_t1_loop.trips) {w : BitVec 32} (hw : Word w) (h : guard (bit2 i t w) = 1#1) :
    ∀ a, srcOff2 i w a + S1x1x16x768.size a ≤ S4x9x16x768.size a := by
  have ho := (guard2 i t 0 (by omega) hw).mp h
  rw [srcOff2_eq i ho]
  unfold Own2 at ho
  intro a
  fin_cases a <;> simp [S1x1x16x768, S4x9x16x768] <;> omega

theorem inb3 (i : grid0.Coords) (t : Fin k0_t1_loop.trips) {w : BitVec 32} (hw : Word w) (h : guard (bit3 i t w) = 1#1) :
    ∀ a, srcOff3 i w a + S1x16x768.size a ≤ S392x16x768.size a := by
  have ho := (guard3 i t 0 (by omega) hw).mp h
  rw [srcOff3_eq i ho]
  have := sec_lt i
  unfold Own3 at ho
  intro a
  fin_cases a <;> simp [S1x16x768, S392x16x768] <;> omega

/-- What the kernel asks of the word of lane 0. -/
theorem chk_lane (i : grid0.Coords) (t : Fin k0_t1_loop.trips) {w : BitVec 32} (hw : Word w) : k0_chk1 i t w :=
  ⟨fun h => inb1 i hw h, fun h => inb2 i t hw h, fun h => inb3 i t hw h⟩

theorem outInb (i : grid0.Coords) (t : Fin k0_t1_loop.trips) (j : ℕ) (hj : j < 16) (hb : 16 * t.val + j < 392) :
    ∀ a, outOff i t (BitVec.ofNat 32 j) a + S1x16x768.size a ≤ S3136x16x768.size a := by
  have := sec_lt i
  rw [outOff_eq i t j hj]
  intro a
  fin_cases a <;> simp [S1x16x768, S3136x16x768] <;> omega

/-- What the kernel asks of the word of a lane from 8 on: the output row too, since the last group's are past the
    section's end, where the words are the padding word. -/
theorem chk_tail (i : grid0.Coords) (t : Fin k0_t1_loop.trips) (j : ℕ) (hj : j < 16) {w : BitVec 32} (hw : Word w)
    (hb : 16 * t.val + j < 392 ∨ w = 0xFFFFFFFF#32) :
    (guard (bit1 i w) = 1#1 → ∀ a, srcOff1 i w a + S1x16x768.size a ≤ S8x16x768.size a)
    ∧ (guard (bit1 i w) = 1#1 → ∀ a, outOff i t (BitVec.ofNat 32 j) a + S1x16x768.size a ≤ S3136x16x768.size a)
    ∧ (guard (bit2 i t w) = 1#1 → ∀ a, outOff i t (BitVec.ofNat 32 j) a + S1x16x768.size a ≤ S3136x16x768.size a)
    ∧ (guard (bit2 i t w) = 1#1 → ∀ a, srcOff2 i w a + S1x1x16x768.size a ≤ S4x9x16x768.size a)
    ∧ (guard (bit3 i t w) = 1#1 → ∀ a, outOff i t (BitVec.ofNat 32 j) a + S1x16x768.size a ≤ S3136x16x768.size a)
    ∧ (guard (bit3 i t w) = 1#1 → ∀ a, srcOff3 i w a + S1x16x768.size a ≤ S392x16x768.size a) := by
  have hq := qtr_lt i
  have hp : ∀ n, n < 49 → w.toNat < n → w ≠ 0xFFFFFFFF#32 := fun n hn h e => by
    rw [e, show (0xFFFFFFFF#32).toNat = 4294967295 from rfl] at h; omega
  refine ⟨inb1 i hw, fun h => outInb i t j hj (hb.resolve_right ?_), fun h => outInb i t j hj (hb.resolve_right ?_),
    inb2 i t hw, fun h => outInb i t j hj (hb.resolve_right ?_), inb3 i t hw⟩
  · exact hp _ (by omega) ((guard1 i hw).mp h).2
  · exact hp 41 (by omega) ((guard2 i t j hj hw).mp h).2.1
  · intro e
    have := ((guard3 i t j hj hw).mp h).2.1
    rw [e, show (0xFFFFFFFF#32).toNat = 4294967295 from rfl] at this; omega

/-! ## The lanes of a group -/

/-- Lane `j` of the sixteen words read, as the kernel extracts it. -/
theorem lane_eq (v : IVec S16 32) (j : ℕ) (hj : j < 16) (h : S16.Slices ![j] S1)
    (h' : ∀ a, (![0] : Fin 1 → ℕ) a < S1.size a) :
    extractAt ![0] (extractStridedSlice S1 ![j] (shapeCast S16 v shapeCasts_S16_S16) h) h' = v (ix1 ⟨j, hj⟩) := by
  rw [shapeCast_self]
  unfold extractAt extractStridedSlice
  refine congrArg v (funext fun a => ?_)
  obtain rfl : a = 0 := Subsingleton.elim _ _
  exact Fin.ext (Nat.add_zero j)

/-- A counter goes up by the guard's bit. -/
theorem count_step (p : ℕ → Prop) [DecidablePred p] (b : ℕ) {x : BitVec 1} (hx : x = if p b then 1#1 else 0#1) :
    Scalar.addi (BitVec.ofNat 32 (Nat.count p b)) (Scalar.select x 1#32 0#32) = BitVec.ofNat 32 (Nat.count p (b + 1)) := by
  subst hx
  rw [Nat.count_succ]
  by_cases h : p b <;> simp [h, Scalar.addi, IntOp.addi, Scalar.select, BitVec.ofNat_add]

/-! ## The loops that drain the copies -/

theorem trips_drain (n : ℕ) (hn : n ≤ 400) :
    (k0_t2_loop (BitVec.ofNat 32 n)).trips = n ∧ (k0_t4_loop (BitVec.ofNat 32 n)).trips = n
      ∧ (k0_t6_loop (BitVec.ofNat 32 n)).trips = n := by
  have h : ∀ n : Fin 401, (k0_t2_loop (BitVec.ofNat 32 n.val)).trips = n.val ∧ (k0_t4_loop (BitVec.ofNat 32 n.val)).trips = n.val
      ∧ (k0_t6_loop (BitVec.ofNat 32 n.val)).trips = n.val := by decide +kernel
  exact h ⟨n, by omega⟩

theorem trips_rest (w : BitVec 32) :
    (k0_t3_loop w).trips = 0 ∧ (k0_t5_loop w).trips = 0 ∧ (k0_t7_loop w).trips = 0 :=
  ⟨Nat.le_zero.mp (k0_t3_abs w).2.1, Nat.le_zero.mp (k0_t5_abs w).2.1, Nat.le_zero.mp (k0_t7_abs w).2.1⟩

theorem chk17 (w : BitVec 32) : k0_chk17 w := ⟨(k0_t2_abs w).1, (k0_t3_abs w).1⟩
theorem chk18 (w : BitVec 32) : k0_chk18 w := ⟨(k0_t4_abs w).1, (k0_t5_abs w).1⟩
theorem chk19 (w : BitVec 32) : k0_chk19 w := ⟨(k0_t6_abs w).1, (k0_t7_abs w).1⟩

end Cert.Proof.Words
-- ==== Proof.Setup.lean ====
/-
  The kernel as the launch theorem sees it, the buffers and what they hold, and the barrier cells of the thirty-two
  tiles with what each tile hands over there.
-/
module

public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueLayout
public import Idealize.ShloMosaic.Lib.Tactic

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers -/

/-- The words, as the kernel reads them: one line of 3136. -/
abbrev wLoc (d : Dev nD) : Loc nD τ sig := (SparseCore.T d).loc main_v0
/-- The table: 392 rows of 16 × 768. -/
abbrev tLoc (d : Dev nD) : Loc nD τ sig := (SparseCore.T d).loc main_v1
/-- The kernel's result: 3136 rows of 16 × 768. -/
abbrev oLoc (d : Dev nD) : Loc nD τ sig := (SparseCore.T d).loc main_v2

local notation "wV" => (Memref.whole Cert.KernelIdeal.main_v0_scv : Memref Cert.KernelIdeal.sig Kind.scVector Space.hbm Cert.KernelIdeal.S3136 EltTy.i32)
local notation "tV" => (Memref.whole Cert.KernelIdeal.main_v1_scv : Memref Cert.KernelIdeal.sig Kind.scVector Space.hbm Cert.KernelIdeal.S392x16x768 EltTy.f32)
local notation "oV" => (Memref.whole Cert.KernelIdeal.main_v2_scv : Memref Cert.KernelIdeal.sig Kind.scVector Space.hbm Cert.KernelIdeal.S3136x16x768 EltTy.f32)

/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

/-! ## What the buffers hold -/

/-- The words and the table a launch is given. -/
abbrev Wds : Type := S3136.Idx → BitVec 32
abbrev Tab (F : FTy → Type) : Type := S392x16x768.Idx → F .f32

variable (fI : Wds) (fT : Tab F)

/-- Word `p` of section `s`; past the section's 392 words, the padding word. -/
def word (s p : ℕ) : BitVec 32 :=
  if p < 392 then fI (ix1 ⟨(392 * s + p) % 3136, Nat.mod_lt _ (by decide)⟩) else 0xFFFFFFFF#32

/-- Row `n` of the table at `(y, z)`. -/
def tabAt (n : ℕ) (y : Fin 16) (z : Fin 768) : F .f32 := fT (ix3 ⟨n % 392, Nat.mod_lt _ (by decide)⟩ y z)

/-- The kernel's result: row `392·s + p` is row `49·s + word s p` of the table. -/
def gOut : S3136x16x768.Idx → F .f32 := fun x =>
  tabAt fT (49 * ((x 0).val / 392) + (word fI ((x 0).val / 392) ((x 0).val % 392)).toNat) (x 1) (x 2)

/-- The tile's own copy of rows `8·q … 8·q + 7` of its section. -/
def gOwn (i : grid0.Coords) : S8x16x768.Idx → F .f32 := fun x => tabAt fT (49 * sec i + 8 * qtr i + (x 0).val) (x 1) (x 2)

/-- The shared copy of rows `32 … 40` of the four sections of SparseCore `c`. -/
def gShared (c : ℕ) : S4x9x16x768.Idx → F .f32 := fun x => tabAt fT (49 * (4 * c + (x 0).val) + 32 + (x 1).val) (x 2) (x 3)

/-- The tile's copy of its section's words, padded to 432. -/
def gWords (i : grid0.Coords) : S432.Idx → BitVec 32 := fun x => word fI (sec i) (x 0).val

/-- The quarter that writes position `p` of section `s`. -/
def writer (s p : ℕ) : ℕ := if (word fI s p).toNat < 32 then (word fI s p).toNat / 8 else groupQ (p / 16)

/-- The elements of the result that tile `w` writes. -/
def oSet (w : ℕ) : Finset S3136x16x768.Idx :=
  Finset.univ.filter fun x => 4 * ((x 0).val / 392) + writer fI ((x 0).val / 392) ((x 0).val % 392) = w

/-- Row `n` of the result. -/
def oRow (n : ℕ) : Finset S3136x16x768.Idx := Finset.univ.filter fun x => (x 0).val = n

/-- Slot `n` of the shared scratch. -/
def shSlot (n : ℕ) : Finset S4x9x16x768.Idx := Finset.univ.filter fun x => (x 0).val = n

theorem word_word (hI : ∀ x, (fI x).toNat < 49) (s p : ℕ) : Word (word fI s p) := by
  unfold word; split
  · exact .inl (hI _)
  · exact .inr rfl

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- The share of its section's slot that tile `j` reads: one of four. -/
abbrev slotShare (j : ℕ) : PosShare TreeShare := Transfers.shareTokN fullShare (j % 4)

/-- Tile `j`'s share of its section's slot of the shared scratch, filled. -/
abbrev slotPts (d : Dev nD) (c : Fin τ.nSC) (j : ℕ) : sProp 𝕄 :=
  shLoc d c ↦[shSlot (j / 4)]{slotShare j} (gShared fT c.val : Buf (Elt F) (shLoc d c))

/-- What a duty in tile `j`'s round hands over: that of the tile which filled `j`'s slot, `j`'s share of it; the
    others', nothing. -/
def bPay (g : GSem nD τ sig) (n : ℕ) : sProp 𝕄 :=
  match g with
  | ((d, .scVector c j), _) => if n = 4 * (j.val / 4) then slotPts fT d c j.val else iprop(emp)
  | _ => iprop(emp)

/-- The barrier cells' schedule: one round on each, of one unit duty per tile of the SparseCore (named by its number),
    the filling tile's handing over a share of the slot. -/
def bRd : Rounds.Schedule (GSem nD τ sig) ℕ 𝕄 where
  duties g r := if isBar g ∧ r = 0 then (Finset.univ : Finset (Fin τ.nSub)).image Fin.val else ∅
  amount _ _ _ := 1
  payload g _ n := bPay fT g n
  amount_pos _ _ _ _ := Nat.one_pos

instance bRd_payload_storable (g : GSem nD τ sig) (r n : ℕ) : BI.Storable (upEmb : UEmb _ 𝕄) ((bRd fT).payload g r n) := by
  show BI.Storable upEmb (bPay fT g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd fT).duties (bcell d c j) 0 = (Finset.univ : Finset (Fin τ.nSub)).image Fin.val := by
  simp [bRd, isBar]
theorem bRd_duties_succ (g : GSem nD τ sig) (r : ℕ) (hr : 1 ≤ r) : (bRd fT).duties g r = ∅ :=
  if_neg fun h => absurd h.2 (Nat.ne_of_gt hr)
theorem bRd_mem₀ (d : Dev nD) (c : Fin τ.nSC) (j i : Fin τ.nSub) : i.val ∈ (bRd fT).duties (bcell d c j) 0 := by
  rw [bRd_duties₀]; exact Finset.mem_image_of_mem _ (Finset.mem_univ i)
theorem bRd_expect (d : Dev nD) (c : Fin τ.nSC) (j : Fin τ.nSub) : 0 + grid0.bound 1 = (bRd fT).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has each tile of SparseCore `c` owe for the barrier: a unit on every tile's cell of it, at the
    call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its
    own position at the origin of round 0, its duty token in every tile's round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd fT) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Cert.Proof

end
-- ==== Proof.Lend.lean ====
/-
  Copies issued under a guard: the rows still to be written, the copies in flight, and the step from one position to the
  next, whether or not the guard holds. And what a copy borrows: a share of its source for each position.
-/
module

public import proofs.«01_k».proof.Proof.Setup

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The counters of the transfers. -/
abbrev EC : UEmb Counters (MT nD τ sig (HIx 1) (Elt F) ℕ UU ℕ) := countersEmb

/-! ## Lending pieces of a buffer -/

/-- A buffer held at a share lends, for each chosen `b` below `n`, the piece `R b` at a share of its own, and is whole
    again when they are back. -/
theorem lend {ℓ : Loc nD τ sig} {S : Finset (Idx ℓ)} {q : PosShare TreeShare} {f : Buf (Elt F) ℓ} (n : ℕ) (P : ℕ → Prop) [DecidablePred P]
    (R : ℕ → Finset (Idx ℓ)) (hR : ∀ b < n, P b → R b ⊆ S) :
    (ℓ ↦[S]{q} f : sProp 𝕄) ⊢ iprop((bigSep ((Finset.range n).filter P) fun b => ℓ ↦[R b]{Transfers.shareTokN q b} f)
      ∗ ((bigSep ((Finset.range n).filter P) fun b => ℓ ↦[R b]{Transfers.shareTokN q b} f) -∗ ℓ ↦[S]{q} f)) := by
  have h1 : (ℓ ↦[S]{q} f : sProp 𝕄) = iprop((ℓ ↦[S]{Transfers.shareDrop q n} f)
      ∗ bigSep (Finset.range n) fun b => ℓ ↦[S]{Transfers.shareTokN q b} f) :=
    Entails.antisymm (Transfers.pointsTo_toks_range q n).1 (Transfers.pointsTo_toks_range q n).2
  have h2 : (bigSep ((Finset.range n).filter P) fun b => (ℓ ↦[S]{Transfers.shareTokN q b} f : sProp 𝕄))
      = iprop((bigSep ((Finset.range n).filter P) fun b => ℓ ↦[R b]{Transfers.shareTokN q b} f)
        ∗ bigSep ((Finset.range n).filter P) fun b => ℓ ↦[S \ R b]{Transfers.shareTokN q b} f) := by
    rw [← bigSep_sep']
    refine bigSep_congr fun b hb => ?_
    have hb' := Finset.mem_filter.mp hb
    have h := pointsTo_split_subset (ℓ := ℓ) (q := Transfers.shareTokN q b) (f := f) (Ix := HIx 1) (Name := ℕ) (U := UU) (Lvl := ℕ)
      (hR b (Finset.mem_range.mp hb'.1) hb'.2)
    exact Entails.antisymm h.1 h.2
  rw [h1, SparseCore.bigSep_filter_split' (Finset.range n) P, h2]
  iintro ⟨H0, H12, H3⟩
  icases H12 with ⟨H1, H2⟩
  isplitl [H1]; · iexact H1
  iintro H1
  isplitl [H0]; · iexact H0
  isplitr [H3]
  · isplitl [H1] <;> iassumption
  iexact H3

/-! ## The position of a copy, from its number -/

section Pos

variable (own : ℕ → Prop) [DecidablePred own]

open Classical in
/-- The `own` position before which `t` others lie. -/
def pos (t : ℕ) : ℕ := if h : ∃ b, own b ∧ Nat.count own b = t then Nat.find h else 0

theorem pos_count {b : ℕ} (h : own b) : pos own (Nat.count own b) = b := by
  classical
  have hex : ∃ b', own b' ∧ Nat.count own b' = Nat.count own b := ⟨b, h, rfl⟩
  unfold pos
  rw [dif_pos hex]
  exact Nat.count_injective (Nat.find_spec hex).1 h (Nat.find_spec hex).2

theorem bigSep_pos (Φ : ℕ → sProp 𝕄) (n : ℕ) :
    (bigSep (Finset.range (Nat.count own n)) fun t => Φ (pos own t)) = bigSep ((Finset.range n).filter own) Φ := by
  induction n with
  | zero => simp
  | succ n ih =>
    rw [Nat.count_succ, Finset.range_add_one (n := n), Finset.filter_insert]
    by_cases h : own n
    · rw [if_pos h, if_pos h, Finset.range_add_one, SparseCore.bigSep_insert' (by simp), SparseCore.bigSep_insert' (by simp), ih,
        pos_count own h]
    · rw [if_neg h, if_neg h]; exact ih

end Pos

/-! ## The rows still to be written and the copies in flight -/

section Kind

variable (c : Thread nD τ) (own : ℕ → Prop) [DecidablePred own]
variable (Pre Post : ℕ → sProp (MT nD τ sig (HIx 1) (Elt F) ℕ UU ℕ)) (N : ℕ) (sm : DmaSem sig)

/-- The copies that complete on `sm`, one for each position below 400 that is `own`: those before position `b` are
    issued, in order, and what the others need is at hand. -/
def Kind (b : ℕ) : sProp 𝕄 :=
  iprop((bigSep ((Finset.Ico b 400).filter own) Pre)
    ∗ Transfers.Batch EC c (.dma sm) (default : HIx 1) N (fun t : Fin (Nat.count own 400) => Post (pos own t.val)) (Nat.count own b) 0)

theorem kind_skip {b : ℕ} (hb : b < 400) (h : ¬ own b) : Kind c own Pre Post N sm b = Kind c own Pre Post N sm (b + 1) := by
  unfold Kind
  rw [← Finset.insert_Ico_add_one_left_eq_Ico hb, Finset.filter_insert, if_neg h, Nat.count_succ (p := own) (n := b), if_neg h]; rfl

/-- One more copy issued. -/
theorem kind_issue {b : ℕ} (hb : b < 400) (h : own b) {defs : Defs nD τ sig (Elt F) Λ₀} {bd : Option 𝒱₀.V} {α : Type} {Q : α → sProp 𝕄}
    {sp sp' : Space} {s : Shape} {e : EltTy} {src : Memref sig c.2.kind sp s e} {dst : Memref sig c.2.kind sp' s e}
    {hsrc : src.view.WordExact} {hdst : dst.view.WordExact} {hsem : DmaTarget.Typed (nD := nD) sp (.dma sm) (.here dst)}
    {R : Prog (TpuEff nD τ sig (Elt F) Λ₀ c.2) α} {q : PosShare TreeShare} {fs : Buf (Elt F) (src.view.loc c)}
    {fd : Buf (Elt F) (dst.view.loc c)}
    (hN : dst.view.amount (.dma sm) = N)
    (hpre : Pre b ⊢ iprop((src.view.loc c ↦[src.view.set]{q} fs) ∗ dst.view.loc c ↦[dst.view.set]{fullShare} fd))
    (hpost : iprop((dst.view.loc c ↦[dst.view.set]{fullShare} dst.view.write (Elt F) fd (src.view.read (Elt F) fs) Finset.univ)
      ∗ src.view.loc c ↦[src.view.set]{q} fs) ⊢ Post b) (X : sProp 𝕄)
    (hk : iprop(Kind c own Pre Post N sm (b + 1) ∗ X) ⊢ wp frame (wpE defs 𝒱₀ c bd) Set.univ R Q) :
    iprop(Kind c own Pre Post N sm b ∗ X)
      ⊢ wp frame (wpE defs 𝒱₀ c bd) Set.univ (Prog.lift (TpuEff.enqueueDma src (.here dst) (.dma sm) hsrc hdst hsem) >>= fun _ => R) Q := by
  have hj : Nat.count own b < Nat.count own 400 := Nat.count_strict_mono h hb
  refine .trans ?_ (show wp frame (wpE defs 𝒱₀ c bd) Set.univ
    (.op (.enqueueDmaAs src (.here dst) .same (.dma sm) hsrc hdst hsem) fun _ => R) Q ⊢ _ from .rfl)
  unfold Kind
  rw [← Finset.insert_Ico_add_one_left_eq_Ico hb, Finset.filter_insert, if_pos h, SparseCore.bigSep_insert' (by simp)]
  iintro ⟨⟨⟨Hp, Hs⟩, HB⟩, HX⟩
  ihave Hp' := hpre $$ Hp
  icases Hp' with ⟨Hsrc, Hdst⟩
  iapply (Transfers.wp_dmaBatch EC 𝒱₀ c bd (default : HIx 1) N hN (Finset.Subset.refl _) hj (Nat.zero_le _)
    (D := fun t : Fin (Nat.count own 400) => Post (pos own t.val)) (hD := by
      dsimp only
      rw [pos_count own h]
      exact hpost)) $$ [Hsrc Hdst HB]
  · isplitl [Hsrc]; · iexact Hsrc
    isplitl [Hdst]; · iexact Hdst
    iexact HB
  iintro HB
  iapply hk
  isplitr [HX]; swap; · iexact HX
  unfold Kind
  isplitl [Hs]; · iexact Hs
  rw [Nat.count_succ (p := own) (n := b), if_pos h]
  iexact HB

end Kind

end Cert.Proof

end
-- ==== Proof.Steps.lean ====
/-
  One position of the words at a time: each of the three guards issues its copy or not, and in either case leaves the
  tile one position further on.
-/
module

public import proofs.«01_k».proof.Proof.Lend

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "wV" => (Memref.whole Cert.KernelIdeal.main_v0_scv : Memref Cert.KernelIdeal.sig Kind.scVector Space.hbm Cert.KernelIdeal.S3136 EltTy.i32)
local notation "tV" => (Memref.whole Cert.KernelIdeal.main_v1_scv : Memref Cert.KernelIdeal.sig Kind.scVector Space.hbm Cert.KernelIdeal.S392x16x768 EltTy.f32)
local notation "oV" => (Memref.whole Cert.KernelIdeal.main_v2_scv : Memref Cert.KernelIdeal.sig Kind.scVector Space.hbm Cert.KernelIdeal.S3136x16x768 EltTy.f32)
local notation "xV" => (Memref.whole Cert.KernelIdeal.cc0_scratch0 : Memref Cert.KernelIdeal.sig Kind.scVector Space.vmem Cert.KernelIdeal.S432 EltTy.i32)
local notation "rV" => (Memref.whole Cert.KernelIdeal.cc0_scratch1 : Memref Cert.KernelIdeal.sig Kind.scVector Space.vmem Cert.KernelIdeal.S8x16x768 EltTy.f32)
local notation "hV" => (Memref.whole Cert.KernelIdeal.cc0_scratch2 : Memref Cert.KernelIdeal.sig Kind.scVector Space.shared Cert.KernelIdeal.S4x9x16x768 EltTy.f32)

/-- The tile of mesh point `i`. -/
abbrev cV (i : grid0.Coords) : Fin τ.nSC := (i 0).castLE hcore0
abbrev jV (i : grid0.Coords) : Fin τ.nSub := (i 1).castLE hsub0
abbrev me (d : Dev nD) (i : grid0.Coords) : Thread nD τ := V d (cV i) (jV i)

/-! ## One row, as a copy addresses it -/

/-- The row at offset `o` of the result, of the table, of the tile's own copy, and of the shared copy. -/
abbrev outM (o : Fin 3 → ℕ) (h : ∀ a, o a + S1x16x768.size a ≤ S3136x16x768.size a) : Memref sig .scVector .hbm S16x768 .f32 :=
  ((oV).slice (Rect.unit (s := S3136x16x768) o S1x16x768.size h) (fun _ => rfl)).squeeze S16x768 squeezes_S1x16x768_S16x768
abbrev tabM (o : Fin 3 → ℕ) (h : ∀ a, o a + S1x16x768.size a ≤ S392x16x768.size a) : Memref sig .scVector .hbm S16x768 .f32 :=
  ((tV).slice (Rect.unit (s := S392x16x768) o S1x16x768.size h) (fun _ => rfl)).squeeze S16x768 squeezes_S1x16x768_S16x768
abbrev ownM (o : Fin 3 → ℕ) (h : ∀ a, o a + S1x16x768.size a ≤ S8x16x768.size a) : Memref sig .scVector .vmem S16x768 .f32 :=
  ((rV).slice (Rect.unit (s := S8x16x768) o S1x16x768.size h) (fun _ => rfl)).squeeze S16x768 squeezes_S1x16x768_S16x768
abbrev shrM (o : Fin 4 → ℕ) (h : ∀ a, o a + S1x1x16x768.size a ≤ S4x9x16x768.size a) : Memref sig .scVector .shared S16x768 .f32 :=
  ((hV).slice (Rect.unit (s := S4x9x16x768) o S1x1x16x768.size h) (fun _ => rfl)).squeeze S16x768 squeezes_S1x1x16x768_S16x768

theorem row3_emb {n k : ℕ} (h : ∀ a, (![k, 0, 0] : Fin 3 → ℕ) a + S1x16x768.size a ≤ (⟨3, ![n, 16, 768]⟩ : Shape).size a)
    (hn : S16x768.numel = S1x16x768.numel) (y : Fin 16) (z : Fin 768) (hk : k < n) :
    (Rect.unit (s := ⟨3, ![n, 16, 768]⟩) ![k, 0, 0] S1x16x768.size h).emb (Shape.reshapeEquiv hn (ix2 y z)) = ix3 ⟨k, hk⟩ y z := by
  rw [reshapeEquiv_ix2_1ab]
  funext a
  match a with
  | 0 => exact Fin.ext (by show k + 1 * 0 = k; omega)
  | 1 => exact Fin.ext (by show 0 + 1 * y.val = y.val; omega)
  | 2 => exact Fin.ext (by show 0 + 1 * z.val = z.val; omega)

theorem row3_set {n k : ℕ} (h : ∀ a, (![k, 0, 0] : Fin 3 → ℕ) a + S1x16x768.size a ≤ (⟨3, ![n, 16, 768]⟩ : Shape).size a) :
    (Rect.unit (s := ⟨3, ![n, 16, 768]⟩) ![k, 0, 0] S1x16x768.size h).set = Finset.univ.filter fun x => (x 0).val = k := by
  ext x
  rw [Rect.mem_set_unit, Finset.mem_filter]
  constructor
  · intro hx
    have h0 : k ≤ (x 0).val ∧ (x 0).val < k + 1 := hx 0
    exact ⟨Finset.mem_univ _, by omega⟩
  · rintro ⟨-, hx⟩ a
    match a with
    | 0 => show k ≤ (x 0).val ∧ (x 0).val < k + 1; omega
    | 1 => exact ⟨Nat.zero_le _, by show (x 1).val < 0 + 16; have := (x 1).isLt; exact Nat.lt_of_lt_of_le this (Nat.le_of_eq rfl)⟩
    | 2 => exact ⟨Nat.zero_le _, by show (x 2).val < 0 + 768; have := (x 2).isLt; exact Nat.lt_of_lt_of_le this (Nat.le_of_eq rfl)⟩

theorem row4_emb {k l : ℕ} (h : ∀ a, (![k, l, 0, 0] : Fin 4 → ℕ) a + S1x1x16x768.size a ≤ S4x9x16x768.size a)
    (hn : S16x768.numel = S1x1x16x768.numel) (y : Fin 16) (z : Fin 768) (hk : k < 4) (hl : l < 9) :
    (Rect.unit (s := S4x9x16x768) ![k, l, 0, 0] S1x1x16x768.size h).emb (Shape.reshapeEquiv hn (ix2 y z)) = ix4 ⟨k, hk⟩ ⟨l, hl⟩ y z := by
  rw [reshapeEquiv_ix2_11ab]
  funext a
  match a with
  | 0 => exact Fin.ext (by show k + 1 * 0 = k; omega)
  | 1 => exact Fin.ext (by show l + 1 * 0 = l; omega)
  | 2 => exact Fin.ext (by show 0 + 1 * y.val = y.val; omega)
  | 3 => exact Fin.ext (by show 0 + 1 * z.val = z.val; omega)

theorem row4_set {k l : ℕ} (h : ∀ a, (![k, l, 0, 0] : Fin 4 → ℕ) a + S1x1x16x768.size a ≤ S4x9x16x768.size a) :
    (Rect.unit (s := S4x9x16x768) ![k, l, 0, 0] S1x1x16x768.size h).set = Finset.univ.filter fun x => (x 0).val = k ∧ (x 1).val = l := by
  ext x
  rw [Rect.mem_set_unit, Finset.mem_filter]
  constructor
  · intro hx
    have h0 : k ≤ (x 0).val ∧ (x 0).val < k + 1 := hx 0
    have h1 : l ≤ (x 1).val ∧ (x 1).val < l + 1 := hx 1
    exact ⟨Finset.mem_univ _, by omega, by omega⟩
  · rintro ⟨-, hx, hx'⟩ a
    match a with
    | 0 => show k ≤ (x 0).val ∧ (x 0).val < k + 1; omega
    | 1 => show l ≤ (x 1).val ∧ (x 1).val < l + 1; omega
    | 2 => exact ⟨Nat.zero_le _, by show (x 2).val < 0 + 16; have := (x 2).isLt; exact Nat.lt_of_lt_of_le this (Nat.le_of_eq rfl)⟩
    | 3 => exact ⟨Nat.zero_le _, by show (x 3).val < 0 + 768; have := (x 3).isLt; exact Nat.lt_of_lt_of_le this (Nat.le_of_eq rfl)⟩

/-- The rows of the table, of the tile's own copy and of the shared copy. -/
def tRow (n : ℕ) : Finset S392x16x768.Idx := Finset.univ.filter fun x => (x 0).val = n
def rRow (n : ℕ) : Finset S8x16x768.Idx := Finset.univ.filter fun x => (x 0).val = n
def hRow (s n : ℕ) : Finset S4x9x16x768.Idx := Finset.univ.filter fun x => (x 0).val = s ∧ (x 1).val = n

theorem outM_set (k : ℕ) (h) : (outM ![k, 0, 0] h).view.set = oRow k :=
  (View.set_reshape (v := (oV).view.slice (Rect.unit (s := S3136x16x768) ![k, 0, 0] S1x16x768.size h)) _).trans ((View.set_slice_whole main_v2_scv (Rect.unit (s := S3136x16x768) ![k, 0, 0] S1x16x768.size h)).trans (row3_set h))
theorem tabM_set (k : ℕ) (h) : (tabM ![k, 0, 0] h).view.set = tRow k :=
  (View.set_reshape (v := (tV).view.slice (Rect.unit (s := S392x16x768) ![k, 0, 0] S1x16x768.size h)) _).trans ((View.set_slice_whole main_v1_scv (Rect.unit (s := S392x16x768) ![k, 0, 0] S1x16x768.size h)).trans (row3_set h))
theorem ownM_set (k : ℕ) (h) : (ownM ![k, 0, 0] h).view.set = rRow k :=
  (View.set_reshape (v := (rV).view.slice (Rect.unit (s := S8x16x768) ![k, 0, 0] S1x16x768.size h)) _).trans ((View.set_slice_whole cc0_scratch1 (Rect.unit (s := S8x16x768) ![k, 0, 0] S1x16x768.size h)).trans (row3_set h))
theorem shrM_set (k l : ℕ) (h) : (shrM ![k, l, 0, 0] h).view.set = hRow k l :=
  (View.set_reshape (v := (hV).view.slice (Rect.unit (s := S4x9x16x768) ![k, l, 0, 0] S1x1x16x768.size h)) _).trans ((View.set_slice_whole cc0_scratch2 (Rect.unit (s := S4x9x16x768) ![k, l, 0, 0] S1x1x16x768.size h)).trans (row4_set h))

theorem outM_emb (k : ℕ) (h) (hk : k < 3136) (y : Fin 16) (z : Fin 768) : (outM ![k, 0, 0] h).view.emb (ix2 y z) = (ix3 ⟨k, hk⟩ y z : S3136x16x768.Idx) :=
  row3_emb (n := 3136) h _ y z hk
theorem tabM_emb (k : ℕ) (h) (hk : k < 392) (y : Fin 16) (z : Fin 768) : (tabM ![k, 0, 0] h).view.emb (ix2 y z) = (ix3 ⟨k, hk⟩ y z : S392x16x768.Idx) :=
  row3_emb (n := 392) h _ y z hk
theorem ownM_emb (k : ℕ) (h) (hk : k < 8) (y : Fin 16) (z : Fin 768) : (ownM ![k, 0, 0] h).view.emb (ix2 y z) = (ix3 ⟨k, hk⟩ y z : S8x16x768.Idx) :=
  row3_emb (n := 8) h _ y z hk
theorem shrM_emb (k l : ℕ) (h) (hk : k < 4) (hl : l < 9) (y : Fin 16) (z : Fin 768) : (shrM ![k, l, 0, 0] h).view.emb (ix2 y z) = (ix4 ⟨k, hk⟩ ⟨l, hl⟩ y z : S4x9x16x768.Idx) :=
  row4_emb h _ y z hk hl

theorem outM_lt (k : ℕ) (h : ∀ a, (![k, 0, 0] : Fin 3 → ℕ) a + S1x16x768.size a ≤ S3136x16x768.size a) : k < 3136 := by
  have : k + 1 ≤ 3136 := h 0
  omega

/-- The units one row's copy is worth. -/
abbrev rowUnits : ℕ := (outM ![0, 0, 0] (by decide)).view.dmaCredit

variable (fI : Wds) (fT : Tab F) (f0 : S3136x16x768.Idx → F .f32) (d : Dev nD) (i : grid0.Coords)

/-- A row filled by a copy from a source that agrees, element by element, with the result wanted. -/
theorem copied (k : ℕ) (h) (v : S16x768.Idx → F .f32) (hv : ∀ (hk : k < 3136) y z, v (ix2 y z) = gOut fI fT (ix3 ⟨k, hk⟩ y z)) :
    ((outM ![k, 0, 0] h).view.loc (me d i) ↦[(outM ![k, 0, 0] h).view.set]{fullShare} ((outM ![k, 0, 0] h).view.write (Elt F) f0 v Finset.univ) : sProp 𝕄)
      = oLoc d ↦[oRow k]{fullShare} gOut fI fT := by
  have hset : (outM ![k, 0, 0] h).view.set = oRow k := outM_set k h
  refine (pointsTo_congr (g := (gOut fI fT : Buf (Elt F) ((outM ![k, 0, 0] h).view.loc (me d i)))) ?_).trans ?_
  · intro x hx
    obtain ⟨y, -, rfl⟩ := Finset.mem_map.mp hx
    rw [View.write_emb_of_mem _ _ (Finset.mem_univ y)]
    rw [show y = ix2 (y 0) (y 1) from funext fun a => match a with | 0 => rfl | 1 => rfl]
    refine (hv (outM_lt k h) (y 0) (y 1)).trans ?_
    exact congrArg (gOut fI fT) (outM_emb k h (outM_lt k h) (y 0) (y 1)).symm
  · rw [hset]

theorem gOut_row {s b : ℕ} (hb : b < 392) (hk : 392 * s + b < 3136) (y : Fin 16) (z : Fin 768) :
    gOut fI fT (ix3 ⟨392 * s + b, hk⟩ y z) = tabAt fT (49 * s + (word fI s b).toNat) y z := by
  show tabAt fT (49 * ((392 * s + b) / 392) + (word fI ((392 * s + b) / 392) ((392 * s + b) % 392)).toNat) y z = _
  rw [show (392 * s + b) / 392 = s by omega, show (392 * s + b) % 392 = b by omega]

theorem word_lt {s b : ℕ} (h : (word fI s b).toNat < 49) : b < 392 := by
  by_contra hb
  rw [word, if_neg hb] at h
  exact absurd h (by decide)

/-! ## What each position's copy needs and gives back -/

/-- The positions the tile copies from its own rows, from the shared rows, and from the table. -/
abbrev own1 (b : ℕ) : Prop := Own1 i (word fI (sec i) b)
abbrev own2 (b : ℕ) : Prop := Own2 i b (word fI (sec i) b)
abbrev own3 (b : ℕ) : Prop := Own3 i b (word fI (sec i) b)

theorem own1_lt {b : ℕ} (h : own1 fI i b) : b < 392 := word_lt fI (lt_of_lt_of_le h.2 (by have := qtr_lt i; omega))
theorem own2_lt {b : ℕ} (h : own2 fI i b) : b < 392 := word_lt fI (lt_of_lt_of_le h.2.1 (by decide))
theorem own3_lt {b : ℕ} (h : own3 fI i b) : b < 392 := word_lt fI h.2.1

/-- The row of the result that position `b` names, holding `f`. -/
def outPts (f : S3136x16x768.Idx → F .f32) (b : ℕ) : sProp 𝕄 := oLoc d ↦[oRow (392 * sec i + b)]{fullShare} (f : Buf (Elt F) (oLoc d))
/-- A share of the source row of position `b`, in each of the three places. -/
def srcPts1 (b : ℕ) : sProp 𝕄 :=
  (me d i).loc cc0_scratch1 ↦[rRow ((word fI (sec i) b).toNat - 8 * qtr i)]{Transfers.shareTokN fullShare b} (gOwn fT i : Buf (Elt F) ((me d i).loc cc0_scratch1))
def srcPts2 (b : ℕ) : sProp 𝕄 :=
  shLoc d (cV i) ↦[hRow (sec i % 4) ((word fI (sec i) b).toNat - 32)]{Transfers.shareTokN (slotShare (i 1).val) b} (gShared fT (cV i).val : Buf (Elt F) (shLoc d (cV i)))
/-- The tile's share of what every tile reads. -/
abbrev tileShare : PosShare TreeShare := Transfers.shareTokN fullShare (wid i)
def srcPts3 (b : ℕ) : sProp 𝕄 :=
  tLoc d ↦[tRow (49 * sec i + (word fI (sec i) b).toNat)]{Transfers.shareTokN (tileShare i) b} (fT : Buf (Elt F) (tLoc d))

def Kind1 (b : ℕ) : sProp 𝕄 := Kind (me d i) (own1 fI i) (fun b => iprop(outPts d i f0 b ∗ srcPts1 fI fT d i b))
  (fun b => iprop(outPts d i (gOut fI fT) b ∗ srcPts1 fI fT d i b)) rowUnits cc0_scratch5.sem b
def Kind2 (b : ℕ) : sProp 𝕄 := Kind (me d i) (own2 fI i) (fun b => iprop(outPts d i f0 b ∗ srcPts2 fI fT d i b))
  (fun b => iprop(outPts d i (gOut fI fT) b ∗ srcPts2 fI fT d i b)) rowUnits cc0_scratch6.sem b
def Kind3 (b : ℕ) : sProp 𝕄 := Kind (me d i) (own3 fI i) (fun b => iprop(outPts d i f0 b ∗ srcPts3 fI fT d i b))
  (fun b => iprop(outPts d i (gOut fI fT) b ∗ srcPts3 fI fT d i b)) rowUnits cc0_scratch7.sem b

/-- What the tile holds inside its loop: the three kinds of copies, at their positions, and its words. -/
def St (b₁ b₂ b₃ : ℕ) : sProp 𝕄 :=
  iprop(Kind1 fI fT f0 d i b₁ ∗ Kind2 fI fT f0 d i b₂ ∗ Kind3 fI fT f0 d i b₃
    ∗ (xV).view.loc (me d i) ↦[(xV).view.set]{fullShare} (gWords fI i : Buf (Elt F) ((xV).view.loc (me d i))))

/-! ## The steps -/

variable [FloatOps F]

/-- A guarded copy, taken or not. -/
theorem guard_step {c : Thread nD τ} {own : ℕ → Prop} [DecidablePred own] {Pre Post : ℕ → sProp (MT nD τ sig (HIx 1) (Elt F) ℕ UU ℕ)} {N : ℕ} {sm : DmaSem sig}
    {b : ℕ} (hb : b < 400) {cond : BitVec 1} (hc : cond = 1#1 ↔ own b) {α : Type} {Q : α → sProp (MT nD τ sig (HIx 1) (Elt F) ℕ UU ℕ)}
    {sp sp' : Space} {s : Shape} {e : EltTy} {src : cond = 1#1 → Memref sig c.2.kind sp s e} {dst : cond = 1#1 → Memref sig c.2.kind sp' s e}
    {hsrc : ∀ h, (src h).view.WordExact} {hdst : ∀ h, (dst h).view.WordExact} {hsem : ∀ h, DmaTarget.Typed (nD := nD) sp (.dma sm) (.here (dst h))}
    {R : Prog (TpuEff nD τ sig (Elt F) Λ₀ c.2) α} {q : PosShare TreeShare} {fs : ∀ h, Buf (Elt F) ((src h).view.loc c)}
    {fd : ∀ h, Buf (Elt F) ((dst h).view.loc c)}
    (hN : ∀ h, (dst h).view.amount (.dma sm) = N)
    (hpre : ∀ h, own b → (Pre b ⊢ iprop(((src h).view.loc c ↦[(src h).view.set]{q} fs h) ∗ (dst h).view.loc c ↦[(dst h).view.set]{fullShare} fd h)))
    (hpost : ∀ h, own b → (iprop(((dst h).view.loc c ↦[(dst h).view.set]{fullShare} (dst h).view.write (Elt F) (fd h) ((src h).view.read (Elt F) (fs h)) Finset.univ)
      ∗ (src h).view.loc c ↦[(src h).view.set]{q} fs h) ⊢ Post b)) {X : sProp (MT nD τ sig (HIx 1) (Elt F) ℕ UU ℕ)}
    (hk : iprop(Kind c own Pre Post N sm (b + 1) ∗ X) ⊢ wp frame (wpE defs₀ 𝒱₀ c none) Set.univ R Q) :
    iprop(Kind c own Pre Post N sm b ∗ X)
      ⊢ wp frame (wpE (defs₀ (F := F)) 𝒱₀ c none) Set.univ
        (if h : cond = 1#1 then Prog.lift (TpuEff.enqueueDma (src h) (.here (dst h)) (.dma sm) (hsrc h) (hdst h) (hsem h)) >>= fun _ => R else R) Q := by
  by_cases h : own b
  · have h' := hc.mpr h
    rw [dif_pos h']
    exact kind_issue c own Pre Post N sm hb h (hN h') (hpre h' h) (hpost h' h) X hk
  · rw [dif_neg (fun h' => h (hc.mp h')), kind_skip c own Pre Post N sm hb h]
    exact hk

variable (hI : ∀ x, (fI x).toNat < 49) (t : Fin k0_t1_loop.trips)

theorem pos_lt {j : ℕ} (hj : j < 16) : 16 * t.val + j < 400 := by have := t1_lt t; omega

include hI in
/-- The first guard: a copy from the tile's own rows. -/
theorem step1 {j b₂ b₃ : ℕ} (hj : j < 16) {w : BitVec 32} (hw : w = word fI (sec i) (16 * t.val + j)) {cond : BitVec 1} {o s : Fin 3 → ℕ}
    {ho : cond = 1#1 → ∀ a, o a + S1x16x768.size a ≤ S3136x16x768.size a} {hs : cond = 1#1 → ∀ a, s a + S1x16x768.size a ≤ S8x16x768.size a}
    {hsrc : ∀ h, (ownM s (hs h)).view.WordExact} {hdst : ∀ h, (outM o (ho h)).view.WordExact}
    {hsem : ∀ h, DmaTarget.Typed (nD := nD) (τ := τ) (p := (me d i).2) Space.vmem (.dma cc0_scratch5.sem) (.here (outM o (ho h)))} {α : Type} {Q : α → sProp 𝕄}
    {R : Prog (TpuEff nD τ sig (Elt F) Λ₀ (me d i).2) α}
    (hk : St fI fT f0 d i (16 * t.val + (j + 1)) b₂ b₃ ⊢ wp frame (wpE (defs₀ (F := F)) 𝒱₀ (me d i) none) Set.univ R Q)
    (hc : cond = guard (bit1 i w) := by rfl) (hoo : o = outOff i t (BitVec.ofNat 32 j) := by rfl) (hss : s = srcOff1 i w := by rfl) :
    St fI fT f0 d i (16 * t.val + j) b₂ b₃ ⊢ wp frame (wpE (defs₀ (F := F)) 𝒱₀ (me d i) none) Set.univ
      (if h : cond = 1#1 then Prog.lift (TpuEff.enqueueDma (ownM s (hs h)) (.here (outM o (ho h))) (.dma cc0_scratch5.sem) (hsrc h) (hdst h) (hsem h)) >>= fun _ => R else R) Q := by
  have hW : Word w := hw ▸ word_word fI hI _ _
  rw [outOff_eq i t j hj] at hoo
  subst hoo
  unfold St Kind1
  refine guard_step (c := me d i) (pos_lt t hj) (hc ▸ (guard1 i hW).trans (by rw [hw])) (q := Transfers.shareTokN fullShare (16 * t.val + j))
    (src := fun h => ownM s (hs h)) (dst := fun h => outM _ (ho h)) (fs := fun _ => (gOwn fT i : Buf (Elt F) ((me d i).loc cc0_scratch1))) (fd := fun _ => (f0 : Buf (Elt F) (oLoc d))) (fun _ => rfl) ?_ ?_ hk
  · intro h hown
    have hown' : Own1 i w := by rw [hw]; exact hown
    obtain rfl := hss.trans (srcOff1_eq i hown')
    rw [ownM_set _ (hs h), outM_set _ (ho h)]
    unfold outPts srcPts1
    rw [← hw]
    iintro ⟨Ho, Hs⟩
    isplitl [Hs] <;> iassumption
  · intro h hown
    have hown' : Own1 i w := by rw [hw]; exact hown
    obtain rfl := hss.trans (srcOff1_eq i hown')
    have hb := own1_lt fI i hown
    rw [copied fI fT f0 d i _ (ho h) _ (fun hk y z => by
      rw [gOut_row fI fT hb hk]
      have hlt : w.toNat - 8 * qtr i < 8 := by have := hown'.2; omega
      refine (congrArg (gOwn fT i) (ownM_emb _ (hs h) hlt y z)).trans ?_
      show tabAt fT (49 * sec i + 8 * qtr i + (w.toNat - 8 * qtr i)) y z = _
      have := hown'.1
      rw [← hw]; congr 1; omega), ownM_set _ (hs h)]
    unfold outPts srcPts1
    rw [← hw]

include hI in
/-- The second guard: a copy from the rows the SparseCore shares. -/
theorem step2 {j b₁ b₃ : ℕ} (hj : j < 16) {w : BitVec 32} (hw : w = word fI (sec i) (16 * t.val + j)) {cond : BitVec 1} {o : Fin 3 → ℕ} {s : Fin 4 → ℕ}
    {ho : cond = 1#1 → ∀ a, o a + S1x16x768.size a ≤ S3136x16x768.size a} {hs : cond = 1#1 → ∀ a, s a + S1x1x16x768.size a ≤ S4x9x16x768.size a}
    {hsrc : ∀ h, (shrM s (hs h)).view.WordExact} {hdst : ∀ h, (outM o (ho h)).view.WordExact}
    {hsem : ∀ h, DmaTarget.Typed (nD := nD) (τ := τ) (p := (me d i).2) Space.shared (.dma cc0_scratch6.sem) (.here (outM o (ho h)))} {α : Type} {Q : α → sProp 𝕄}
    {R : Prog (TpuEff nD τ sig (Elt F) Λ₀ (me d i).2) α}
    (hk : St fI fT f0 d i b₁ (16 * t.val + (j + 1)) b₃ ⊢ wp frame (wpE (defs₀ (F := F)) 𝒱₀ (me d i) none) Set.univ R Q)
    (hc : cond = guard (bit2 i t w) := by rfl) (hoo : o = outOff i t (BitVec.ofNat 32 j) := by rfl) (hss : s = srcOff2 i w := by rfl) :
    St fI fT f0 d i b₁ (16 * t.val + j) b₃ ⊢ wp frame (wpE (defs₀ (F := F)) 𝒱₀ (me d i) none) Set.univ
      (if h : cond = 1#1 then Prog.lift (TpuEff.enqueueDma (shrM s (hs h)) (.here (outM o (ho h))) (.dma cc0_scratch6.sem) (hsrc h) (hdst h) (hsem h)) >>= fun _ => R else R) Q := by
  have hW : Word w := hw ▸ word_word fI hI _ _
  rw [outOff_eq i t j hj] at hoo
  subst hoo
  have hsw : ∀ A B C D : sProp 𝕄, iprop(A ∗ B ∗ C ∗ D) ⊢ iprop(B ∗ A ∗ C ∗ D) := fun A B C D => by
    iintro ⟨HA, HB, HCD⟩; isplitl [HB]; · iexact HB
    isplitl [HA] <;> iassumption
  unfold St Kind2
  refine (hsw _ _ _ _).trans ?_
  refine guard_step (c := me d i) (pos_lt t hj) (hc ▸ (guard2 i t j hj hW).trans (by rw [hw])) (q := Transfers.shareTokN (slotShare (i 1).val) (16 * t.val + j))
    (src := fun h => shrM s (hs h)) (dst := fun h => outM _ (ho h)) (fs := fun _ => (gShared fT (cV i).val : Buf (Elt F) (shLoc d (cV i)))) (fd := fun _ => (f0 : Buf (Elt F) (oLoc d))) (fun _ => rfl) ?_ ?_
    ((hsw _ _ _ _).trans hk)
  · intro h hown
    have hown' : Own2 i (16 * t.val + j) w := by rw [hw]; exact hown
    obtain rfl := hss.trans (srcOff2_eq i hown')
    rw [shrM_set _ _ (hs h), outM_set _ (ho h)]
    unfold outPts srcPts2
    rw [← hw]
    iintro ⟨Ho, Hs⟩
    isplitl [Hs]; · iexact Hs
    iexact Ho
  · intro h hown
    have hown' : Own2 i (16 * t.val + j) w := by rw [hw]; exact hown
    obtain rfl := hss.trans (srcOff2_eq i hown')
    have hb := own2_lt fI i hown
    rw [copied fI fT f0 d i _ (ho h) _ (fun hk y z => by
      rw [gOut_row fI fT hb hk]
      have hlt : w.toNat - 32 < 9 := by have := hown'.2.1; omega
      refine (congrArg (gShared fT (cV i).val) (shrM_emb _ _ (hs h) (Nat.mod_lt _ (by decide)) hlt y z)).trans ?_
      show tabAt fT (49 * (4 * (i 0).val + sec i % 4) + 32 + (w.toNat - 32)) y z = _
      have := hown'.1
      have h4 : 4 * (i 0).val + sec i % 4 = sec i := by
        have h1 : (i 1).val < 16 := i1_lt i
        show 4 * (i 0).val + (16 * (i 0).val + (i 1).val) / 4 % 4 = (16 * (i 0).val + (i 1).val) / 4
        omega
      rw [← hw, h4]; congr 1; omega), shrM_set _ _ (hs h)]
    unfold outPts srcPts2
    rw [← hw]
    exact .rfl

include hI in
/-- The third guard: a copy from the table. -/
theorem step3 {j b₁ b₂ : ℕ} (hj : j < 16) {w : BitVec 32} (hw : w = word fI (sec i) (16 * t.val + j)) {cond : BitVec 1} {o s : Fin 3 → ℕ}
    {ho : cond = 1#1 → ∀ a, o a + S1x16x768.size a ≤ S3136x16x768.size a} {hs : cond = 1#1 → ∀ a, s a + S1x16x768.size a ≤ S392x16x768.size a}
    {hsrc : ∀ h, (tabM s (hs h)).view.WordExact} {hdst : ∀ h, (outM o (ho h)).view.WordExact}
    {hsem : ∀ h, DmaTarget.Typed (nD := nD) (τ := τ) (p := (me d i).2) Space.hbm (.dma cc0_scratch7.sem) (.here (outM o (ho h)))} {α : Type} {Q : α → sProp 𝕄}
    {R : Prog (TpuEff nD τ sig (Elt F) Λ₀ (me d i).2) α}
    (hk : St fI fT f0 d i b₁ b₂ (16 * t.val + (j + 1)) ⊢ wp frame (wpE (defs₀ (F := F)) 𝒱₀ (me d i) none) Set.univ R Q)
    (hc : cond = guard (bit3 i t w) := by rfl) (hoo : o = outOff i t (BitVec.ofNat 32 j) := by rfl) (hss : s = srcOff3 i w := by rfl) :
    St fI fT f0 d i b₁ b₂ (16 * t.val + j) ⊢ wp frame (wpE (defs₀ (F := F)) 𝒱₀ (me d i) none) Set.univ
      (if h : cond = 1#1 then Prog.lift (TpuEff.enqueueDma (tabM s (hs h)) (.here (outM o (ho h))) (.dma cc0_scratch7.sem) (hsrc h) (hdst h) (hsem h)) >>= fun _ => R else R) Q := by
  have hW : Word w := hw ▸ word_word fI hI _ _
  rw [outOff_eq i t j hj] at hoo
  subst hoo
  have hsw : ∀ A B C D : sProp 𝕄, iprop(A ∗ B ∗ C ∗ D) ⊢ iprop(C ∗ B ∗ A ∗ D) := fun A B C D => by
    iintro ⟨HA, HB, HC, HD⟩; isplitl [HC]; · iexact HC
    isplitl [HB]; · iexact HB
    isplitl [HA] <;> iassumption
  unfold St Kind3
  refine (hsw _ _ _ _).trans ?_
  refine guard_step (c := me d i) (pos_lt t hj) (hc ▸ (guard3 i t j hj hW).trans (by rw [hw])) (q := Transfers.shareTokN (tileShare i) (16 * t.val + j))
    (src := fun h => tabM s (hs h)) (dst := fun h => outM _ (ho h)) (fs := fun _ => (fT : Buf (Elt F) (tLoc d))) (fd := fun _ => (f0 : Buf (Elt F) (oLoc d))) (fun _ => rfl) ?_ ?_
    ((hsw _ _ _ _).trans hk)
  · intro h hown
    have hown' : Own3 i (16 * t.val + j) w := by rw [hw]; exact hown
    obtain rfl := hss.trans (srcOff3_eq i hown')
    rw [tabM_set _ (hs h), outM_set _ (ho h)]
    unfold outPts srcPts3
    rw [← hw]
    iintro ⟨Ho, Hs⟩
    isplitl [Hs] <;> iassumption
  · intro h hown
    have hown' : Own3 i (16 * t.val + j) w := by rw [hw]; exact hown
    obtain rfl := hss.trans (srcOff3_eq i hown')
    have hb := own3_lt fI i hown
    rw [copied fI fT f0 d i _ (ho h) _ (fun hk y z => by
      rw [gOut_row fI fT hb hk]
      have hlt : 49 * sec i + w.toNat < 392 := by have := hown'.2.1; have := sec_lt i; omega
      refine (congrArg fT (tabM_emb _ (hs h) hlt y z)).trans ?_
      unfold tabAt
      rw [← hw]
      exact congrArg (fun n => fT (ix3 n y z)) (Fin.ext (Nat.mod_eq_of_lt hlt).symm)), tabM_set _ (hs h)]
    unfold outPts srcPts3
    rw [← hw]

end Cert.Proof

end
-- ==== Proof.Body.lean ====
/-
  One trip of the tile's loop: sixteen words, three guards each.
-/
module

public import proofs.«01_k».proof.Proof.Steps

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "wV" => (Memref.whole Cert.KernelIdeal.main_v0_scv : Memref Cert.KernelIdeal.sig Kind.scVector Space.hbm Cert.KernelIdeal.S3136 EltTy.i32)
local notation "tV" => (Memref.whole Cert.KernelIdeal.main_v1_scv : Memref Cert.KernelIdeal.sig Kind.scVector Space.hbm Cert.KernelIdeal.S392x16x768 EltTy.f32)
local notation "oV" => (Memref.whole Cert.KernelIdeal.main_v2_scv : Memref Cert.KernelIdeal.sig Kind.scVector Space.hbm Cert.KernelIdeal.S3136x16x768 EltTy.f32)
local notation "xV" => (Memref.whole Cert.KernelIdeal.cc0_scratch0 : Memref Cert.KernelIdeal.sig Kind.scVector Space.vmem Cert.KernelIdeal.S432 EltTy.i32)
local notation "rV" => (Memref.whole Cert.KernelIdeal.cc0_scratch1 : Memref Cert.KernelIdeal.sig Kind.scVector Space.vmem Cert.KernelIdeal.S8x16x768 EltTy.f32)
local notation "hV" => (Memref.whole Cert.KernelIdeal.cc0_scratch2 : Memref Cert.KernelIdeal.sig Kind.scVector Space.shared Cert.KernelIdeal.S4x9x16x768 EltTy.f32)

variable (fI : Wds) (fT : Tab F) (f0 : S3136x16x768.Idx → F .f32) (d : Dev nD) (i : grid0.Coords) (t : Fin k0_t1_loop.trips)

theorem off6_eq : k0_off6 t = ![16 * t.val] := by
  have h : ∀ t : Fin k0_t1_loop.trips, k0_off6 t = ![16 * t.val] := by decide +kernel
  exact h t

/-- The number of copies of each kind before position `b`, as the loop carries it. -/
abbrev cnt1 (b : ℕ) : BitVec 32 := BitVec.ofNat 32 (Nat.count (own1 fI i) b)
abbrev cnt2 (b : ℕ) : BitVec 32 := BitVec.ofNat 32 (Nat.count (own2 fI i) b)
abbrev cnt3 (b : ℕ) : BitVec 32 := BitVec.ofNat 32 (Nat.count (own3 fI i) b)

/-- A side condition of the program's, discharged. -/
theorem assume_step {c : Thread nD τ} {P : Prop} {dec : Decidable P} (h : P) {α : Type} {Q : α → sProp 𝕄} {X : sProp 𝕄}
    {k : PLift P → Prog (TpuEff nD τ sig (Elt F) Λ₀ c.2) α} (hk : X ⊢ wp frame (wpE (defs₀ (F := F)) 𝒱₀ c none) Set.univ (k ⟨h⟩) Q) :
    X ⊢ wp frame (wpE (defs₀ (F := F)) 𝒱₀ c none) Set.univ (Prog.lift (TpuEff.assume P dec) >>= k) Q := by
  refine hk.trans ?_
  exact wp_assume 𝒱₀ c none Set.univ h

/-- A part of the loop's body ends, returning `a`. -/
theorem ret_step {c : Thread nD τ} {α : Type} {Q : α → sProp 𝕄} {X : sProp 𝕄} {a : α} (hk : X ⊢ Q a) :
    X ⊢ wp frame (wpE (defs₀ (F := F)) 𝒱₀ c none) Set.univ (pure a) Q := by
  rw [wp_pure]
  exact hk.trans fupd_intro

/-- A part of the loop's body begins. -/
theorem part_step {c : Thread nD τ} {α β : Type} {Q : β → sProp 𝕄} {X : sProp 𝕄} {p : Prog (TpuEff nD τ sig (Elt F) Λ₀ c.2) α}
    {k : α → Prog (TpuEff nD τ sig (Elt F) Λ₀ c.2) β}
    (hk : X ⊢ wp frame (wpE (defs₀ (F := F)) 𝒱₀ c none) Set.univ p fun a => wp frame (wpE (defs₀ (F := F)) 𝒱₀ c none) Set.univ (k a) Q) :
    X ⊢ wp frame (wpE (defs₀ (F := F)) 𝒱₀ c none) Set.univ (p >>= k) Q := by rw [wp_bind]; exact hk

/-- The sixteen words of a trip. -/
def IsWords (v : IVec S16 32) : Prop := ∀ j hj, v (ix1 ⟨j, hj⟩) = word fI (sec i) (16 * t.val + j)

variable {fI t i}

/-- The trip's words, loaded. -/
theorem load_step {b₁ b₂ b₃ : ℕ} {inb} {hl : (xV).view.LoadsAt (Rect.unit (s := S432) (k0_off6 t) S16.size inb).toLoadRect} {α : Type} {Q : α → sProp 𝕄}
    {k : (S16.Idx → Elt F .i32) → Prog (TpuEff nD τ sig (Elt F) Λ₀ (me d i).2) α}
    (hk : ∀ v : IVec S16 32, IsWords fI i t v → (St fI fT f0 d i b₁ b₂ b₃ ⊢ wp frame (wpE (defs₀ (F := F)) 𝒱₀ (me d i) none) Set.univ (k v) Q)) :
    St fI fT f0 d i b₁ b₂ b₃ ⊢ wp frame (wpE (defs₀ (F := F)) 𝒱₀ (me d i) none) Set.univ
      (Prog.lift (.load xV (Rect.unit (s := S432) (k0_off6 t) S16.size inb).toLoadRect hl) >>= k) Q := by
  have hv : IsWords fI i t ((xV).view.readAt (Elt F) (Rect.unit (s := S432) (k0_off6 t) S16.size inb).toLoadRect (gWords fI i)) := fun j hj => by
    show word fI (sec i) (k0_off6 t 0 + 1 * j) = _
    rw [off6_eq]
    exact congrArg (word fI (sec i)) (by show 16 * t.val + 1 * j = _; omega)
  have := hk _ hv
  refine .trans ?_ (show wp frame (wpE (defs₀ (F := F)) 𝒱₀ (me d i) none) Set.univ
    (.op (.load xV (Rect.unit (s := S432) (k0_off6 t) S16.size inb).toLoadRect hl) k) Q ⊢ _ from .rfl)
  unfold St at this ⊢
  iintro ⟨H1, H2, H3, Hx⟩
  iapply (wp_load 𝒱₀ (me d i) none Set.univ (by rw [View.set_whole]; exact Finset.subset_univ _)) $$ Hx
  iintro Hx
  iapply this
  isplitl [H1]; · iexact H1
  isplitl [H2]; · iexact H2
  isplitl [H3]; · iexact H3
  iexact Hx

/-- One word of the trip's, as the kernel takes it out. -/
theorem IsWords.lane {v : IVec S16 32} (hv : IsWords fI i t v) {j : ℕ} (hj : j < 16) {h : S16.Slices ![j] S1} {h' : ∀ a, (![0] : Fin 1 → ℕ) a < S1.size a} :
    extractAt ![0] (extractStridedSlice S1 ![j] (shapeCast S16 v shapeCasts_S16_S16) h) h' = word fI (sec i) (16 * t.val + j) :=
  (lane_eq v j hj h h').trans (hv j hj)

theorem IsWords.chk (hI : ∀ x, (fI x).toNat < 49) {v : IVec S16 32} (hv : IsWords fI i t v) {j : ℕ} (hj : j < 16) {h : S16.Slices ![j] S1} {h' : ∀ a, (![0] : Fin 1 → ℕ) a < S1.size a} :
    k0_chk1 i t (extractAt ![0] (extractStridedSlice S1 ![j] (shapeCast S16 v shapeCasts_S16_S16) h) h') :=
  chk_lane i t (by rw [hv.lane hj]; exact word_word fI hI _ _)

theorem IsWords.chkTail (hI : ∀ x, (fI x).toNat < 49) {v : IVec S16 32} (hv : IsWords fI i t v) {j : ℕ} (hj : j < 16) {w : BitVec 32}
    (hw : w = word fI (sec i) (16 * t.val + j)) :
    (guard (bit1 i w) = 1#1 → ∀ a, srcOff1 i w a + S1x16x768.size a ≤ S8x16x768.size a)
    ∧ (guard (bit1 i w) = 1#1 → ∀ a, outOff i t (BitVec.ofNat 32 j) a + S1x16x768.size a ≤ S3136x16x768.size a)
    ∧ (guard (bit2 i t w) = 1#1 → ∀ a, outOff i t (BitVec.ofNat 32 j) a + S1x16x768.size a ≤ S3136x16x768.size a)
    ∧ (guard (bit2 i t w) = 1#1 → ∀ a, srcOff2 i w a + S1x1x16x768.size a ≤ S4x9x16x768.size a)
    ∧ (guard (bit3 i t w) = 1#1 → ∀ a, outOff i t (BitVec.ofNat 32 j) a + S1x16x768.size a ≤ S3136x16x768.size a)
    ∧ (guard (bit3 i t w) = 1#1 → ∀ a, srcOff3 i w a + S1x16x768.size a ≤ S392x16x768.size a) :=
  chk_tail i t j hj (hw ▸ word_word fI hI _ _) (by
    by_cases hb : 16 * t.val + j < 392
    · exact .inl hb
    · exact .inr (hw.trans (if_neg hb)))

/-- A counter after one more guard. -/
theorem tally (p : ℕ → Prop) [DecidablePred p] {b : ℕ} {x : BitVec 32} {z : BitVec 1} (hx : x = BitVec.ofNat 32 (Nat.count p b))
    (hz : z = if p b then 1#1 else 0#1) : Scalar.addi x (Scalar.select z 1#32 0#32) = BitVec.ofNat 32 (Nat.count p (b + 1)) := by
  rw [hx]; exact count_step p b hz

/-- The guards' bits, by the words' kinds. -/
theorem word_bit1 (hI : ∀ x, (fI x).toNat < 49) {j : ℕ} {w : BitVec 32} (hw : w = word fI (sec i) (16 * t.val + j)) :
    bit1 i w = if own1 fI i (16 * t.val + j) then 1#1 else 0#1 := by
  subst hw; exact bit1_eq i (word_word fI hI _ _)
theorem word_bit2 (hI : ∀ x, (fI x).toNat < 49) {j : ℕ} (hj : j < 16) {w : BitVec 32} (hw : w = word fI (sec i) (16 * t.val + j)) :
    bit2 i t w = if own2 fI i (16 * t.val + j) then 1#1 else 0#1 := by
  subst hw; exact bit2_eq i t j hj (word_word fI hI _ _)
theorem word_bit3 (hI : ∀ x, (fI x).toNat < 49) {j : ℕ} (hj : j < 16) {w : BitVec 32} (hw : w = word fI (sec i) (16 * t.val + j)) :
    bit3 i t w = if own3 fI i (16 * t.val + j) then 1#1 else 0#1 := by
  subst hw; exact bit3_eq i t j hj (word_word fI hI _ _)

variable (fI i t)

set_option maxHeartbeats 4000000 in
theorem wp_body (hI : ∀ x, (fI x).toNat < 49) :
    St fI fT f0 d i (16 * t.val) (16 * t.val) (16 * t.val) ⊢
      wp frame (wpE (defs₀ (F := F)) 𝒱₀ (me d i) none) Set.univ
        (k0_t1_body i wV (Memref.isWhole_whole _) tV (Memref.isWhole_whole _) oV (Memref.isWhole_whole _) xV (Memref.isWhole_whole _)
          rV (Memref.isWhole_whole _) hV (Memref.isWhole_whole _) cc0_scratch3 cc0_scratch4 cc0_scratch5 cc0_scratch6 cc0_scratch7 cc0_scoped0
          (qtrW i) (Scalar.muli (secW i) 392#32) (Scalar.muli (secW i) 49#32) (g0W i) (g1W i) t
          (cnt1 fI i (16 * t.val), cnt2 fI i (16 * t.val), cnt3 fI i (16 * t.val)))
        fun acc => iprop(⌜acc = (cnt1 fI i (16 * t.val + 16), cnt2 fI i (16 * t.val + 16), cnt3 fI i (16 * t.val + 16))⌝
          ∗ St fI fT f0 d i (16 * t.val + 16) (16 * t.val + 16) (16 * t.val + 16)) := by
  unfold k0_t1_body
  refine part_step ?_
  refine load_step (fI := fI) fT f0 d fun v hv => ?_
  show St fI fT f0 d i (16 * t.val + 0) (16 * t.val + 0) (16 * t.val + 0) ⊢ _
  -- the first eight words' rows lie inside the result whatever the trip
  iterate 8
    try (refine ret_step ?_; try refine part_step ?_)
    refine assume_step (hv.chk hI (by decide)) ?_
    try (refine ret_step ?_; try refine part_step ?_)
    refine step1 fI fT f0 d i hI t (by decide) (hv.lane (by decide)) ?_
    try (refine ret_step ?_; try refine part_step ?_)
    refine step2 fI fT f0 d i hI t (by decide) (hv.lane (by decide)) ?_
    try (refine ret_step ?_; try refine part_step ?_)
    refine step3 fI fT f0 d i hI t (by decide) (hv.lane (by decide)) ?_
  -- those of the last eight do unless the word is padding
  iterate 8
    try (refine ret_step ?_; try refine part_step ?_)
    refine assume_step (hv.chkTail hI (by decide) (hv.lane (by decide))) ?_
    try (refine ret_step ?_; try refine part_step ?_)
    refine step1 fI fT f0 d i hI t (by decide) (hv.lane (by decide)) ?_
    try (refine ret_step ?_; try refine part_step ?_)
    refine step2 fI fT f0 d i hI t (by decide) (hv.lane (by decide)) ?_
    try (refine ret_step ?_; try refine part_step ?_)
    refine step3 fI fT f0 d i hI t (by decide) (hv.lane (by decide)) ?_
  refine ret_step ?_
  iintro H
  isplitr; swap; · iexact H
  ipureintro
  refine Prod.ext ?_ (Prod.ext ?_ ?_)
  · iterate 16 refine tally (own1 fI i) ?_ (word_bit1 hI (hv.lane (by decide)))
    rfl
  · iterate 16 refine tally (own2 fI i) ?_ (word_bit2 hI (by decide) (hv.lane (by decide)))
    rfl
  · iterate 16 refine tally (own3 fI i) ?_ (word_bit3 hI (by decide) (hv.lane (by decide)))
    rfl

end Cert.Proof

end
-- ==== Proof.Stage.lean ====
/-
  Before the tiles meet: each stages its section's words, padded, and its own eight rows; one tile of four stages the nine
  rows that its section's tiles share.
-/
module

public import proofs.«01_k».proof.Proof.Body

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "wV" => (Memref.whole Cert.KernelIdeal.main_v0_scv : Memref Cert.KernelIdeal.sig Kind.scVector Space.hbm Cert.KernelIdeal.S3136 EltTy.i32)
local notation "tV" => (Memref.whole Cert.KernelIdeal.main_v1_scv : Memref Cert.KernelIdeal.sig Kind.scVector Space.hbm Cert.KernelIdeal.S392x16x768 EltTy.f32)
local notation "oV" => (Memref.whole Cert.KernelIdeal.main_v2_scv : Memref Cert.KernelIdeal.sig Kind.scVector Space.hbm Cert.KernelIdeal.S3136x16x768 EltTy.f32)
local notation "xV" => (Memref.whole Cert.KernelIdeal.cc0_scratch0 : Memref Cert.KernelIdeal.sig Kind.scVector Space.vmem Cert.KernelIdeal.S432 EltTy.i32)
local notation "rV" => (Memref.whole Cert.KernelIdeal.cc0_scratch1 : Memref Cert.KernelIdeal.sig Kind.scVector Space.vmem Cert.KernelIdeal.S8x16x768 EltTy.f32)
local notation "hV" => (Memref.whole Cert.KernelIdeal.cc0_scratch2 : Memref Cert.KernelIdeal.sig Kind.scVector Space.shared Cert.KernelIdeal.S4x9x16x768 EltTy.f32)

variable (fI : Wds) (fT : Tab F) (d : Dev nD) (i : grid0.Coords)

/-- The rows a tile stages for itself, those it stages for its section, and where the latter go. -/
abbrev rows8M (o : Fin 3 → ℕ) (h : ∀ a, o a + S8x16x768.size a ≤ S392x16x768.size a) : Memref sig .scVector .hbm S8x16x768 .f32 :=
  (tV).slice (Rect.unit (s := S392x16x768) o S8x16x768.size h) (fun _ => rfl)
abbrev rows9M (o : Fin 3 → ℕ) (h : ∀ a, o a + S9x16x768.size a ≤ S392x16x768.size a) : Memref sig .scVector .hbm S9x16x768 .f32 :=
  (tV).slice (Rect.unit (s := S392x16x768) o S9x16x768.size h) (fun _ => rfl)
abbrev slotM (o : Fin 4 → ℕ) (h : ∀ a, o a + S1x9x16x768.size a ≤ S4x9x16x768.size a) : Memref sig .scVector .shared S9x16x768 .f32 :=
  ((hV).slice (Rect.unit (s := S4x9x16x768) o S1x9x16x768.size h) (fun _ => rfl)).squeeze S9x16x768 squeezes_S1x9x16x768_S9x16x768
abbrev wordsM (o : Fin 1 → ℕ) (h : ∀ a, o a + S392.size a ≤ S3136.size a) : Memref sig .scVector .hbm S392 .i32 :=
  (wV).slice (Rect.unit (s := S3136) o S392.size h) (fun _ => rfl)

/-! ## What the copies bring -/

theorem rows8_read (h) (x : S8x16x768.Idx) : (rows8M (k0_off1 i) h).view.read (Elt F) (fT : Buf (Elt F) (tLoc d)) x = gOwn fT i x := by
  have hs := sec_lt i
  have hq := qtr_lt i
  have h8 : (x 0).val < 8 := (x 0).isLt
  show fT _ = fT _
  congr 1
  funext a
  match a with
  | 0 => exact Fin.ext (by
      show k0_off1 i 0 + 1 * (x 0).val = (49 * sec i + 8 * qtr i + (x 0).val) % 392
      rw [off1_eq, Nat.mod_eq_of_lt (by omega)]; show 49 * sec i + 8 * qtr i + 1 * (x 0).val = _; omega)
  | 1 => exact Fin.ext (by show k0_off1 i 1 + 1 * (x 1).val = (x 1).val; rw [off1_eq]; show 0 + 1 * (x 1).val = _; omega)
  | 2 => exact Fin.ext (by show k0_off1 i 2 + 1 * (x 2).val = (x 2).val; rw [off1_eq]; show 0 + 1 * (x 2).val = _; omega)

theorem rows9_read (h) (x : S9x16x768.Idx) : (rows9M (k0_off3 i) h).view.read (Elt F) (fT : Buf (Elt F) (tLoc d)) x
    = tabAt fT (49 * sec i + 32 + (x 0).val) (x 1) (x 2) := by
  have hs := sec_lt i
  have h9 : (x 0).val < 9 := (x 0).isLt
  show fT _ = fT _
  congr 1
  funext a
  match a with
  | 0 => exact Fin.ext (by
      show k0_off3 i 0 + 1 * (x 0).val = (49 * sec i + 32 + (x 0).val) % 392
      rw [off3_eq, Nat.mod_eq_of_lt (by omega)]; show 49 * sec i + 32 + 1 * (x 0).val = _; omega)
  | 1 => exact Fin.ext (by show k0_off3 i 1 + 1 * (x 1).val = (x 1).val; rw [off3_eq]; show 0 + 1 * (x 1).val = _; omega)
  | 2 => exact Fin.ext (by show k0_off3 i 2 + 1 * (x 2).val = (x 2).val; rw [off3_eq]; show 0 + 1 * (x 2).val = _; omega)

theorem words_read (h) (x : S392.Idx) : (wordsM (k0_off4 i) h).view.read (Elt F) (fI : Buf (Elt F) (wLoc d)) x = word fI (sec i) (x 0).val := by
  have hs := sec_lt i
  have hx : (x 0).val < 392 := (x 0).isLt
  rw [word, if_pos hx]
  show fI _ = fI _
  congr 1
  funext a
  match a with
  | 0 => exact Fin.ext (by
      show k0_off4 i 0 + 1 * (x 0).val = (392 * sec i + (x 0).val) % 3136
      rw [off4_eq, Nat.mod_eq_of_lt (by omega)]; show 392 * sec i + 1 * (x 0).val = _; omega)

theorem slot_emb {k : ℕ} (h : ∀ a, (![k, 0, 0, 0] : Fin 4 → ℕ) a + S1x9x16x768.size a ≤ S4x9x16x768.size a)
    (hn : S9x16x768.numel = S1x9x16x768.numel) (x : Fin 9) (y : Fin 16) (z : Fin 768) (hk : k < 4) :
    (Rect.unit (s := S4x9x16x768) ![k, 0, 0, 0] S1x9x16x768.size h).emb (Shape.reshapeEquiv hn (ix3 x y z)) = ix4 ⟨k, hk⟩ x y z := by
  rw [reshapeEquiv_ix3_1abc]
  funext a
  match a with
  | 0 => exact Fin.ext (by show k + 1 * 0 = k; omega)
  | 1 => exact Fin.ext (by show 0 + 1 * x.val = x.val; omega)
  | 2 => exact Fin.ext (by show 0 + 1 * y.val = y.val; omega)
  | 3 => exact Fin.ext (by show 0 + 1 * z.val = z.val; omega)

theorem slot_set {k : ℕ} (h : ∀ a, (![k, 0, 0, 0] : Fin 4 → ℕ) a + S1x9x16x768.size a ≤ S4x9x16x768.size a) :
    (slotM ![k, 0, 0, 0] h).view.set = shSlot k := by
  refine (View.set_reshape (v := (hV).view.slice (Rect.unit (s := S4x9x16x768) ![k, 0, 0, 0] S1x9x16x768.size h)) _).trans
    ((View.set_slice_whole cc0_scratch2 (Rect.unit (s := S4x9x16x768) ![k, 0, 0, 0] S1x9x16x768.size h)).trans ?_)
  ext x
  rw [Rect.mem_set_unit, shSlot, Finset.mem_filter]
  constructor
  · intro hx
    have h0 : k ≤ (x 0).val ∧ (x 0).val < k + 1 := hx 0
    exact ⟨Finset.mem_univ _, by omega⟩
  · rintro ⟨-, hx⟩ a
    match a with
    | 0 => show k ≤ (x 0).val ∧ (x 0).val < k + 1; omega
    | 1 => exact ⟨Nat.zero_le _, by show (x 1).val < 0 + 9; have := (x 1).isLt; exact Nat.lt_of_lt_of_le this (Nat.le_of_eq rfl)⟩
    | 2 => exact ⟨Nat.zero_le _, by show (x 2).val < 0 + 16; have := (x 2).isLt; exact Nat.lt_of_lt_of_le this (Nat.le_of_eq rfl)⟩
    | 3 => exact ⟨Nat.zero_le _, by show (x 3).val < 0 + 768; have := (x 3).isLt; exact Nat.lt_of_lt_of_le this (Nat.le_of_eq rfl)⟩

theorem slot_pts {o : Fin 4 → ℕ} (ho : o = ![sec i % 4, 0, 0, 0]) (h) (f : Buf (Elt F) (shLoc d (cV i))) :
    ((slotM o h).view.loc (me d i) ↦[(slotM o h).view.set]{fullShare} f : sProp 𝕄) = shLoc d (cV i) ↦[shSlot (sec i % 4)]{fullShare} f := by
  subst ho
  rw [slot_set]
  rfl

theorem sec_slot : 4 * (i 0).val + sec i % 4 = sec i := by
  have h1 : (i 1).val < 16 := i1_lt i
  show 4 * (i 0).val + (16 * (i 0).val + (i 1).val) / 4 % 4 = (16 * (i 0).val + (i 1).val) / 4
  omega

/-- One write of the whole of a view is a write through the view. -/
theorem writes_whole_emb {κ : Idealize.ShloMosaic.Kind} {sp : Space} {s : Shape} {e : EltTy} (v : View sig κ sp s e) (f : v.ty.Contents (Elt F)) (w : s.Idx → Elt F e) (y : s.Idx) :
    v.writes (Elt F) f [⟨Rect.whole s, w⟩] (v.emb y) = v.write (Elt F) f w Finset.univ (v.emb y) := by
  have e : v.emb y = (v.slice (Rect.whole s)).emb y := congrArg v.emb (Rect.emb_whole_apply s y).symm
  rw [View.write_emb_of_mem _ _ (Finset.mem_univ y), View.writes_singleton]
  refine (congrArg ((v.slice (Rect.whole s)).write (Elt F) f w Finset.univ) e).trans ?_
  exact View.write_emb_of_mem (v := v.slice (Rect.whole s)) f w (Finset.mem_univ y)

/-- The slot a tile fills, filled. -/
theorem slot_filled {o : Fin 4 → ℕ} (ho : o = ![sec i % 4, 0, 0, 0]) (h) (fs : Buf (Elt F) (shLoc d (cV i))) (w : S9x16x768.Idx → F .f32)
    (hw : ∀ x, w x = tabAt fT (49 * sec i + 32 + (x 0).val) (x 1) (x 2)) :
    ((slotM o h).view.loc (me d i) ↦[(slotM o h).view.set]{fullShare} ((slotM o h).view.writes (Elt F) fs [⟨Rect.whole S9x16x768, w⟩]) : sProp 𝕄)
      = shLoc d (cV i) ↦[shSlot (sec i % 4)]{fullShare} (gShared fT (cV i).val : Buf (Elt F) (shLoc d (cV i))) := by
  rw [← slot_pts d i ho h (gShared fT (cV i).val)]
  subst ho
  refine pointsTo_congr fun x hx => ?_
  obtain ⟨y, -, rfl⟩ := Finset.mem_map.mp hx
  rw [writes_whole_emb, View.write_emb_of_mem _ _ (Finset.mem_univ y)]
  refine (hw y).trans ?_
  rw [show y = ix3 (y 0) (y 1) (y 2) from funext fun a => match a with | 0 => rfl | 1 => rfl | 2 => rfl]
  refine Eq.trans ?_ (congrArg (gShared fT (cV i).val) (slot_emb h _ (y 0) (y 1) (y 2) (Nat.mod_lt _ (by decide)))).symm
  show _ = tabAt fT (49 * (4 * (i 0).val + sec i % 4) + 32 + (y 0).val) (y 1) (y 2)
  rw [sec_slot]

theorem pay19_eq (v : IVec S16 32) (j : ℕ) (hj : j < 16) :
    (k0_pay19 (F := F) v) (ix1 ⟨j, hj⟩) = if j < 8 then v (ix1 ⟨j, hj⟩) else 0xFFFFFFFF#32 := by
  have hc : ∀ j : Fin 16, cmpi .slt (iota .scVector S16 32 [0] iota_S16_d0_w32_scVector) (broadcast S16 8#32) (ix1 j) = if j.val < 8 then 1#1 else 0#1 := by
    decide +kernel
  unfold k0_pay19
  dsimp only
  rw [shapeCast_self, shapeCast_self]
  show Scalar.select (cmpi .slt (iota .scVector S16 32 [0] iota_S16_d0_w32_scVector) (broadcast S16 8#32) (ix1 ⟨j, hj⟩)) (v (ix1 ⟨j, hj⟩)) 0xFFFFFFFF#32 = _
  rw [hc]
  by_cases h : j < 8 <;> simp [h, Scalar.select]

theorem word_pad (s : ℕ) {p : ℕ} (hp : 392 ≤ p) : word fI s p = 0xFFFFFFFF#32 := if_neg (by omega)

/-- The tile's words, staged and padded. -/
theorem words_staged (fx : Buf (Elt F) ((me d i).loc cc0_scratch0)) (w : S392.Idx → BitVec 32) (v : S16.Idx → BitVec 32)
    (hw : ∀ x : S392.Idx, w x = word fI (sec i) (x 0).val) (hv : ∀ (j : ℕ) (hj : j < 16), j < 8 → v (ix1 ⟨j, hj⟩) = word fI (sec i) (384 + j)) :
    (xV).view.writes (Elt F) fx [⟨Rect.unit ![416] S16.size inb_S432_S16_416, k0_pay21⟩, ⟨Rect.unit ![400] S16.size inb_S432_S16_400, k0_pay20⟩,
        ⟨Rect.unit ![384] S16.size inb_S432_S16_384, k0_pay19 (F := F) v⟩, ⟨Rect.unit ![0] S392.size inb_S432_S392_0, w⟩] = gWords fI i := by
  have hG : ∀ L : List (View.Piece (Elt F) S432 .i32), (∀ p ∈ L, ∀ x : p.1.shape.Idx, p.2 x = gWords fI i (p.1.emb x)) →
      (∀ y : S432.Idx, ∃ p ∈ L, y ∈ p.1.set) → (xV).view.writes (Elt F) fx L = gWords fI i := fun L h1 h2 =>
    funext fun y => View.read_writes_apply_of_pieces (xV).view (Val := Elt F) fx (gWords fI i) L h1 y (h2 y)
  refine hG _ ?_ fun y => ?_
  · intro p hp
    simp only [List.mem_cons, List.not_mem_nil, or_false] at hp
    rcases hp with rfl | rfl | rfl | rfl
    · intro x
      exact (word_pad fI (sec i) (by show 392 ≤ 416 + 1 * (x 0).val; omega)).symm
    · intro x
      exact (word_pad fI (sec i) (by show 392 ≤ 400 + 1 * (x 0).val; omega)).symm
    · intro x
      have hx : (x 0).val < 16 := (x 0).isLt
      have e : x = ix1 ⟨(x 0).val, hx⟩ := funext fun a => match a with | 0 => rfl
      refine (congrArg (k0_pay19 (F := F) v) e).trans ((pay19_eq (F := F) v _ hx).trans ?_)
      show _ = word fI (sec i) (384 + 1 * (x 0).val)
      split
      · next h => rw [hv _ hx h, Nat.one_mul]
      · rw [word_pad fI _ (by omega)]
    · intro x
      refine (hw x).trans ?_
      show _ = word fI (sec i) (0 + 1 * (x 0).val)
      congr 1; omega
  · have hy : (y 0).val < 432 := (y 0).isLt
    have key : ∀ (o sz : Fin 1 → ℕ) (h : ∀ a, o a + sz a ≤ S432.size a), o 0 ≤ (y 0).val → (y 0).val < o 0 + sz 0 →
        y ∈ (Rect.unit (s := S432) o sz h).set := fun o sz h h1 h2 => (Rect.mem_set_unit).mpr fun a => match a with | 0 => ⟨h1, h2⟩
    by_cases h1 : (y 0).val < 392
    · exact ⟨_, .tail _ (.tail _ (.tail _ (.head _))), key ![0] S392.size inb_S432_S392_0 (Nat.zero_le _) (by show (y 0).val < 0 + 392; omega)⟩
    by_cases h2 : (y 0).val < 400
    · exact ⟨_, .tail _ (.tail _ (.head _)), key ![384] S16.size inb_S432_S16_384 (by show 384 ≤ (y 0).val; omega) (by show (y 0).val < 384 + 16; omega)⟩
    by_cases h3 : (y 0).val < 416
    · exact ⟨_, .tail _ (.head _), key ![400] S16.size inb_S432_S16_400 (by show 400 ≤ (y 0).val; omega) (by show (y 0).val < 400 + 16; omega)⟩
    exact ⟨_, .head _, key ![416] S16.size inb_S432_S16_416 (by show 416 ≤ (y 0).val; omega) (by show (y 0).val < 416 + 16; omega)⟩

/-- The last eight words, read back from the staged ones. -/
theorem tail_read (fx : Buf (Elt F) ((me d i).loc cc0_scratch0)) (w : S392.Idx → BitVec 32)
    (hw : ∀ x : S392.Idx, w x = word fI (sec i) (x 0).val) (j : ℕ) (hj : j < 16) (h8 : j < 8) :
    (xV).view.readAt (Elt F) (Rect.unit (s := S432) ![384] S16.size inb_S432_S16_384).toLoadRect
      ((xV).view.writes (Elt F) fx [⟨Rect.unit ![0] S392.size inb_S432_S392_0, w⟩]) (ix1 ⟨j, hj⟩) = word fI (sec i) (384 + j) := by
  refine Eq.trans (b := (xV).view.read (Elt F) ((xV).view.writes (Elt F) fx [⟨Rect.unit ![0] S392.size inb_S432_S392_0, w⟩]) (ix1 ⟨384 + j, by omega⟩)) ?_ ?_
  · exact congrArg ((xV).view.writes (Elt F) fx [⟨Rect.unit ![0] S392.size inb_S432_S392_0, w⟩])
      (funext fun a => match a with | 0 => Fin.ext (by show 384 + 1 * j = 384 + j; omega))
  · refine (View.read_writes_cons_hit_of_coords (xV).view (Val := Elt F) fx (Rect.unit (s := S432) ![0] S392.size inb_S432_S392_0) w [] (ix1 ⟨384 + j, by omega⟩) _
      (fun a => match a with | 0 => by show 384 + j = 0 + 1 * (384 + j); omega)).trans ?_
    exact hw _

/-- The tile's own rows, staged. -/
theorem own_staged (fr : Buf (Elt F) ((me d i).loc cc0_scratch1)) (w : S8x16x768.Idx → F .f32) (hw : ∀ x, w x = gOwn fT i x) :
    ((rV).view.loc (me d i) ↦{fullShare} ((rV).view.write (Elt F) fr w Finset.univ) : sProp 𝕄)
      = (rV).view.loc (me d i) ↦{fullShare} (gOwn fT i : Buf (Elt F) ((rV).view.loc (me d i))) :=
  congrArg (fun f : Buf (Elt F) ((rV).view.loc (me d i)) => ((rV).view.loc (me d i) ↦{fullShare} f : sProp 𝕄))
    ((View.write_whole_univ cc0_scratch1 fr w).trans (funext hw))

variable [FloatOps F]

set_option maxHeartbeats 4000000 in
/-- Everything a tile does before the barrier: `R` is what follows. -/
theorem stage (q q1 q2 : PosShare TreeShare) (O : CellTallies nD τ sig (HIx 1)) (W : Waits sig (HIx 1)) {v19 v22 : BitVec 32} {α : Type} {Q : α → sProp 𝕄}
    {R : Prog (TpuEff nD τ sig (Elt F) Λ₀ (me d i).2) α} :
    iprop(Transfers.MayWaits (me d i) (default : HIx 1) O ∗ owes (me d i) O W
      ∗ ((wV).view.loc (me d i) ↦{q} (fI : Buf (Elt F) (wLoc d)))
      ∗ ((tV).view.loc (me d i) ↦{q1} (fT : Buf (Elt F) (tLoc d)))
      ∗ ((tV).view.loc (me d i) ↦{q2} (fT : Buf (Elt F) (tLoc d)))
      ∗ (∃ f, (xV).view.loc (me d i) ↦{fullShare} f)
      ∗ (∃ f, (rV).view.loc (me d i) ↦{fullShare} f)
      ∗ (if qtr i = 0 then iprop(∃ f, shLoc d (cV i) ↦[shSlot (sec i % 4)]{fullShare} f) else iprop(emp))
      ∗ semVal (me d i, .dma cc0_scratch3.sem) 0 ∗ semVal (me d i, .dma cc0_scratch4.sem) 0 ∗ semVal (me d i, .dma cc0_scoped0.sem) 0)
    ⊢ iprop((∀ W', ⌜∀ p ∈ W', p ∈ W ∨ p.2 = none⌝ -∗ owes (me d i) O W'
          -∗ ((tV).view.loc (me d i) ↦{q1} (fT : Buf (Elt F) (tLoc d)))
          -∗ ((tV).view.loc (me d i) ↦{q2} (fT : Buf (Elt F) (tLoc d)))
          -∗ ((xV).view.loc (me d i) ↦{fullShare} (gWords fI i : Buf (Elt F) ((xV).view.loc (me d i))))
          -∗ ((rV).view.loc (me d i) ↦{fullShare} (gOwn fT i : Buf (Elt F) ((rV).view.loc (me d i))))
          -∗ (if qtr i = 0 then iprop(shLoc d (cV i) ↦[shSlot (sec i % 4)]{fullShare} (gShared fT (cV i).val : Buf (Elt F) (shLoc d (cV i)))) else iprop(emp))
          -∗ semVal (me d i, .dma cc0_scratch3.sem) 0 -∗ semVal (me d i, .dma cc0_scratch4.sem) 0 -∗ semVal (me d i, .dma cc0_scoped0.sem) 0
          -∗ wp frame (wpE (defs₀ (F := F)) 𝒱₀ (me d i) none) Set.univ R Q)
        -∗ wp frame (wpE (defs₀ (F := F)) 𝒱₀ (me d i) none) Set.univ
          (k0_part15 i wV (Memref.isWhole_whole _) tV (Memref.isWhole_whole _) oV (Memref.isWhole_whole _) xV (Memref.isWhole_whole _)
              rV (Memref.isWhole_whole _) hV (Memref.isWhole_whole _) cc0_scratch3 cc0_scratch4 cc0_scratch5 cc0_scratch6 cc0_scratch7 cc0_scoped0 v19 v22
            >>= fun _ => if h : k0_cond2 i = 1#1 then
                Prog.lift (.waitDma2 cc0_scratch4.sem (rows9M ![0, 0, 0] inb_S392x16x768_S9x16x768_0_0_0) (slotM (k0_off5 i) (k0_off5_inb i h))
                  (View.wordExact_bits rfl) ((View.wordExact_bits rfl).reshape _ _)) >>= fun _ => R
              else R) Q) := by
  rw [k0_part15_eq_skeleton]; unfold k0_part15_skel
  by_cases hq : qtr i = 0
  · have h1 := (cond1_iff i).mpr hq
    have h2 := (cond2_iff i).mpr hq
    rw [if_pos hq, if_pos hq]
    iintro ⟨#Hmw, HO, Hw, Ht, Ht2, ⟨%fx, Hx⟩, ⟨%fr, Hr⟩, ⟨%fs, Hs⟩, Hs3, Hs4, Hs0⟩ Hk
    ihave Hs' := (Entails.of_eq (slot_pts d i (off2_eq i) (k0_off2_inb i h1) fs).symm) $$ Hs
    sl_exec
    have hv : ∀ (j : ℕ) (hj : j < 16), j < 8 → stage.sl.v39 fI d i fx (ix1 ⟨j, hj⟩) = word fI (sec i) (384 + j) := fun j hj h8 =>
      tail_read fI d i fx _ (words_read fI i _) j hj h8
    have hw : ∀ x : S392.Idx, stage.sl.dma0_2 (F := F) fI i x = word fI (sec i) (x 0).val := fun x => by
      unfold stage.sl.dma0_2
      exact words_read (F := F) fI i _ x
    rw [words_staged fI d i fx _ _ hw hv]
    ihave Hs := (Entails.of_eq (slot_filled fT d i (off2_eq i) (k0_off2_inb i h1) fs (stage.sl.dma0_1 fT i h1) (rows9_read fT i _))) $$ Hs'
    ihave Hr := (Entails.of_eq (own_staged fT d i fr (stage.sl.dma0 fT i) (rows8_read fT i _))) $$ Hr
    iapply Hk $$ %_ [] HO Ht Ht2 Hx Hr Hs [Hs3] [Hs4] [Hs0]
    rotate_left
    · iexact Hs3
    · iexact Hs4
    · iexact Hs0
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · have h1 : ¬ k0_cond1 i = 1#1 := fun h => hq ((cond1_iff i).mp h)
    have h2 : ¬ k0_cond2 i = 1#1 := fun h => hq ((cond2_iff i).mp h)
    rw [if_neg hq, if_neg hq]
    iintro ⟨#Hmw, HO, Hw, Ht, Ht2, ⟨%fx, Hx⟩, ⟨%fr, Hr⟩, Hs, Hs3, Hs4, Hs0⟩ Hk
    sl_exec
    have hv : ∀ (j : ℕ) (hj : j < 16), j < 8 → stage.sl.v39_1 fI d i fx (ix1 ⟨j, hj⟩) = word fI (sec i) (384 + j) := fun j hj h8 =>
      tail_read fI d i fx _ (words_read fI i _) j hj h8
    have hw : ∀ x : S392.Idx, stage.sl.dma0_4 (F := F) fI i x = word fI (sec i) (x 0).val := fun x => by
      unfold stage.sl.dma0_4
      exact words_read (F := F) fI i _ x
    rw [words_staged fI d i fx _ _ hw hv]
    ihave Hr := (Entails.of_eq (own_staged fT d i fr (stage.sl.dma0_3 fT i) (rows8_read fT i _))) $$ Hr
    iapply Hk $$ %_ [] HO Ht Ht2 Hx Hr Hs [Hs3] [Hs4] [Hs0]
    rotate_left
    · iexact Hs3
    · iexact Hs4
    · iexact Hs0
    ipureintro; intro p hp
    rcases Finset.mem_insert.mp hp with hp | hp; · exact .inr (hp ▸ rfl)
    rcases Finset.mem_insert.mp hp with hp | hp; · exact .inr (hp ▸ rfl)
    exact .inl hp

end Cert.Proof

end
-- ==== Proof.Tile.lean ====
/-
  Around the tile's loop: what it hands over and receives at the barrier, the rows it writes as the positions it owns, the
  three kinds of copies begun, and the loops that wait for them.
-/
module

public import proofs.«01_k».proof.Proof.Stage
public import Idealize.ShloMosaic.Lib.Ring

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "wV" => (Memref.whole Cert.KernelIdeal.main_v0_scv : Memref Cert.KernelIdeal.sig Kind.scVector Space.hbm Cert.KernelIdeal.S3136 EltTy.i32)
local notation "tV" => (Memref.whole Cert.KernelIdeal.main_v1_scv : Memref Cert.KernelIdeal.sig Kind.scVector Space.hbm Cert.KernelIdeal.S392x16x768 EltTy.f32)
local notation "oV" => (Memref.whole Cert.KernelIdeal.main_v2_scv : Memref Cert.KernelIdeal.sig Kind.scVector Space.hbm Cert.KernelIdeal.S3136x16x768 EltTy.f32)
local notation "xV" => (Memref.whole Cert.KernelIdeal.cc0_scratch0 : Memref Cert.KernelIdeal.sig Kind.scVector Space.vmem Cert.KernelIdeal.S432 EltTy.i32)
local notation "rV" => (Memref.whole Cert.KernelIdeal.cc0_scratch1 : Memref Cert.KernelIdeal.sig Kind.scVector Space.vmem Cert.KernelIdeal.S8x16x768 EltTy.f32)
local notation "hV" => (Memref.whole Cert.KernelIdeal.cc0_scratch2 : Memref Cert.KernelIdeal.sig Kind.scVector Space.shared Cert.KernelIdeal.S4x9x16x768 EltTy.f32)

variable (fI : Wds) (fT : Tab F) (d : Dev nD) (i : grid0.Coords)

/-! ## The rows a tile writes -/

theorem writer_lt (s p : ℕ) (hp : p < 392) : writer fI s p < 4 := by
  unfold writer
  split
  · omega
  · exact groupQ_lt (by omega)

/-- The positions the tile owns: those of the three kinds. -/
theorem writer_iff (hI : ∀ x, (fI x).toNat < 49) {p : ℕ} (hp : p < 392) :
    writer fI (sec i) p = qtr i ↔ own1 fI i p ∨ own2 fI i p ∨ own3 fI i p := by
  have hw : (word fI (sec i) p).toNat < 49 := by rw [word, if_pos hp]; exact hI _
  have hq := qtr_lt i
  unfold writer own1 own2 own3 Own1 Own2 Own3
  generalize word fI (sec i) p = w at *
  split
  · omega
  · constructor
    · intro h
      by_cases h41 : w.toNat < 41
      · exact .inr (.inl ⟨by omega, h41, h⟩)
      · exact .inr (.inr ⟨by omega, hw, h⟩)
    · rintro (h | h | h)
      · omega
      · exact h.2.2
      · exact h.2.2

theorem own_lt {b : ℕ} (h : own1 fI i b ∨ own2 fI i b ∨ own3 fI i b) : b < 392 := by
  rcases h with h | h | h
  · exact own1_lt fI i h
  · exact own2_lt fI i h
  · exact own3_lt fI i h

theorem oSet_eq (hI : ∀ x, (fI x).toNat < 49) :
    oSet fI (wid i) = ((Finset.range 400).filter fun b => own1 fI i b ∨ own2 fI i b ∨ own3 fI i b).biUnion fun b => oRow (392 * sec i + b) := by
  ext x
  have hw := wid_eq i
  have hq := qtr_lt i
  simp only [oSet, oRow, Finset.mem_filter, Finset.mem_univ, true_and, Finset.mem_biUnion, Finset.mem_range]
  have hp : (x 0).val % 392 < 392 := Nat.mod_lt _ (by decide)
  have hwr := writer_lt fI ((x 0).val / 392) _ hp
  constructor
  · intro h
    have hs : (x 0).val / 392 = sec i := by omega
    rw [hs] at h hwr
    exact ⟨(x 0).val % 392, ⟨by omega, (writer_iff fI i hI hp).mp (by omega)⟩, by omega⟩
  · rintro ⟨b, ⟨-, hb⟩, hx⟩
    have hb' := own_lt fI i hb
    have hs : (x 0).val / 392 = sec i := by omega
    have hm : (x 0).val % 392 = b := by omega
    rw [hs, hm, (writer_iff fI i hI hb').mpr hb]
    exact hw.symm

/-- The tile's elements of the result, row by row, by the kind of copy that fills them. -/
theorem out_split (hI : ∀ x, (fI x).toNat < 49) (f : S3136x16x768.Idx → F .f32) :
    (oLoc d ↦[oSet fI (wid i)]{fullShare} (f : Buf (Elt F) (oLoc d)) : sProp 𝕄)
      = iprop((bigSep ((Finset.range 400).filter (own1 fI i)) (outPts d i f)) ∗ (bigSep ((Finset.range 400).filter (own2 fI i)) (outPts d i f))
          ∗ bigSep ((Finset.range 400).filter (own3 fI i)) (outPts d i f)) := by
  have hdisj : ∀ a ∈ (Finset.range 400).filter (fun b => own1 fI i b ∨ own2 fI i b ∨ own3 fI i b), ∀ b ∈ (Finset.range 400).filter (fun b => own1 fI i b ∨ own2 fI i b ∨ own3 fI i b),
      a ≠ b → Disjoint (oRow (392 * sec i + a)) (oRow (392 * sec i + b)) := by
    intro a _ b _ hab
    rw [Finset.disjoint_left]
    intro x hx hx'
    have h1 := (Finset.mem_filter.mp hx).2
    have h2 := (Finset.mem_filter.mp hx').2
    omega
  rw [oSet_eq fI i hI, pointsTo_biUnion _ (ℓ := oLoc d) _ hdisj,
    SparseCore.bigSep_filter_split' ((Finset.range 400).filter fun b => own1 fI i b ∨ own2 fI i b ∨ own3 fI i b) (own1 fI i),
    SparseCore.bigSep_filter_split' (((Finset.range 400).filter fun b => own1 fI i b ∨ own2 fI i b ∨ own3 fI i b).filter fun b => ¬ own1 fI i b) (own2 fI i)]
  have e1 : ((Finset.range 400).filter fun b => own1 fI i b ∨ own2 fI i b ∨ own3 fI i b).filter (own1 fI i) = (Finset.range 400).filter (own1 fI i) := by
    ext b; simp only [Finset.mem_filter]; tauto
  have e2 : (((Finset.range 400).filter fun b => own1 fI i b ∨ own2 fI i b ∨ own3 fI i b).filter fun b => ¬ own1 fI i b).filter (own2 fI i) = (Finset.range 400).filter (own2 fI i) := by
    ext b; simp only [Finset.mem_filter]
    have hne : own2 fI i b → ¬ own1 fI i b := fun h h' => by
      have := h.1; have := h'.2; have := qtr_lt i; omega
    tauto
  have e3 : (((Finset.range 400).filter fun b => own1 fI i b ∨ own2 fI i b ∨ own3 fI i b).filter fun b => ¬ own1 fI i b).filter (fun b => ¬ own2 fI i b) = (Finset.range 400).filter (own3 fI i) := by
    ext b; simp only [Finset.mem_filter]
    have hne : own3 fI i b → ¬ own1 fI i b := fun h h' => by
      have := h.1; have := h'.2; have := qtr_lt i; omega
    have hne' : own3 fI i b → ¬ own2 fI i b := fun h h' => by
      have := h.1; have := h'.2.1; omega
    tauto
  rw [e1, e2, e3]
  rfl

/-! ## The copies begun -/

instance outPts_storable (f : S3136x16x768.Idx → F .f32) (b : ℕ) : BI.Storable (upEmb : UEmb _ 𝕄) (outPts d i f b) := by unfold outPts; infer_instance
instance srcPts1_storable (b : ℕ) : BI.Storable (upEmb : UEmb _ 𝕄) (srcPts1 fI fT d i b) := by unfold srcPts1; infer_instance
instance srcPts2_storable (b : ℕ) : BI.Storable (upEmb : UEmb _ 𝕄) (srcPts2 fI fT d i b) := by unfold srcPts2; infer_instance
instance srcPts3_storable (b : ℕ) : BI.Storable (upEmb : UEmb _ 𝕄) (srcPts3 fI fT d i b) := by unfold srcPts3; infer_instance

theorem kind_begin {c : Thread nD τ} {own : ℕ → Prop} [DecidablePred own] {Pre Post : ℕ → sProp (MT nD τ sig (HIx 1) (Elt F) ℕ UU ℕ)} {N : ℕ} {sm : DmaSem sig}
    [∀ b, BI.Storable (upEmb : UEmb _ 𝕄) (Post b)] :
    iprop(semVal (c, .dma sm) 0 ∗ bigSep ((Finset.range 400).filter own) Pre) ⊢ (|={Set.univ}=> Kind c own Pre Post N sm 0 : sProp 𝕄) := by
  unfold Kind
  iintro ⟨Hv, Hp⟩
  imod (Transfers.batch_alloc' EC c (default : HIx 1) N (fun t : Fin (Nat.count own 400) => Post (pos own t.val)) (sm := .dma sm) (E := Set.univ)) $$ Hv with HB
  imodintro
  isplitl [Hp]
  · rw [Finset.range_eq_Ico]; iexact Hp
  · rw [Nat.count_zero]; iexact HB

/-! ## The loops that wait -/

/-- All the copies of a kind issued, a loop of as many waits as there are has them all done; the loop after it makes no
    trip. -/
theorem drain [FloatOps F] {c : Thread nD τ} {own : ℕ → Prop} [DecidablePred own] {Pre Post : ℕ → sProp (MT nD τ sig (HIx 1) (Elt F) ℕ UU ℕ)} {N : ℕ} {sm : DmaSem sig}
    (hN : 0 < N) (l : Scf.Loop 32) (hok : l.OK) (htr : l.trips = Nat.count own 400) (body : Fin l.trips → PUnit → Prog (TpuEff nD τ sig (Elt F) Λ₀ c.2) PUnit)
    {sp sp' : Space} {s s' : Shape} {e e' : EltTy} {src : Memref sig c.2.kind sp s e} {dst : Memref sig c.2.kind sp' s' e'}
    {hsrc : src.view.WordExact} {hdst : dst.view.WordExact} (hb : ∀ k u, body k u = (Prog.lift (.waitDma2 sm src dst hsrc hdst) >>= fun _ => pure ⟨⟩))
    (hJ : dst.view.dmaCredit = N) (l' : Scf.Loop 32) (hok' : l'.OK) (htr' : l'.trips = 0) (body' : Fin l'.trips → PUnit → Prog (TpuEff nD τ sig (Elt F) Λ₀ c.2) PUnit)
    (O : CellTallies nD τ sig (HIx 1)) (W : Waits sig (HIx 1)) {α : Type} {kk : PUnit → Prog (TpuEff nD τ sig (Elt F) Λ₀ c.2) α} {Q : α → sProp 𝕄} :
    iprop(Kind c own Pre Post N sm 400 ∗ Transfers.MayWaits c (default : HIx 1) O ∗ ∃ W', ⌜∀ p ∈ W', p ∈ W ∨ p.2 = none ∨ p.2 = some (0 : Fin 1)⌝ ∗ owes c O W')
      ⊢ iprop(((bigSep ((Finset.range 400).filter own) Post) -∗ semVal (c, .dma sm) 0
            -∗ (∃ W', ⌜∀ p ∈ W', p ∈ W ∨ p.2 = none ∨ p.2 = some (0 : Fin 1)⌝ ∗ owes c O W')
            -∗ wp frame (wpE (defs₀ (F := F)) 𝒱₀ c none) Set.univ (kk ⟨⟩) Q)
          -∗ wp frame (wpE (defs₀ (F := F)) 𝒱₀ c none) Set.univ (Scf.Loop.for l hok ⟨⟩ body >>= fun _ => Scf.Loop.for l' hok' ⟨⟩ body' >>= kk) Q) := by
  unfold Kind
  iintro ⟨⟨-, HB⟩, #Hmw, HO⟩ Hk
  iapply (Scf.wp_for_bind frame (wpE (defs₀ (F := F)) 𝒱₀ c none) Set.univ l.lb l.ub l.st hok PUnit.unit body
    (fun k _ => iprop(Transfers.MayWaits c (default : HIx 1) O
      ∗ Transfers.Batch EC c (.dma sm) (default : HIx 1) N (fun t : Fin (Nat.count own 400) => Post (pos own t.val)) (Nat.count own 400) (N * k)
      ∗ ∃ W', ⌜∀ p ∈ W', p ∈ W ∨ p.2 = none ∨ p.2 = some (0 : Fin 1)⌝ ∗ owes c O W')) ?_) $$ [HB HO]
  · intro k u
    have hk : k.val < Nat.count own 400 := htr ▸ k.isLt
    rw [hb]
    iintro ⟨#Hmw, HB, %W', %hW', HO⟩
    iapply (Transfers.wp_waitBatchMulO EC 𝒱₀ c none (default : HIx 1) 1 (hJ.trans (Nat.one_mul N).symm)
      (show N * k.val + 1 * N ≤ N * Nat.count own 400 by rw [Nat.one_mul, ← Nat.mul_succ]; exact Nat.mul_le_mul_left N hk)) $$ [HB HO]
    · isplitl [HB]; · iexact HB
      isplitl [HO]; · iexact HO
      iapply (Transfers.MayWaits.elim (.dma sm)); iexact Hmw
    iintro ⟨HB, HO⟩
    iapply (ret_step (F := F) (BI.Entails.refl _))
    isplitr; · iexact Hmw
    isplitl [HB]
    · rw [Nat.one_mul, ← Nat.mul_succ]; iexact HB
    iexists _; isplitr
    swap; · iexact HO
    ipureintro; intro p hp
    rcases Finset.mem_insert.mp hp with hp | hp; · exact .inr (.inl (hp ▸ rfl))
    exact hW' p hp
  · isplitr; · iexact Hmw
    isplitl [HB]; · iexact HB
    iexact HO
  iintro %acc ⟨-, HB, HO⟩
  rw [show Scf.trips l.lb l.ub l.st = Nat.count own 400 from htr]
  iapply (fupd_wp frame (wpE (defs₀ (F := F)) 𝒱₀ c none) Set.univ)
  imod (Transfers.batch_collect' EC c hN) $$ HB with ⟨HD, Hv⟩
  imodintro
  iapply (Scf.wp_for0_bind frame (wpE (defs₀ (F := F)) 𝒱₀ c none) Set.univ l'.lb l'.ub l'.st hok' body' htr' kk Q _ (BI.Entails.refl _))
  iapply Hk $$ [HD] Hv HO
  iapply (Entails.of_eq (show bigSep Finset.univ (fun t : Fin (Nat.count own 400) => Post (pos own t.val)) = bigSep ((Finset.range 400).filter own) Post by
    rw [Ring.bigSep_fin_eq_range _ _ (fun t => Post (pos own t)) (fun _ _ => rfl), bigSep_pos]))
  iexact HD

end Cert.Proof

end
-- ==== Proof.Task.lean ====
/-
  A tile's whole task: it stages, meets the other tiles of its SparseCore at the barrier, where the tile that filled a
  section's slot hands each of the section's tiles a share of it, begins its copies and waits for them all.
-/
module

public import proofs.«01_k».proof.Proof.Tile

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "wV" => (Memref.whole Cert.KernelIdeal.main_v0_scv : Memref Cert.KernelIdeal.sig Kind.scVector Space.hbm Cert.KernelIdeal.S3136 EltTy.i32)
local notation "tV" => (Memref.whole Cert.KernelIdeal.main_v1_scv : Memref Cert.KernelIdeal.sig Kind.scVector Space.hbm Cert.KernelIdeal.S392x16x768 EltTy.f32)
local notation "oV" => (Memref.whole Cert.KernelIdeal.main_v2_scv : Memref Cert.KernelIdeal.sig Kind.scVector Space.hbm Cert.KernelIdeal.S3136x16x768 EltTy.f32)
local notation "xV" => (Memref.whole Cert.KernelIdeal.cc0_scratch0 : Memref Cert.KernelIdeal.sig Kind.scVector Space.vmem Cert.KernelIdeal.S432 EltTy.i32)
local notation "rV" => (Memref.whole Cert.KernelIdeal.cc0_scratch1 : Memref Cert.KernelIdeal.sig Kind.scVector Space.vmem Cert.KernelIdeal.S8x16x768 EltTy.f32)
local notation "hV" => (Memref.whole Cert.KernelIdeal.cc0_scratch2 : Memref Cert.KernelIdeal.sig Kind.scVector Space.shared Cert.KernelIdeal.S4x9x16x768 EltTy.f32)

variable (fI : Wds) (fT : Tab F) (f0 : S3136x16x768.Idx → F .f32) (d : Dev nD) (i : grid0.Coords)

/-! ## What passes at the barrier -/

/-- What is left of a slot of the shared scratch when each of the section's four tiles has its share. -/
abbrev slotRest (c : Fin τ.nSC) (a : ℕ) : sProp 𝕄 :=
  shLoc d c ↦[shSlot a]{Transfers.shareDrop fullShare 4} (gShared fT c.val : Buf (Elt F) (shLoc d c))

/-- The tiles of slot `a`. -/
theorem slot_tiles (a : Fin 4) (Φ : ℕ → sProp (MT nD τ sig (HIx 1) (Elt F) ℕ UU ℕ)) :
    (bigSep Finset.univ fun j : Fin 16 => if 4 * a.val = 4 * (j.val / 4) then Φ j.val else iprop(emp))
      = bigSep (Finset.range 4) fun k => Φ (4 * a.val + k) := by
  have himg : (Finset.univ.filter fun j : Fin 16 => 4 * a.val = 4 * (j.val / 4)) = Finset.univ.image fun k : Fin 4 => (⟨4 * a.val + k.val, by omega⟩ : Fin 16) := by
    ext j
    simp only [Finset.mem_filter, Finset.mem_univ, true_and, Finset.mem_image]
    constructor
    · intro h; exact ⟨⟨j.val % 4, Nat.mod_lt _ (by decide)⟩, Fin.ext (by show 4 * a.val + j.val % 4 = j.val; omega)⟩
    · rintro ⟨k, rfl⟩; show 4 * a.val = 4 * ((4 * a.val + k.val) / 4); omega
  rw [show (bigSep Finset.univ fun j : Fin 16 => if 4 * a.val = 4 * (j.val / 4) then Φ j.val else iprop(emp))
      = bigSep (Finset.univ.filter fun j : Fin 16 => 4 * a.val = 4 * (j.val / 4)) fun j => Φ j.val from (bigSep_filter _ _ _).symm,
    himg, SparseCore.bigSep_image_of_injOn (fun x _ y _ h => Fin.ext (by have := congrArg Fin.val h; dsimp only at this; omega))]
  exact Ring.bigSep_fin_eq_range 4 _ (fun k => Φ (4 * a.val + k)) (fun _ _ => rfl)

/-- A slot, filled, is the four shares and the rest. -/
theorem slot_shares (c : Fin τ.nSC) (a : Fin 4) :
    (shLoc d c ↦[shSlot a.val]{fullShare} (gShared fT c.val : Buf (Elt F) (shLoc d c)) : sProp 𝕄)
      = iprop(slotRest fT d c a.val ∗ bigSep (Finset.range 4) fun k => slotPts fT d c (4 * a.val + k)) := by
  rw [Entails.antisymm (Transfers.pointsTo_toks_range fullShare 4).1 (Transfers.pointsTo_toks_range fullShare 4).2]
  congr 1
  refine bigSep_congr fun k hk => ?_
  have hk : k < 4 := Finset.mem_range.mp hk
  unfold slotPts slotShare
  rw [show (4 * a.val + k) / 4 = a.val by omega, show (4 * a.val + k) % 4 = k by omega]

variable [FloatOps F]

/-- Before the barrier, the slot a tile has filled is what its duties hand over, and the rest of it. -/
theorem pays_intro : (if qtr i = 0 then iprop(shLoc d (cV i) ↦[shSlot (sec i % 4)]{fullShare} (gShared fT (cV i).val : Buf (Elt F) (shLoc d (cV i)))) else iprop(emp))
    ⊢ iprop((bigSep Finset.univ fun j : Fin (grid0.bound 1) => (bRd fT).payload (bcell d (cV i) (j.castLE hsub0)) 0 (jV i).val)
        ∗ if qtr i = 0 then slotRest fT d (cV i) (sec i % 4) else (iprop(emp) : sProp 𝕄)) := by
  have h1 := i1_lt i
  have hj : (jV i).val = (i 1).val := rfl
  have hw : wid i = 16 * (i 0).val + (i 1).val := rfl
  have hs : sec i = wid i / 4 := rfl
  have hq : qtr i = wid i % 4 := rfl
  rw [show (bigSep Finset.univ fun j : Fin (grid0.bound 1) => (bRd fT).payload (bcell d (cV i) (j.castLE hsub0)) 0 (jV i).val)
    = bigSep Finset.univ fun j : Fin 16 => if (jV i).val = 4 * (j.val / 4) then slotPts fT d (cV i) j.val else (iprop(emp) : sProp 𝕄) from rfl]
  by_cases h : qtr i = 0
  · rw [if_pos h, if_pos h]
    obtain ⟨a, ha⟩ : ∃ a : Fin 4, sec i % 4 = a.val := ⟨⟨sec i % 4, Nat.mod_lt _ (by decide)⟩, rfl⟩
    rw [ha, show (jV i).val = 4 * a.val by omega, slot_tiles a fun j => slotPts fT d (cV i) j, slot_shares]
    iintro ⟨H, H'⟩
    isplitl [H'] <;> iassumption
  · rw [if_neg h, if_neg h, bigSep_congr (Ψ := fun _ => iprop(emp)) fun j _ => if_neg (by omega), bigSep_emp']
    iintro -
    isplitr <;> iempintro

/-- After it, what its own round collected holds the tile's share of its section's slot. -/
theorem pays_elim : (bigSep ((bRd fT).duties (bcell d (cV i) (jV i)) 0 \ ∅) fun n => (bRd fT).payload (bcell d (cV i) (jV i)) 0 n)
    ⊢ (slotPts fT d (cV i) (i 1).val : sProp 𝕄) := by
  have h1 := i1_lt i
  rw [Finset.sdiff_empty, bRd_duties₀]
  refine (bigSep_elim (i := 4 * ((i 1).val / 4)) (Finset.mem_image.mpr ⟨⟨4 * ((i 1).val / 4), by show _ < 16; omega⟩, Finset.mem_univ _, rfl⟩)).trans ?_
  show bPay fT (bcell d (cV i) (jV i)) (4 * ((i 1).val / 4)) ⊢ _
  unfold bPay; dsimp only
  rw [if_pos (show 4 * ((i 1).val / 4) = 4 * ((jV i).val / 4) from rfl)]; exact BI.Entails.refl _

/-! ## The tile's own buffers and semaphores -/

abbrev dcell (n : DmaSem sig) : GSem nD τ sig := (me d i, .dma n)

theorem mem_dcell {n : DmaSem sig} (h : (SemLoc.dma n : SemLoc sig).isScoped .scVector = true) : dcell d i n ∈ ownCells (me d i) :=
  mem_ownCells.mpr ⟨rfl, h⟩

theorem dcell_ne {n n' : DmaSem sig} (h : n ≠ n') : dcell d i n ≠ dcell d i n' := fun e => h (by
  have := congrArg Prod.snd e; exact SemLoc.dma.inj this)

theorem ownSems0_V :
    (ownSems0 (me d i) : sProp 𝕄)
      = iprop(semVal (me d i, .dma cc0_scratch3.sem) 0 ∗ semVal (me d i, .dma cc0_scratch4.sem) 0 ∗ semVal (me d i, .dma cc0_scratch5.sem) 0
          ∗ semVal (me d i, .dma cc0_scratch6.sem) 0 ∗ semVal (me d i, .dma cc0_scratch7.sem) 0 ∗ semVal (me d i, .dma cc0_scoped0.sem) 0
          ∗ bigSep ((((((ownCells (me d i)).erase (dcell d i cc0_scratch3.sem)).erase (dcell d i cc0_scratch4.sem)).erase (dcell d i cc0_scratch5.sem)).erase
              (dcell d i cc0_scratch6.sem)).erase (dcell d i cc0_scratch7.sem) |>.erase (dcell d i cc0_scoped0.sem)) fun g => semVal g 0) := by
  unfold SparseCore.Cfg.ownSems0
  rw [SparseCore.bigSep_erase' (mem_dcell d i (n := cc0_scratch3.sem) (by decide)),
    SparseCore.bigSep_erase' (i := dcell d i cc0_scratch4.sem), SparseCore.bigSep_erase' (i := dcell d i cc0_scratch5.sem),
    SparseCore.bigSep_erase' (i := dcell d i cc0_scratch6.sem), SparseCore.bigSep_erase' (i := dcell d i cc0_scratch7.sem),
    SparseCore.bigSep_erase' (i := dcell d i cc0_scoped0.sem)]
  all_goals
    simp only [Finset.mem_erase]
    repeat' apply And.intro
    all_goals first | exact dcell_ne d i (by decide) | exact mem_dcell d i (by decide)

theorem ownBufs_V :
    (ownBufs (me d i) : sProp 𝕄)
      = iprop((∃ f, (me d i).loc cc0_scratch0 ↦{fullShare} f) ∗ (∃ f, (me d i).loc cc0_scratch1 ↦{fullShare} f)
          ∗ bigSep (((ownRefs (τ := τ) (.scVector (cV i) (jV i))).erase ((Proc.scVector (cV i) (jV i)).devRef cc0_scratch0)).erase ((Proc.scVector (cV i) (jV i)).devRef cc0_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV i) (jV i)) (b := (Proc.scVector (cV i) (jV i)).devRef cc0_scratch0) rfl),
    SparseCore.bigSep_erase' (Finset.mem_erase.mpr ⟨fun h => absurd (Proc.devRef_injective _ h) (fun h => by cases h), SparseCore.Cfg.mem_ownRefs_of_owner (p := Proc.scVector (cV i) (jV i)) (b := (Proc.scVector (cV i) (jV i)).devRef cc0_scratch1) rfl⟩)]

/-! ## The task -/

/-- What a tile is handed, -/
def goPts : sProp 𝕄 :=
  iprop((wLoc d ↦{tileShare i} (fI : Buf (Elt F) (wLoc d))) ∗ (tLoc d ↦{tileShare i} (fT : Buf (Elt F) (tLoc d)))
    ∗ (oLoc d ↦[oSet fI (wid i)]{fullShare} (f0 : Buf (Elt F) (oLoc d)))
    ∗ if qtr i = 0 then iprop(∃ f, shLoc d (cV i) ↦[shSlot (sec i % 4)]{fullShare} f) else iprop(emp))

/-- and what it hands back. -/
def tdPts : sProp 𝕄 :=
  iprop((oLoc d ↦[oSet fI (wid i)]{fullShare} (gOut fI fT : Buf (Elt F) (oLoc d)))
    ∗ slotPts fT d (cV i) (i 1).val ∗ if qtr i = 0 then slotRest fT d (cV i) (sec i % 4) else iprop(emp))

/-- A points-to in two shares. -/
theorem two_shares {ℓ : Loc nD τ sig} {q : PosShare TreeShare} {f : Buf (Elt F) ℓ} :
    (ℓ ↦{q} f : sProp 𝕄) = iprop((ℓ ↦{Transfers.shareDrop q 1} f) ∗ ℓ ↦{Transfers.shareTokN q 0} f) := by
  rw [Entails.antisymm (Transfers.pointsTo_toks_range q 1).1 (Transfers.pointsTo_toks_range q 1).2, Finset.range_one, bigSep_singleton]

/-- Every copy issued: the waits, and the rows as the copies leave them. -/
theorem finish (O : CellTallies nD τ sig (HIx 1)) (W : Waits sig (HIx 1)) {h17 h18 h19} {Q : PUnit → sProp 𝕄} :
    iprop(St fI fT f0 d i 400 400 400 ∗ Transfers.MayWaits (me d i) (default : HIx 1) O ∗ ∃ W', ⌜∀ p ∈ W', p ∈ W ∨ p.2 = none ∨ p.2 = some (0 : Fin 1)⌝ ∗ owes (me d i) O W')
      ⊢ iprop(((bigSep ((Finset.range 400).filter (own1 fI i)) fun b => iprop(outPts d i (gOut fI fT) b ∗ srcPts1 fI fT d i b))
            -∗ (bigSep ((Finset.range 400).filter (own2 fI i)) fun b => iprop(outPts d i (gOut fI fT) b ∗ srcPts2 fI fT d i b))
            -∗ (bigSep ((Finset.range 400).filter (own3 fI i)) fun b => iprop(outPts d i (gOut fI fT) b ∗ srcPts3 fI fT d i b))
            -∗ semVal (me d i, .dma cc0_scratch5.sem) 0 -∗ semVal (me d i, .dma cc0_scratch6.sem) 0 -∗ semVal (me d i, .dma cc0_scratch7.sem) 0
            -∗ ((xV).view.loc (me d i) ↦[(xV).view.set]{fullShare} (gWords fI i : Buf (Elt F) ((xV).view.loc (me d i))))
            -∗ (∃ W', ⌜∀ p ∈ W', p ∈ W ∨ p.2 = none ∨ p.2 = some (0 : Fin 1)⌝ ∗ owes (me d i) O W') -∗ Q ⟨⟩)
          -∗ wp frame (wpE (defs₀ (F := F)) 𝒱₀ (me d i) none) Set.univ
            (Scf.Loop.for (k0_t2_loop (cnt1 fI i 400)) (k0_t2_ok (cnt1 fI i 400) h17) ⟨⟩ (k0_t2_body i wV (Memref.isWhole_whole _) tV (Memref.isWhole_whole _) oV (Memref.isWhole_whole _) xV (Memref.isWhole_whole _)
                rV (Memref.isWhole_whole _) hV (Memref.isWhole_whole _) cc0_scratch3 cc0_scratch4 cc0_scratch5 cc0_scratch6 cc0_scratch7 cc0_scoped0 (cnt1 fI i 400) h17) >>= fun _ =>
              Scf.Loop.for (k0_t3_loop (cnt1 fI i 400)) (k0_t3_ok (cnt1 fI i 400) h17) ⟨⟩ (k0_t3_body i wV (Memref.isWhole_whole _) tV (Memref.isWhole_whole _) oV (Memref.isWhole_whole _) xV (Memref.isWhole_whole _)
                rV (Memref.isWhole_whole _) hV (Memref.isWhole_whole _) cc0_scratch3 cc0_scratch4 cc0_scratch5 cc0_scratch6 cc0_scratch7 cc0_scoped0 (cnt1 fI i 400) h17) >>= fun _ =>
              Scf.Loop.for (k0_t4_loop (cnt2 fI i 400)) (k0_t4_ok (cnt2 fI i 400) h18) ⟨⟩ (k0_t4_body i wV (Memref.isWhole_whole _) tV (Memref.isWhole_whole _) oV (Memref.isWhole_whole _) xV (Memref.isWhole_whole _)
                rV (Memref.isWhole_whole _) hV (Memref.isWhole_whole _) cc0_scratch3 cc0_scratch4 cc0_scratch5 cc0_scratch6 cc0_scratch7 cc0_scoped0 (cnt2 fI i 400) h18) >>= fun _ =>
              Scf.Loop.for (k0_t5_loop (cnt2 fI i 400)) (k0_t5_ok (cnt2 fI i 400) h18) ⟨⟩ (k0_t5_body i wV (Memref.isWhole_whole _) tV (Memref.isWhole_whole _) oV (Memref.isWhole_whole _) xV (Memref.isWhole_whole _)
                rV (Memref.isWhole_whole _) hV (Memref.isWhole_whole _) cc0_scratch3 cc0_scratch4 cc0_scratch5 cc0_scratch6 cc0_scratch7 cc0_scoped0 (cnt2 fI i 400) h18) >>= fun _ =>
              Scf.Loop.for (k0_t6_loop (cnt3 fI i 400)) (k0_t6_ok (cnt3 fI i 400) h19) ⟨⟩ (k0_t6_body i wV (Memref.isWhole_whole _) tV (Memref.isWhole_whole _) oV (Memref.isWhole_whole _) xV (Memref.isWhole_whole _)
                rV (Memref.isWhole_whole _) hV (Memref.isWhole_whole _) cc0_scratch3 cc0_scratch4 cc0_scratch5 cc0_scratch6 cc0_scratch7 cc0_scoped0 (cnt3 fI i 400) h19) >>= fun _ =>
              Scf.Loop.for (k0_t7_loop (cnt3 fI i 400)) (k0_t7_ok (cnt3 fI i 400) h19) ⟨⟩ (k0_t7_body i wV (Memref.isWhole_whole _) tV (Memref.isWhole_whole _) oV (Memref.isWhole_whole _) xV (Memref.isWhole_whole _)
                rV (Memref.isWhole_whole _) hV (Memref.isWhole_whole _) cc0_scratch3 cc0_scratch4 cc0_scratch5 cc0_scratch6 cc0_scratch7 cc0_scoped0 (cnt3 fI i 400) h19) >>= fun _ =>
              pure ⟨⟩) Q) := by
  have hle : ∀ (p : ℕ → Prop) [DecidablePred p], Nat.count p 400 ≤ 400 := fun p _ => Nat.count_le p
  have hN : 0 < rowUnits := View.dmaCredit_pos _ (by decide)
  unfold St Kind1 Kind2 Kind3
  iintro ⟨⟨HK1, HK2, HK3, Hx⟩, #Hmw, HO⟩ Hk
  iapply (drain hN (k0_t2_loop (cnt1 fI i 400)) (k0_t2_ok _ h17) (trips_drain _ (hle (own1 fI i))).1 _ (fun k u => rfl) rfl
    (k0_t3_loop (cnt1 fI i 400)) (k0_t3_ok _ h17) (trips_rest _).1 _ O W) $$ [HK1 HO]
  · isplitl [HK1]; · iexact HK1
    isplitr; · iexact Hmw
    iexact HO
  iintro H1 Hs1 HO
  iapply (drain hN (k0_t4_loop (cnt2 fI i 400)) (k0_t4_ok _ h18) (trips_drain _ (hle (own2 fI i))).2.1 _ (fun k u => rfl) rfl
    (k0_t5_loop (cnt2 fI i 400)) (k0_t5_ok _ h18) (trips_rest _).2.1 _ O W) $$ [HK2 HO]
  · isplitl [HK2]; · iexact HK2
    isplitr; · iexact Hmw
    iexact HO
  iintro H2 Hs2 HO
  iapply (drain hN (k0_t6_loop (cnt3 fI i 400)) (k0_t6_ok _ h19) (trips_drain _ (hle (own3 fI i))).2.2 _ (fun k u => rfl) rfl
    (k0_t7_loop (cnt3 fI i 400)) (k0_t7_ok _ h19) (trips_rest _).2.2 _ O W) $$ [HK3 HO]
  · isplitl [HK3]; · iexact HK3
    isplitr; · iexact Hmw
    iexact HO
  iintro H3 Hs3 HO
  iapply (ret_step (F := F) (BI.Entails.refl _))
  iapply Hk $$ H1 H2 H3 Hs1 Hs2 Hs3 Hx HO

theorem b_lt {b : ℕ} (h : own2 fI i b) : hRow (sec i % 4) ((word fI (sec i) b).toNat - 32) ⊆ shSlot ((i 1).val / 4) := by
  have h1 := i1_lt i
  intro x hx
  have hx := (Finset.mem_filter.mp hx).2
  have hw : wid i = 16 * (i 0).val + (i 1).val := rfl
  have hs : sec i = wid i / 4 := rfl
  exact Finset.mem_filter.mpr ⟨Finset.mem_univ _, by omega⟩

set_option maxHeartbeats 4000000 in
/-- The task on vector subcore `(i 0, i 1)` of device `d`. -/
theorem tile_body (hI : ∀ x, (fI x).toNat < 49) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit fT d (cV i) (jV i) ∗ goPts fI fT f0 d i
        ∗ scopedBufs (me d i) ∗ scopedSems0 (me d i) ∗ owes (me d i) (O + oxV d (cV i)) W)
      ⊢ wp frame (wpE (defs₀ (F := F)) 𝒱₀ (me d i) none) Set.univ
          (cc0__gather_kernel i wV (Memref.isWhole_whole _) tV (Memref.isWhole_whole _) oV (Memref.isWhole_whole _) xV (Memref.isWhole_whole _)
            rV (Memref.isWhole_whole _) hV (Memref.isWhole_whole _) cc0_scratch3 cc0_scratch4 cc0_scratch5 cc0_scratch6 cc0_scratch7 cc0_scoped0)
          fun _ => iprop((tdPts fI fT d i ∗ semVal (bcell d (cV i) (jV i)) 0)
            ∗ scopedBufs (me d i) ∗ scopedSems0 (me d i)
            ∗ ∃ W', ⌜∀ p ∈ W', p ∈ W ∨ p.2 = none ∨ p.2 = some (0 : Fin 1)⌝ ∗ owes (me d i) O W') := by
  simp only [cc0__gather_kernel_eq_skeleton]; unfold cc0__gather_kernel_skel
  refine part_step (ret_step ?_)
  rw [(K (F := F)).scopedBufs_V hF d (cV i) (jV i), SparseCore.Cfg.scopedSems0_V (Val := Elt F) d (cV i) (jV i), ownSems0_V, ownBufs_V]
  unfold bkit goPts tdPts
  iintro ⟨#Hlv, ⟨⟨%κ, #Hinv⟩, Htoks, #Hrch, Hat, Hcred⟩, ⟨Hw, Ht, Ho, Hsh⟩, ⟨Hx, Hr, Hbufs⟩, ⟨Hs3, Hs4, Hs5, Hs6, Hs7, Hs0, Hsems⟩, HO⟩
  have hO' : ∀ g, (O + oxV d (cV i)) g none = 0 := fun g => by rw [Pi.add_apply, Finsupp.add_apply, hO g, oxV_none]
  ihave #Hmw1 := (show levAts (K (F := F)).L (K (F := F)).lev ⊢ Transfers.MayWaits (me d i) (default : HIx 1) (O + oxV d (cV i)) from
    (K (F := F)).mayWaits_none (thr := me d i) hO') $$ Hlv
  ihave #Hmw2 := (show levAts (K (F := F)).L (K (F := F)).lev ⊢ Transfers.MayWaits (me d i) (default : HIx 1) O from
    (K (F := F)).mayWaits_none (thr := me d i) hO) $$ Hlv
  ihave ⟨Ht1, Ht2⟩ := (Entails.of_eq (two_shares (F := F) (ℓ := tLoc d) (q := tileShare i) (f := (fT : Buf (Elt F) (tLoc d))))) $$ Ht
  -- the words and the rows staged
  iapply (stage fI fT d i (tileShare i) (Transfers.shareDrop (tileShare i) 1) (Transfers.shareTokN (tileShare i) 0) (O + oxV d (cV i)) W) $$ [HO Hw Ht1 Ht2 Hx Hr Hsh Hs3 Hs4 Hs0]
  · isplitr; · iexact Hmw1
    isplitl [HO]; · iexact HO
    isplitl [Hw]; · iexact Hw
    isplitl [Ht1]; · iexact Ht1
    isplitl [Ht2]; · iexact Ht2
    isplitl [Hx]; · iexact Hx
    isplitl [Hr]; · iexact Hr
    isplitl [Hsh]; · iexact Hsh
    isplitl [Hs3]; · iexact Hs3
    isplitl [Hs4]; · iexact Hs4
    iexact Hs0
  iintro %W' %hW' HO Ht1 Ht2 Hx Hr Hsh Hs3 Hs4 Hs0
  ihave Ht := (Entails.of_eq (two_shares (F := F) (ℓ := tLoc d) (q := tileShare i) (f := (fT : Buf (Elt F) (tLoc d)))).symm) $$ [Ht1 Ht2]
  · isplitl [Ht1]; · iexact Ht1
    iexact Ht2
  -- the barrier: the slot's shares handed over, the tile's own received
  ihave ⟨Hpays, Hrest⟩ := (pays_intro fT d i) $$ Hsh
  iapply (SparseCore.wp_subcoreBarrier 𝒱₀ none EB (bRd fT) d (sc := cV i) (i := jV i) sc_bar0 (grid0.bound 1) hsub0 (i 1) rfl κ (fun _ => 0) (jV i).val
      (fun j => bRd_mem₀ fT d _ _ _) (fun _ => rfl) (bRd_expect fT d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := me d i) 3 (fun p hp => by
        rw [Finset.mem_singleton] at hp; subst hp
        show (K (F := F)).lev (bcell d (cV i) (jV i)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd fT) (g := bcell d (cV i) (jV i)) (Set.mem_univ (κ _)) (fun h => h) (bRd_duties_succ fT _)) $$ [Hat] with Hbar
  · isplitr
    · iapply (SparseCore.ent (bigSep_elim (Φ := fun j : Fin (grid0.bound 1) =>
        (cellInv EB (bRd fT) (κ (bcell d (cV i) (j.castLE hsub0))) (bcell d (cV i) (j.castLE hsub0)) : sProp 𝕄)) (Finset.mem_univ (i 1)))); iexact Hinv
    · iexact Hat
  ihave Hslot := (pays_elim fT d i) $$ Hgot
  -- what the copies read, lent; what they write, row by row
  ihave ⟨Hl1, Hb1⟩ := (lend (F := F) (ℓ := (me d i).loc cc0_scratch1) (f := (gOwn fT i : Buf (Elt F) ((me d i).loc cc0_scratch1))) 400 (own1 fI i) (fun b => rRow ((word fI (sec i) b).toNat - 8 * qtr i)) (fun b _ _ => Finset.subset_univ _)) $$ Hr
  ihave ⟨Hl2, Hb2⟩ := (lend (F := F) (ℓ := shLoc d (cV i)) (f := (gShared fT (cV i).val : Buf (Elt F) (shLoc d (cV i)))) 400 (own2 fI i) (fun b => hRow (sec i % 4) ((word fI (sec i) b).toNat - 32)) (fun b _ h => b_lt fI i h)) $$ Hslot
  ihave ⟨Hl3, Hb3⟩ := (lend (F := F) (ℓ := tLoc d) (f := (fT : Buf (Elt F) (tLoc d))) 400 (own3 fI i) (fun b => tRow (49 * sec i + (word fI (sec i) b).toNat)) (fun b _ _ => Finset.subset_univ _)) $$ Ht
  ihave ⟨Ho1, Ho2, Ho3⟩ := (Entails.of_eq (out_split fI d i hI f0)) $$ Ho
  imod (kind_begin (c := me d i) (own := own1 fI i) (Pre := fun b => iprop(outPts d i f0 b ∗ srcPts1 fI fT d i b))
    (Post := fun b => iprop(outPts d i (gOut fI fT) b ∗ srcPts1 fI fT d i b)) (N := rowUnits) (sm := cc0_scratch5.sem)) $$ [Hs5 Ho1 Hl1] with HK1
  · rw [bigSep_sep']
    isplitl [Hs5]; · iexact Hs5
    isplitl [Ho1]; · iexact Ho1
    iexact Hl1
  imod (kind_begin (c := me d i) (own := own2 fI i) (Pre := fun b => iprop(outPts d i f0 b ∗ srcPts2 fI fT d i b))
    (Post := fun b => iprop(outPts d i (gOut fI fT) b ∗ srcPts2 fI fT d i b)) (N := rowUnits) (sm := cc0_scratch6.sem)) $$ [Hs6 Ho2 Hl2] with HK2
  · rw [bigSep_sep']
    isplitl [Hs6]; · iexact Hs6
    isplitl [Ho2]; · iexact Ho2
    iexact Hl2
  imod (kind_begin (c := me d i) (own := own3 fI i) (Pre := fun b => iprop(outPts d i f0 b ∗ srcPts3 fI fT d i b))
    (Post := fun b => iprop(outPts d i (gOut fI fT) b ∗ srcPts3 fI fT d i b)) (N := rowUnits) (sm := cc0_scratch7.sem)) $$ [Hs7 Ho3 Hl3] with HK3
  · rw [bigSep_sep']
    isplitl [Hs7]; · iexact Hs7
    isplitl [Ho3]; · iexact Ho3
    iexact Hl3
  -- the loop
  iapply (Scf.wp_for_bind frame (wpE (defs₀ (F := F)) 𝒱₀ (me d i) none) Set.univ k0_t1_loop.lb k0_t1_loop.ub k0_t1_loop.st k0_t1_ok _ _
    (fun t acc => iprop(⌜acc = (cnt1 fI i (16 * t), cnt2 fI i (16 * t), cnt3 fI i (16 * t))⌝ ∗ St fI fT f0 d i (16 * t) (16 * t) (16 * t))) ?_) $$ [HK1 HK2 HK3 Hx]
  · intro t acc
    iintro ⟨%hacc, H⟩
    subst hacc
    iapply (wp_body fI fT f0 d i t hI)
    iexact H
  · isplitr
    · ipureintro; rfl
    unfold St Kind1 Kind2 Kind3
    isplitl [HK1]; · iexact HK1
    isplitl [HK2]; · iexact HK2
    isplitl [HK3]; · iexact HK3
    iexact Hx
  iintro %acc ⟨%hacc, HSt⟩
  rw [show Scf.trips k0_t1_loop.lb k0_t1_loop.ub k0_t1_loop.st = 25 from trips1] at hacc ⊢
  subst hacc
  iapply (wp_assume 𝒱₀ (me d i) none Set.univ (chk19 _))
  iapply (wp_assume 𝒱₀ (me d i) none Set.univ (chk18 _))
  iapply (wp_assume 𝒱₀ (me d i) none Set.univ (chk17 _))
  iapply (finish fI fT f0 d i O (insert (SemLoc.reg sc_bar0, (some 0 : HIx 1)) W')) $$ [HSt HO]
  · isplitl [HSt]; · iexact HSt
    isplitr; · iexact Hmw2
    iexists _; isplitr
    swap; · iexact HO
    ipureintro; intro p hp; exact .inl hp
  iintro H1 H2 H3 Hs5 Hs6 Hs7 Hx ⟨%W'', %hW'', HO⟩
  ihave ⟨Ho1, Hl1⟩ := (Entails.of_eq (bigSep_sep' _ _ _)) $$ H1
  ihave ⟨Ho2, Hl2⟩ := (Entails.of_eq (bigSep_sep' _ _ _)) $$ H2
  ihave ⟨Ho3, Hl3⟩ := (Entails.of_eq (bigSep_sep' _ _ _)) $$ H3
  ihave Hr := Hb1 $$ [Hl1]
  · iexact Hl1
  ihave Hslot := Hb2 $$ [Hl2]
  · iexact Hl2
  ihave Ho := (Entails.of_eq (out_split fI d i hI (gOut fI fT)).symm) $$ [Ho1 Ho2 Ho3]
  · isplitl [Ho1]; · iexact Ho1
    isplitl [Ho2] <;> iassumption
  isplitl [Ho Hslot Hrest Hbar]
  · isplitl [Ho Hslot Hrest]
    · isplitl [Ho]; · iexact Ho
      isplitl [Hslot] <;> iassumption
    · iexact Hbar
  isplitl [Hx Hr Hbufs]
  · isplitl [Hx]; · iexists _; iexact Hx
    isplitl [Hr]; · iexists _; iexact Hr
    iexact Hbufs
  isplitl [Hs3 Hs4 Hs5 Hs6 Hs7 Hs0 Hsems]
  · isplitl [Hs3]; · iexact Hs3
    isplitl [Hs4]; · iexact Hs4
    isplitl [Hs5]; · iexact Hs5
    isplitl [Hs6]; · iexact Hs6
    isplitl [Hs7]; · iexact Hs7
    isplitl [Hs0]; · iexact Hs0
    iexact Hsems
  iexists _; isplitr
  swap; · iexact HO
  ipureintro; intro p hp
  rcases hW'' p hp with h | h
  · rcases Finset.mem_insert.mp h with h | h
    · exact .inr (.inr (h ▸ rfl))
    · rcases hW' p h with h | h
      · exact .inl h
      · exact .inr (.inl h)
  · exact .inr h

end Cert.Proof

end
-- ==== Proof.Parts.lean ====
/-
  The buffers dealt among the thirty-two tiles and joined again: the shared scratch by section, the result by the tile that
  writes, what every tile reads by shares.
-/
module

public import proofs.«01_k».proof.Proof.Task

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Sixteen tiles as four sections of four -/

/-- Mesh point `(c, i)`. -/
def pt (c : Fin (grid0.bound 0)) (s : Fin (grid0.bound 1)) : grid0.Coords :=
  fun | 0 => c | 1 => s | ⟨_ + 2, h⟩ => absurd h (Nat.not_lt.2 (Nat.le_add_left _ _))

theorem bigSep_16 (Φ : ℕ → sProp (MT nD τ sig (HIx 1) (Elt F) ℕ UU ℕ)) :
    (bigSep Finset.univ fun i : Fin 16 => Φ i.val) = bigSep Finset.univ fun a : Fin 4 => bigSep (Finset.range 4) fun k => Φ (4 * a.val + k) := by
  rw [bigSep_univ_equiv (finProdFinEquiv : Fin 4 × Fin 4 ≃ Fin 16), bigSep_univ_prod]
  refine bigSep_congr fun a _ => ?_
  exact Ring.bigSep_fin_eq_range 4 _ (fun k => Φ (4 * a.val + k)) fun k h => congrArg Φ (by show 4 * a.val + k = k + 4 * a.val; omega)

/-- What the first tile of each section holds. -/
theorem bigSep_firsts (Φ : ℕ → sProp (MT nD τ sig (HIx 1) (Elt F) ℕ UU ℕ)) :
    (bigSep Finset.univ fun i : Fin 16 => if i.val % 4 = 0 then Φ (i.val / 4) else iprop(emp)) = bigSep Finset.univ fun a : Fin 4 => Φ a.val := by
  rw [bigSep_16 fun i => if i % 4 = 0 then Φ (i / 4) else iprop(emp)]
  refine bigSep_congr fun a _ => ?_
  rw [SparseCore.bigSep_erase' (Finset.mem_range.mpr (by decide : 0 < 4)), if_pos (by omega), show (4 * a.val + 0) / 4 = a.val by omega,
    bigSep_congr (Ψ := fun _ => iprop(emp)) fun k hk => if_neg (by
      have h1 := (Finset.mem_erase.mp hk).1; have h2 := Finset.mem_range.mp (Finset.mem_erase.mp hk).2; omega), bigSep_emp']
  exact Entails.antisymm sep_emp.1 sep_emp.2

/-- The thirty-two tiles by SparseCore. -/
theorem bigSep_32 (Φ : ℕ → sProp (MT nD τ sig (HIx 1) (Elt F) ℕ UU ℕ)) :
    (bigSep Finset.univ fun c : Fin 2 => bigSep Finset.univ fun i : Fin 16 => Φ (wid (pt c i))) = bigSep (Finset.range 32) Φ := by
  rw [← Ring.bigSep_fin_eq_range 32 (fun k => Φ k.val) Φ (fun _ _ => rfl), bigSep_univ_equiv (finProdFinEquiv : Fin 2 × Fin 16 ≃ Fin 32), bigSep_univ_prod]
  exact bigSep_congr fun c _ => bigSep_congr fun i _ => congrArg Φ (by show 16 * c.val + i.val = i.val + 16 * c.val; omega)

/-! ## The shared scratch and the result, split and joined -/

variable (fI : Wds) (fT : Tab F) (d : Dev nD)

theorem slots_disjoint : ∀ a ∈ (Finset.univ : Finset (Fin 4)), ∀ b ∈ (Finset.univ : Finset (Fin 4)), a ≠ b → Disjoint (shSlot a.val) (shSlot b.val) := by
  intro a _ b _ h
  rw [Finset.disjoint_left]; intro x hx hx'
  exact h (Fin.ext ((Finset.mem_filter.mp hx).2.symm.trans (Finset.mem_filter.mp hx').2))

theorem slots_cover : ((Finset.univ : Finset (Fin 4)).biUnion fun a => shSlot a.val) = Finset.univ :=
  Finset.eq_univ_iff_forall.mpr fun x => Finset.mem_biUnion.mpr ⟨x 0, Finset.mem_univ _, Finset.mem_filter.mpr ⟨Finset.mem_univ _, rfl⟩⟩

theorem sh_slots (c : Fin τ.nSC) (f : Buf (Elt F) (shLoc d c)) :
    (shLoc d c ↦{fullShare} f : sProp 𝕄) = bigSep Finset.univ fun a : Fin 4 => shLoc d c ↦[shSlot a.val]{fullShare} f := by
  rw [← pointsTo_biUnion Finset.univ (ℓ := shLoc d c) (fun a : Fin 4 => shSlot a.val) slots_disjoint, slots_cover]
  try rfl

/-- Each section's first tile is given the section's slot, -/
theorem sh_deal (c : Fin τ.nSC) : iprop(∃ f, shLoc d c ↦{fullShare} f)
    ⊢ (bigSep Finset.univ fun i : Fin 16 => if i.val % 4 = 0 then iprop(∃ f, shLoc d c ↦[shSlot (i.val / 4)]{fullShare} f) else iprop(emp) : sProp 𝕄) := by
  rw [bigSep_firsts fun a => iprop(∃ f, shLoc d c ↦[shSlot a]{fullShare} f)]
  iintro ⟨%f, H⟩
  ihave H' := ((Entails.of_eq (sh_slots d c f)).trans (SparseCore.ent (bigSep_mono (Φ := fun a : Fin 4 => (shLoc d c ↦[shSlot a.val]{fullShare} f : sProp 𝕄))
    (Ψ := fun a : Fin 4 => iprop(∃ f, shLoc d c ↦[shSlot a.val]{fullShare} f))
    fun a _ => BI.BIClass.exists_intro (Φ := fun f => (shLoc d c ↦[shSlot a.val]{fullShare} f : sProp 𝕄)) f))) $$ H
  iexact H'

/-- and the slots come back in the tiles' shares. -/
theorem sh_join (c : Fin τ.nSC) :
    iprop((bigSep Finset.univ fun i : Fin 16 => slotPts fT d c i.val)
        ∗ bigSep Finset.univ fun i : Fin 16 => if i.val % 4 = 0 then slotRest fT d c (i.val / 4) else iprop(emp))
      ⊢ (iprop(∃ f, shLoc d c ↦{fullShare} f) : sProp 𝕄) := by
  rw [bigSep_firsts fun a => slotRest fT d c a, bigSep_16 fun i => slotPts fT d c i]
  iintro ⟨H, H'⟩
  iexists (gShared fT c.val : Buf (Elt F) (shLoc d c))
  rw [sh_slots, bigSep_congr fun a _ => slot_shares fT d c a, bigSep_sep']
  isplitl [H'] <;> iassumption

/-- The result, by the tile that writes. -/
theorem out_tiles (f : S3136x16x768.Idx → F .f32) :
    (oLoc d ↦{fullShare} (f : Buf (Elt F) (oLoc d)) : sProp 𝕄)
      = bigSep Finset.univ fun c : Fin 2 => bigSep Finset.univ fun i : Fin 16 => oLoc d ↦[oSet fI (wid (pt c i))]{fullShare} (f : Buf (Elt F) (oLoc d)) := by
  rw [bigSep_32 fun w => (oLoc d ↦[oSet fI w]{fullShare} (f : Buf (Elt F) (oLoc d)) : sProp 𝕄),
    ← pointsTo_biUnion (Finset.range 32) (ℓ := oLoc d) (oSet fI) (fun a _ b _ h => by
      rw [Finset.disjoint_left]; intro x hx hx'
      exact h ((Finset.mem_filter.mp hx).2.symm.trans (Finset.mem_filter.mp hx').2))]
  congr 1
  ext x
  simp only [Finset.mem_univ, Finset.mem_biUnion, true_iff]
  have h : (x 0).val < 3136 := (x 0).isLt
  have hw := writer_lt fI ((x 0).val / 392) ((x 0).val % 392) (Nat.mod_lt _ (by decide))
  exact ⟨_, Finset.mem_range.mpr (by omega), Finset.mem_filter.mpr ⟨Finset.mem_univ _, rfl⟩⟩

/-- What every tile reads, a share each. -/
theorem read_tiles {ℓ : Loc nD τ sig} (f : Buf (Elt F) ℓ) :
    (ℓ ↦{fullShare} f : sProp 𝕄) ⊢ bigSep Finset.univ fun c : Fin 2 => bigSep Finset.univ fun i : Fin 16 => ℓ ↦{tileShare (pt c i)} f := by
  rw [bigSep_32 fun w => (ℓ ↦{Transfers.shareTokN fullShare w} f : sProp 𝕄)]
  iintro H
  ihave ⟨-, H⟩ := (Transfers.pointsTo_toks_range fullShare 32).1 $$ H
  iexact H

end Cert.Proof

end
-- ==== Proof.Launch.lean ====
/-
  The launch: what the one call hands each SparseCore and each SparseCore its tiles and back, and the barrier cells the
  launch funds and deals to the tiles' proofs.
-/
module

public import proofs.«01_k».proof.Proof.Parts

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "wV" => (Memref.whole Cert.KernelIdeal.main_v0_scv : Memref Cert.KernelIdeal.sig Kind.scVector Space.hbm Cert.KernelIdeal.S3136 EltTy.i32)
local notation "tV" => (Memref.whole Cert.KernelIdeal.main_v1_scv : Memref Cert.KernelIdeal.sig Kind.scVector Space.hbm Cert.KernelIdeal.S392x16x768 EltTy.f32)
local notation "oV" => (Memref.whole Cert.KernelIdeal.main_v2_scv : Memref Cert.KernelIdeal.sig Kind.scVector Space.hbm Cert.KernelIdeal.S3136x16x768 EltTy.f32)
local notation "xV" => (Memref.whole Cert.KernelIdeal.cc0_scratch0 : Memref Cert.KernelIdeal.sig Kind.scVector Space.vmem Cert.KernelIdeal.S432 EltTy.i32)
local notation "rV" => (Memref.whole Cert.KernelIdeal.cc0_scratch1 : Memref Cert.KernelIdeal.sig Kind.scVector Space.vmem Cert.KernelIdeal.S8x16x768 EltTy.f32)
local notation "hV" => (Memref.whole Cert.KernelIdeal.cc0_scratch2 : Memref Cert.KernelIdeal.sig Kind.scVector Space.shared Cert.KernelIdeal.S4x9x16x768 EltTy.f32)

variable (fI : Wds) (fT : Tab F) (f0 : S3136x16x768.Idx → F .f32)

/-! ## What the handshakes carry -/

abbrev coreOf (c : Fin ((K (F := F)).nCore 0)) : Fin τ.nSC := (K (F := F)).core 0 c

/-- Each tile's share of a buffer all of them read. -/
abbrev readPts (c : Fin 2) (ℓ : Loc nD τ sig) (f : Buf (Elt F) ℓ) : sProp (MT nD τ sig (HIx 1) (Elt F) ℕ UU ℕ) :=
  bigSep Finset.univ fun i : Fin 16 => ℓ ↦{tileShare (pt c i)} f
/-- The elements of the result the tiles of SparseCore `c` write. -/
abbrev coreOut (d : Dev nD) (c : Fin 2) (f : S3136x16x768.Idx → F .f32) : sProp (MT nD τ sig (HIx 1) (Elt F) ℕ UU ℕ) :=
  bigSep Finset.univ fun i : Fin 16 => oLoc d ↦[oSet fI (wid (pt c i))]{fullShare} (f : Buf (Elt F) (oLoc d))
/-- The barrier semaphores of the tiles of SparseCore `c`, at zero. -/
abbrev bars (d : Dev nD) (c : Fin ((K (F := F)).nCore 0)) : sProp (MT nD τ sig (HIx 1) (Elt F) ℕ UU ℕ) :=
  bigSep Finset.univ fun i : Fin ((K (F := F)).nSub 0) => semVal (bcell d (coreOf c) ((K (F := F)).sub 0 i)) 0

set_option backward.proofsInPublic true in
/-- Each SparseCore takes its tiles' shares of the words and of the table and what they are to write of the result; each
    tile its own of these and, for the first of a section, the section's slot of the shared scratch; each brings back
    its part of the result, written, its share of its section's slot, filled, and its barrier semaphore, closed, at
    zero; each tile's proof consumes its barrier kit; each tile owes its arrivals. -/
def P : (K (F := F)).Pay (nD := nD) (Val := Elt F) (Name := ℕ) (U := UU) where
  st := fun q d c => match q with
    | 0 => iprop(readPts c (wLoc d) (fI : Buf (Elt F) (wLoc d)) ∗ readPts c (tLoc d) (fT : Buf (Elt F) (tLoc d)) ∗ coreOut fI d c f0)
  dn := fun q d c => match q with | 0 => iprop(coreOut fI d c (gOut fI fT) ∗ bars d c)
  go := fun q d c i => match q with | 0 => goPts fI fT f0 d (pt c i)
  td := fun q d c i => match q with | 0 => iprop(tdPts fI fT d (pt c i) ∗ semVal (bcell d (coreOf c) ((K (F := F)).sub 0 i)) 0)
  x := fun _ thr => match thr with
    | (d, .scVector c i) => bkit fT d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance goPts_storable (d : Dev nD) (i : grid0.Coords) : BI.Storable (upEmb : UEmb _ 𝕄) (goPts fI fT f0 d i) := by
  unfold goPts; split <;> infer_instance
instance tdPts_storable (d : Dev nD) (i : grid0.Coords) : BI.Storable (upEmb : UEmb _ 𝕄) (tdPts fI fT d i) := by
  unfold tdPts slotPts slotRest; split <;> infer_instance

instance P_storable : (P fI fT f0).IsStorable where
  st q d c := match q with
    | 0 => (inferInstance : BI.Storable (upEmb : UEmb _ 𝕄)
        iprop(readPts c (wLoc d) (fI : Buf (Elt F) (wLoc d)) ∗ readPts c (tLoc d) (fT : Buf (Elt F) (tLoc d)) ∗ coreOut fI d c f0))
  dn q d c := match q with
    | 0 => (inferInstance : BI.Storable (upEmb : UEmb _ 𝕄) iprop(coreOut fI d c (gOut fI fT) ∗ bars d c))
  go q d c i := match q with
    | 0 => (inferInstance : BI.Storable (upEmb : UEmb _ 𝕄) (goPts fI fT f0 d (pt c i)))
  td q d c i := match q with
    | 0 => (inferInstance : BI.Storable (upEmb : UEmb _ 𝕄)
        iprop(tdPts fI fT d (pt c i) ∗ semVal (bcell d (coreOf c) ((K (F := F)).sub 0 i)) 0))

/-! ## The tile's obligation and the split among the tiles -/

theorem defs₀_vector [FloatOps F] (c : Fin τ.nSC) (s : Fin τ.nSub) :
    defs₀ (F := F) (.scVector c s) 0 ()
      = SparseCore.onTile hcore0 hsub0 (fun c s => cc0__gather_kernel (pt c s)
          wV (Memref.isWhole_whole _) tV (Memref.isWhole_whole _) oV (Memref.isWhole_whole _) xV (Memref.isWhole_whole _)
          rV (Memref.isWhole_whole _) hV (Memref.isWhole_whole _) cc0_scratch3 cc0_scratch4 cc0_scratch5 cc0_scratch6 cc0_scratch7 cc0_scoped0) ⟨⟩ c s := rfl

theorem tileObl [FloatOps F] (hI : ∀ x, (fI x).toNat < 49) (hF : (K (F := F)).Facts) : (K (F := F)).TileObl (D (F := F)) 𝒱 (P fI fT f0) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body fI fT f0 d (pt ⟨_, hci.1⟩ ⟨_, hci.2⟩) hI hF O W hO hOlev

/-- The shared scratch is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- What a first tile of a section is given or brings back beside its own, by the tile's number on its SparseCore. -/
theorem first_eq (c : Fin 2) (Φ : ℕ → sProp (MT nD τ sig (HIx 1) (Elt F) ℕ UU ℕ)) :
    (bigSep Finset.univ fun i : Fin 16 => if qtr (pt c i) = 0 then Φ (sec (pt c i) % 4) else iprop(emp))
      = bigSep Finset.univ fun i : Fin 16 => if i.val % 4 = 0 then Φ (i.val / 4) else iprop(emp) := by
  refine bigSep_congr fun i _ => ?_
  have hq : qtr (pt c i) = i.val % 4 := by show (16 * c.val + i.val) % 4 = _; omega
  have hs : sec (pt c i) % 4 = i.val / 4 := by show (16 * c.val + i.val) / 4 % 4 = _; have := i.isLt; omega
  rw [hq, hs]

/-- The tiles' start, gathered. -/
theorem go_eq (d : Dev nD) (c : Fin 2) :
    (bigSep Finset.univ fun i : Fin 16 => goPts fI fT f0 d (pt c i))
      = iprop(readPts c (wLoc d) (fI : Buf (Elt F) (wLoc d)) ∗ readPts c (tLoc d) (fT : Buf (Elt F) (tLoc d)) ∗ coreOut fI d c f0
        ∗ bigSep Finset.univ fun i : Fin 16 => if i.val % 4 = 0 then iprop(∃ f, shLoc d (coreOf (F := F) c) ↦[shSlot (i.val / 4)]{fullShare} f) else iprop(emp)) := by
  rw [← first_eq c fun a => iprop(∃ f, shLoc d (coreOf (F := F) c) ↦[shSlot a]{fullShare} f)]
  unfold goPts
  rw [bigSep_sep', bigSep_sep', bigSep_sep']
  rfl

/-- The tiles' end, gathered. -/
theorem td_eq (d : Dev nD) (c : Fin 2) :
    (bigSep Finset.univ fun i : Fin 16 => tdPts fI fT d (pt c i))
      = iprop(coreOut fI d c (gOut fI fT) ∗ (bigSep Finset.univ fun i : Fin 16 => slotPts fT d (coreOf (F := F) c) i.val)
        ∗ bigSep Finset.univ fun i : Fin 16 => if i.val % 4 = 0 then slotRest fT d (coreOf (F := F) c) (i.val / 4) else iprop(emp)) := by
  rw [← first_eq c fun a => slotRest fT d (coreOf (F := F) c) a]
  unfold tdPts
  rw [bigSep_sep', bigSep_sep']
  rfl

theorem vecSplit : (K (F := F)).VecSplit (P fI fT f0) 0 := by
  intro d c
  show iprop(iprop(readPts c (wLoc d) (fI : Buf (Elt F) (wLoc d)) ∗ readPts c (tLoc d) (fT : Buf (Elt F) (tLoc d)) ∗ coreOut fI d c f0) ∗ ownBufs (S d (coreOf c)))
    ⊢ |={Set.univ}=> iprop(
      (bigSep Finset.univ fun i : Fin 16 => goPts fI fT f0 d (pt c i))
      ∗ ((bigSep Finset.univ fun i : Fin ((K (F := F)).nSub 0) => iprop(tdPts fI fT d (pt c i) ∗ semVal (bcell d (coreOf c) ((K (F := F)).sub 0 i)) 0))
          -∗ iprop(iprop(coreOut fI d c (gOut fI fT) ∗ bars d c) ∗ ownBufs (S d (coreOf c)))))
  rw [bigSep_sep' _ (fun i : Fin ((K (F := F)).nSub 0) => tdPts fI fT d (pt c i)),
    show (bigSep Finset.univ fun i : Fin ((K (F := F)).nSub 0) => tdPts fI fT d (pt c i)) = _ from td_eq fI fT d c, go_eq, ownBufs_S]
  iintro ⟨⟨Hw, Ht, Ho⟩, Hsh, Hrest⟩; imodintro
  isplitl [Hw Ht Ho Hsh]
  · isplitl [Hw]; · iexact Hw
    isplitl [Ht]; · iexact Ht
    isplitl [Ho]; · iexact Ho
    iapply (sh_deal d (coreOf c)); iexact Hsh
  iintro ⟨⟨Ho, Hs, Hs'⟩, Hbars⟩
  isplitl [Ho Hbars]
  · isplitl [Ho] <;> iassumption
  isplitl [Hs Hs']
  · iapply (sh_join fT d (coreOf c))
    isplitl [Hs] <;> iassumption
  iexact Hrest

/-! ## The launch element of the certificate's ghost state, and what the launch hands over -/

abbrev Tile : Type := Dev nD × Fin τ.nSC × Fin τ.nSub
abbrev tcell (x : Tile) : GSem nD τ sig := bcell x.1 x.2.1 x.2.2

/-- The tiles' barrier cells: of the free semaphores, the ones the certificate takes at the launch. -/
def bCells : Finset (GSem nD τ sig) := (Finset.univ : Finset Tile).image tcell
/-- Tile `i`'s token in tile `j`'s cell, for every pair of tiles of a SparseCore. -/
def bToks : Finset (GSem nD τ sig × ℕ × ℕ) :=
  ((Finset.univ : Finset Tile) ×ˢ Finset.univ).image fun x : Tile × Fin (grid0.bound 1) => (bcell x.1.1 x.1.2.1 (x.2.castLE hsub0), 0, x.1.2.2.val)
def u₀ : UU := (initOf (K (F := F)).hsCells (K (F := F)).hsToks, (initOf bCells bToks, 1))

theorem tcell_injective : Function.Injective tcell := fun a b e => by
  obtain ⟨h1, h2⟩ := Prod.mk.inj (Prod.mk.inj e).1; obtain ⟨h3, h4⟩ := Proc.scVector.inj h2
  exact Prod.ext h1 (Prod.ext h3 h4)

theorem bCells_eq (Φ : GSem nD τ sig → sProp (MT nD τ sig (HIx 1) (Elt F) ℕ UU ℕ)) : bigSep bCells Φ = bigSep Finset.univ fun x : Tile => Φ (tcell x) := by
  unfold bCells; exact SparseCore.bigSep_image_of_injOn (fun a _ b _ e => tcell_injective e) Φ

theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every tile's barrier semaphore at zero, out of the free semaphores the launch hands over. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩,
      Finset.mem_image_of_mem tcell (Finset.mem_univ x)⟩)

/-- The barrier cells' invariants, allocated at once. -/
theorem invs_b : iprop((bigSep bCells fun g => (semVal g 0 : sProp 𝕄)) ∗ bigSep bCells fun g => roundState EB (bRd fT) g 0)
    ⊢ |={Set.univ}=> iprop(∃ κ : GSem nD τ sig → ℕ, bigSep bCells fun g => cellInv EB (bRd fT) (κ g) g) := by
  refine (Rounds.bodies_intro EB (bRd fT) bCells).trans ((inv_alloc_family bCells (Rounds.body EB (bRd fT)) ∅ (E := Set.univ)).trans ?_)
  iintro H
  imod H with ⟨%κ, -, Hinv⟩
  imodintro; iexists κ; iexact Hinv

theorem tallies_const (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for the tiles' debts, regrouped: each tile the sixteen units of its own cell. -/
theorem creds_b : ((P fI fT f0).oxCred : sProp 𝕄) ⊢ bigSep Finset.univ fun x : Tile => cred (tallyAt (tcell x) (some 0) (grid0.bound 1)) := by
  unfold SparseCore.Cfg.Pay.oxCred
  rw [SparseCore.Cfg.bigSep_threads (fun thr : Thread nD τ => (cred ((P fI fT f0).oxFrom 0 thr) : sProp 𝕄))]
  refine sep_elim_right.trans (sep_elim_right.trans ?_)
  rw [bigSep_univ_prod, bigSep_univ_prod (fun x : Tile => (cred (tallyAt (tcell x) (some 0) (grid0.bound 1)) : sProp 𝕄))]
  refine bigSep_mono fun d _ => ?_
  rw [bigSep_univ_prod, bigSep_univ_prod (fun ci : Fin τ.nSC × Fin τ.nSub => (cred (tallyAt (tcell (d, ci)) (some 0) (grid0.bound 1)) : sProp 𝕄))]
  refine bigSep_mono fun c _ => ?_
  dsimp only
  have hox : ∀ i, (P fI fT f0).oxFrom 0 (V d c i) = oxV d c := fun i => by
    rw [show (0 : ℕ) = (0 : Fin 1).val from rfl, (P fI fT f0).oxFrom_step, (P fI fT f0).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, tallies_const]; rfl

theorem toks_eq : (bigSep bToks fun x => (dutyTok EB x.1 x.2.1 x.2.2 : sProp 𝕄))
    = bigSep Finset.univ fun x : Tile => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, hj⟩ := Proc.scVector.inj h
  obtain rfl : j = j' := Fin.ext (congrArg Fin.val hj)
  obtain rfl : i = i' := Fin.ext (Prod.mk.inj e2).2
  rfl

/-- A persistent resource beside a big separating conjunction goes to each conjunct. -/
theorem bigSep_share {I : Type} [DecidableEq I] {R : sProp (MT nD τ sig (HIx 1) (Elt F) ℕ UU ℕ)} [BI.Persistent R] {s : Finset I}
    {Φ Ψ : I → sProp (MT nD τ sig (HIx 1) (Elt F) ℕ UU ℕ)} (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- Of a persistent resource of every tile's, that of the tiles of one SparseCore. -/
theorem core_of (Φ : Tile → sProp (MT nD τ sig (HIx 1) (Elt F) ℕ UU ℕ)) [BI.Persistent (bigSep Finset.univ Φ)] (d : Dev nD) (c : Fin τ.nSC) :
    bigSep Finset.univ Φ ⊢ bigSep Finset.univ fun j : Fin (grid0.bound 1) => Φ (d, c, j.castLE hsub0) := by
  iintro #H
  iapply (SparseCore.ent (bigSep_share (s := (Finset.univ : Finset (Fin (grid0.bound 1)))) (Φ := fun _ => iprop(emp)) (R := bigSep Finset.univ Φ)
    fun j _ => sep_elim_left.trans (bigSep_elim (Φ := Φ) (Finset.mem_univ (d, c, Fin.castLE hsub0 j)))))
  isplitl; · iexact H
  rw [bigSep_emp']; iempintro

/-- What every tile is handed alike: every barrier cell's invariant, and that each has reached round 0. -/
abbrev common : sProp (MT nD τ sig (HIx 1) (Elt F) ℕ UU ℕ) :=
  iprop((∃ κ : GSem nD τ sig → ℕ, bigSep Finset.univ fun x : Tile => cellInv EB (bRd fT) (κ (tcell x)) (tcell x))
    ∗ bigSep Finset.univ fun x : Tile => reached EB (tcell x) 0)
/-- What each tile is handed of its own: its position, its tokens, its credit. -/
abbrev mine (x : Tile) : sProp (MT nD τ sig (HIx 1) (Elt F) ℕ UU ℕ) :=
  iprop(atPos EB (tcell x) 0 ∅ 0
    ∗ (bigSep Finset.univ fun j : Fin (grid0.bound 1) => dutyTok EB (bcell x.1 x.2.1 (j.castLE hsub0)) 0 x.2.2.val)
    ∗ cred (tallyAt (tcell x) (some 0) (grid0.bound 1)))

/-- One tile's kit out of those. -/
theorem kit_intro (x : Tile) : iprop(common fT ∗ mine x) ⊢ (bkit fT x.1 x.2.1 x.2.2 : sProp 𝕄) := by
  iintro ⟨⟨#Hinv, #Hr⟩, Hat, Htok, Hcred⟩
  unfold bkit
  isplitr
  · icases Hinv with ⟨%κ, Hinv⟩
    iexists κ
    iapply (SparseCore.ent (core_of (F := F) (fun x : Tile => cellInv EB (bRd fT) (κ (tcell x)) (tcell x)) x.1 x.2.1))
    iexact Hinv
  isplitl [Htok]; · iexact Htok
  isplitr
  · iapply (SparseCore.ent (core_of (F := F) (fun x : Tile => reached EB (tcell x) 0) x.1 x.2.1))
    iexact Hr
  isplitl [Hat]; · iexact Hat
  iexact Hcred

theorem Px_T (d : Dev nD) : (bigSep Finset.univ fun q : Fin 1 => (P fI fT f0).x q (SparseCore.T d)) = iprop(emp) :=
  bigSep_univ_of_subsingleton (0 : Fin 1)
theorem Px_S (d : Dev nD) (c : Fin τ.nSC) : (bigSep Finset.univ fun q : Fin 1 => (P fI fT f0).x q (S d c)) = iprop(emp) :=
  bigSep_univ_of_subsingleton (0 : Fin 1)
theorem Px_V (d : Dev nD) (c : Fin τ.nSC) (i : Fin τ.nSub) :
    (bigSep Finset.univ fun q : Fin 1 => (P fI fT f0).x q (V d c i)) = bkit fT d c i :=
  bigSep_univ_of_subsingleton (0 : Fin 1)

/-- Each tile its kit. -/
theorem kits_deal :
    iprop(common fT ∗ (bigSep Finset.univ fun x : Tile => atPos EB (tcell x) 0 ∅ 0)
        ∗ (bigSep Finset.univ fun x : Tile => bigSep Finset.univ fun j : Fin (grid0.bound 1) => dutyTok EB (bcell x.1 x.2.1 (j.castLE hsub0)) 0 x.2.2.val)
        ∗ (bigSep Finset.univ fun x : Tile => cred (tallyAt (tcell x) (some 0) (grid0.bound 1))))
      ⊢ (bigSep Finset.univ fun thr : Thread nD τ => bigSep Finset.univ fun q : Fin 1 => (P fI fT f0).x q thr : sProp 𝕄) := by
  rw [SparseCore.Cfg.bigSep_threads (fun thr : Thread nD τ => bigSep Finset.univ fun q : Fin 1 => (P fI fT f0).x q thr)]
  simp only [Px_T, Px_S, Px_V, bigSep_emp']
  iintro ⟨#Hsh, Hat, Htok, Hcred⟩
  isplitr; · iempintro
  isplitr; · iempintro
  iapply (bigSep_share (R := common fT) (Φ := mine (F := F)) fun x _ => kit_intro fT x)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P fI fT f0).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P fI fT f0).x q thr) : sProp 𝕄) := by
  unfold u₀
  iintro ⟨Hu, Hcred, Hfree⟩
  ihave H := (ownU_split _ _) $$ Hu
  icases H with ⟨HH, HB⟩
  imod (Rounds.fund EB (bRd fT) bCells bToks) $$ HB with ⟨Hst, #Hr, Hat, Htok⟩
  ihave Hsems := (sems_b (F := F)) $$ Hfree
  imod (invs_b fT) $$ [Hsems Hst] with ⟨%κ, #Hinv⟩
  · isplitl [Hsems] <;> iassumption
  ihave Hcred' := (creds_b fI fT f0) $$ Hcred
  ihave Hinv' := (Entails.of_eq (bCells_eq (F := F) fun g => cellInv EB (bRd fT) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal fI fT f0)
  isplitr
  · isplitl; · iexists κ; iexact Hinv'
    iexact Hr'
  isplitl [Hat']; · iexact Hat'
  isplitl [Htok']; · iexact Htok'
  iexact Hcred'

end Cert.Proof

end
-- ==== Proof.Run.lean ====
/-
  @main on the TensorCore: the two reshapes, the call, the last reshape; and the run of the whole program.
-/
module

public import proofs.«01_k».proof.Proof.Launch

@[expose] public section

set_option maxRecDepth 16384

noncomputable section

namespace Cert.Proof

open Cert.KernelIdeal Cert.KernelIdeal.Gen Cert.Proof.Words

open Idealize.ShloMosaic Idealize.ShloMosaic.ValueIdx
open Idealize.ShloMosaic.SparseCore (S V T)
open Idealize.ShloMosaic.StableHlo (held wp_hlo_within)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The host's operations -/

abbrev a0' : DevRef τ sig := Proc.devRef .tc main_arg0
abbrev a1' : DevRef τ sig := Proc.devRef .tc main_arg1
abbrev a2' : DevRef τ sig := Proc.devRef .tc main_arg2
abbrev w' : DevRef τ sig := Proc.devRef .tc main_v0
abbrev t' : DevRef τ sig := Proc.devRef .tc main_v1
abbrev o' : DevRef τ sig := Proc.devRef .tc main_v2
abbrev r' : DevRef τ sig := Proc.devRef .tc main_v3
/-- The arguments and the result of @main. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev rLoc (d : Dev nD) : Loc nD τ sig := (SparseCore.T d).loc main_v3

abbrev opW : HloOp τ sig (Elt F) := StableHlo.reshape main_arg0 main_v0 (rfl : (.i32 : EltTy) = .i32) shapeCasts_S8x49x8_S3136
abbrev opT : HloOp τ sig (Elt F) := StableHlo.reshape main_arg2 main_v1 (rfl : (.f32 : EltTy) = .f32) shapeCasts_S8x49x16x768_S392x16x768
abbrev opR : HloOp τ sig (Elt F) := StableHlo.reshape main_v2 main_v3 (rfl : (.f32 : EltTy) = .f32) shapeCasts_S3136x16x768_S8x49x8x16x768

/-- The words and the table the call is given, and @main's result. -/
def wOf (d : Dev nD) : Wds := shapeCast S3136 (m (a0Loc d) : S8x49x8.Idx → BitVec 32) shapeCasts_S8x49x8_S3136
def tOf (d : Dev nD) : Tab F := shapeCast S392x16x768 (m (a2Loc d) : S8x49x16x768.Idx → F .f32) shapeCasts_S8x49x16x768_S392x16x768
def rOf (d : Dev nD) : S8x49x8x16x768.Idx → F .f32 :=
  shapeCast S8x49x8x16x768 (gOut (wOf m d) (tOf m d)) shapeCasts_S3136x16x768_S8x49x8x16x768

/-- The TensorCore's arrays. -/
abbrev S7 : Finset (DevRef τ sig) := {a0', a1', a2', w', t', o', r'}
/-- The arrays of the last reshape. -/
abbrev S2 : Finset (DevRef τ sig) := {o', r'}

/-- The launch valuation, that before the call, and that after it. -/
def V0 (d : Dev nD) : Valuation τ sig (Elt F) := fun b => m (d, b)
def V2 (d : Dev nD) : Valuation τ sig (Elt F) := (opT (F := F)).result ((opW (F := F)).result (V0 m d))
def V3 (d : Dev nD) : Valuation τ sig (Elt F) := Function.update (V2 m d) o' (gOut (wOf m d) (tOf m d))

theorem held_S7 (d : Dev nD) (W : Valuation τ sig (Elt F)) :
    (held (T d) S7 W : sProp 𝕄)
      = iprop((a0Loc d ↦{fullShare} W a0') ∗ (a1Loc d ↦{fullShare} W a1') ∗ (a2Loc d ↦{fullShare} W a2')
          ∗ (wLoc d ↦{fullShare} W w') ∗ (tLoc d ↦{fullShare} W t') ∗ (oLoc d ↦{fullShare} W o') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- What the first two reshapes leave alone. -/
theorem V2_other (d : Dev nD) (b : DevRef τ sig) (hw : b ∉ ({w'} : Finset (DevRef τ sig))) (ht : b ∉ ({t'} : Finset (DevRef τ sig))) : V2 m d b = m (d, b) := by
  unfold V2
  rw [(opT (F := F)).result_of_not_mem _ ht, (opW (F := F)).result_of_not_mem _ hw]
  rfl
theorem V2_w (d : Dev nD) : V2 m d w' = (wOf m d : Buf (Elt F) (wLoc d)) := by
  unfold V2
  rw [(opT (F := F)).result_of_not_mem _ (show w' ∉ ({t'} : Finset (DevRef τ sig)) by decide)]
  exact (StableHlo.reshape_result (Val := Elt F) main_arg0 main_v0 rfl shapeCasts_S8x49x8_S3136 _ _ (V0 m d)).trans rfl
theorem V2_t (d : Dev nD) : V2 m d t' = (tOf m d : Buf (Elt F) (tLoc d)) := by
  unfold V2
  refine (StableHlo.reshape_result (Val := Elt F) main_arg2 main_v1 rfl shapeCasts_S8x49x16x768_S392x16x768 _ _ ((opW (F := F)).result (V0 m d))).trans ?_
  rw [(opW (F := F)).result_of_not_mem _ (show a2' ∉ ({w'} : Finset (DevRef τ sig)) by decide)]
  rfl

/-- The seven arrays before the call. -/
theorem held_V2 (d : Dev nD) :
    (held (T d) S7 ((opT (F := F)).result ((opW (F := F)).result (V0 m d))) : sProp 𝕄)
      = iprop((a0Loc d ↦{fullShare} m (a0Loc d)) ∗ (a1Loc d ↦{fullShare} m (a1Loc d)) ∗ (a2Loc d ↦{fullShare} m (a2Loc d))
          ∗ (wLoc d ↦{fullShare} (wOf m d : Buf (Elt F) (wLoc d))) ∗ (tLoc d ↦{fullShare} (tOf m d : Buf (Elt F) (tLoc d)))
          ∗ (oLoc d ↦{fullShare} m (oLoc d)) ∗ rLoc d ↦{fullShare} V2 m d r') := by
  show held (SparseCore.T d) S7 (V2 m d) = _
  rw [held_S7, V2_w, V2_t, V2_other m d a0' (by decide) (by decide), V2_other m d a1' (by decide) (by decide),
    V2_other m d a2' (by decide) (by decide), V2_other m d o' (by decide) (by decide)]

/-- The result after the last reshape. -/
theorem V4_r (d : Dev nD) : (opR (F := F)).result (V3 m d) r' = (rOf m d : Buf (Elt F) (rLoc d)) := by
  refine (StableHlo.reshape_result (Val := Elt F) main_v2 main_v3 rfl shapeCasts_S3136x16x768_S8x49x8x16x768 _ _ (V3 m d)).trans ?_
  rw [show V3 m d (Proc.devRef .tc main_v2) = gOut (wOf m d) (tOf m d) from Function.update_self _ _ _]
  rfl

/-! ## The call -/

/-- What the call carries: device 0's words and table, and the contents of the result it starts from. -/
abbrev Pm : (K (F := F)).Pay (nD := nD) (Val := Elt F) (Name := ℕ) (U := UU) := P (wOf m 0) (tOf m 0) (m (oLoc 0))

theorem st0_intro :
    iprop((wLoc 0 ↦{fullShare} (wOf m 0 : Buf (Elt F) (wLoc 0))) ∗ (tLoc 0 ↦{fullShare} (tOf m 0 : Buf (Elt F) (tLoc 0))) ∗ oLoc 0 ↦{fullShare} m (oLoc 0))
      ⊢ (bigSep Finset.univ fun c : Fin ((K (F := F)).nCore 0) => (Pm m).st 0 0 c : sProp 𝕄) := by
  show _ ⊢ bigSep Finset.univ fun c : Fin 2 => iprop(readPts c (wLoc 0) (wOf m 0 : Buf (Elt F) (wLoc 0))
    ∗ readPts c (tLoc 0) (tOf m 0 : Buf (Elt F) (tLoc 0)) ∗ coreOut (wOf m 0) 0 c (m (oLoc 0)))
  rw [bigSep_sep', bigSep_sep', ← out_tiles (wOf m 0) 0 (m (oLoc 0))]
  iintro ⟨Hw, Ht, Ho⟩
  isplitl [Hw]; · iapply (read_tiles (wOf m 0 : Buf (Elt F) (wLoc 0))); iexact Hw
  isplitl [Ht]; · iapply (read_tiles (tOf m 0 : Buf (Elt F) (tLoc 0))); iexact Ht
  iexact Ho

theorem dn0_eq : (bigSep Finset.univ fun c : Fin ((K (F := F)).nCore 0) => (Pm m).dn 0 0 c)
    = iprop((oLoc 0 ↦{fullShare} (gOut (wOf m 0) (tOf m 0) : Buf (Elt F) (oLoc 0))) ∗ bigSep Finset.univ fun c : Fin ((K (F := F)).nCore 0) => bars 0 c) := by
  show (bigSep Finset.univ fun c : Fin ((K (F := F)).nCore 0) => iprop(coreOut (wOf m 0) 0 c (gOut (wOf m 0) (tOf m 0)) ∗ bars 0 c)) = _
  rw [bigSep_sep', out_tiles (wOf m 0) 0 (gOut (wOf m 0) (tOf m 0))]

theorem hW : (opW (F := F)).bufs ⊆ S7 := show ({a0', w'} : Finset (DevRef τ sig)) ⊆ S7 by decide
theorem hT : (opT (F := F)).bufs ⊆ S7 := show ({a2', t'} : Finset (DevRef τ sig)) ⊆ S7 by decide
theorem hR : (opR (F := F)).bufs ⊆ S2 := show ({o', r'} : Finset (DevRef τ sig)) ⊆ S2 by decide

/-- What @main leaves the claims: the arguments at their launch contents, the result, the barrier semaphores at zero. -/
abbrev FIN (d : Dev nD) : sProp (MT nD τ sig (HIx 1) (Elt F) ℕ UU ℕ) :=
  iprop((a0Loc d ↦{fullShare} m (a0Loc d)) ∗ (a1Loc d ↦{fullShare} m (a1Loc d)) ∗ (a2Loc d ↦{fullShare} m (a2Loc d))
    ∗ (rLoc d ↦{fullShare} (rOf m d : Buf (Elt F) (rLoc d))) ∗ bigSep Finset.univ fun c : Fin ((K (F := F)).nCore 0) => bars d c)

theorem hmain [FloatOps F] (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T 0) none Set.univ (op := opW) (S := S7) hW (V := V0 m 0)) $$ [Hb Hheld]
  · isplitl [Hb] <;> iassumption
  iintro ⟨Hb, Hheld⟩
  rw [wp_ret]; imodintro
  iapply (wp_hlo_within 𝒱 (SparseCore.T 0) none Set.univ (op := opT) (S := S7) hT (V := (opW (F := F)).result (V0 m 0))) $$ [Hb Hheld]
  · isplitl [Hb] <;> iassumption
  iintro ⟨Hb, Hheld⟩
  rw [wp_ret]; imodintro
  ihave Hh := (Entails.of_eq (held_V2 m 0)) $$ Hheld
  icases Hh with ⟨H0, H1, H2, Hw, Ht, Ho, Hr⟩
  iapply ((K (F := F)).wp_run (D (F := F)) 𝒱 (EH := EH) (P := Pm m) κ 0 0) $$ [Hst Hw Ht Ho Hb H0 H1 H2 Hr Hts]
  isplitr; · iexact Hctx
  isplitl [Hst]; · iexact Hst
  isplitl [Hw Ht Ho]
  · iapply (st0_intro m)
    isplitl [Hw]; · iexact Hw
    isplitl [Ht] <;> iassumption
  iintro ⟨Hst, Hdn⟩
  ihave Hdn' := (Entails.of_eq (dn0_eq m)) $$ Hdn
  icases Hdn' with ⟨Ho, Hbars⟩
  iapply (wp_hlo_within 𝒱 (SparseCore.T 0) none Set.univ (op := opR) (S := S2) hR (V := V3 m 0)) $$ [Hb Ho Hr]
  · isplitl [Hb]; · iexact Hb
    rw [held_S2, show V3 m 0 o' = gOut (wOf m 0) (tOf m 0) from Function.update_self _ _ _,
      show V3 m 0 r' = V2 m 0 r' from Function.update_of_ne (show r' ≠ o' by decide) _ _]
    isplitl [Ho] <;> iassumption
  iintro ⟨Hb, Hheld⟩
  ihave Hh := (Entails.of_eq ((held_S2 0 ((opR (F := F)).result (V3 m 0))).trans (by rw [V4_r m 0]))) $$ Hheld
  icases Hh with ⟨-, Hr⟩
  rw [wp_ret]; imodintro; imodintro
  isplitl [Hst]; · iexact Hst
  isplitr [Hb Hts]
  · isplitl [H0]; · iexact H0
    isplitl [H1]; · iexact H1
    isplitl [H2]; · iexact H2
    isplitl [Hr] <;> iassumption
  isplitl [Hb] <;> iassumption

/-! ## What the claims read of the final state -/

def fq (d : Dev nD) (s' : Phys nD τ sig (Elt F)) : Prop :=
  (s'.mem.mem (rLoc d) = (rOf m d : Buf (Elt F) (rLoc d)) ∧ s'.mem.mem (a0Loc d) = m (a0Loc d) ∧ s'.mem.mem (a1Loc d) = m (a1Loc d) ∧ s'.mem.mem (a2Loc d) = m (a2Loc d))
    ∧ ∀ (c : Fin ((K (F := F)).nCore 0)) (i : Fin ((K (F := F)).nSub 0)), s'.mem.sem (bcell d (coreOf c) ((K (F := F)).sub 0 i)) = 0

/-- A buffer held whole reads what it is held at. -/
theorem read_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := fun x hx =>
  ⟨⟨((sep_mono_left (sep_elim_right.trans (sep_elim_right.trans (sep_elim_right.trans sep_elim_left)))).trans (read_whole s' (rLoc d) (rOf m d : Buf (Elt F) (rLoc d)))) x hx,
    ((sep_mono_left sep_elim_left).trans (read_whole s' (a0Loc d) (m (a0Loc d)))) x hx,
    ((sep_mono_left (sep_elim_right.trans sep_elim_left)).trans (read_whole s' (a1Loc d) (m (a1Loc d)))) x hx,
    ((sep_mono_left (sep_elim_right.trans (sep_elim_right.trans sep_elim_left))).trans (read_whole s' (a2Loc d) (m (a2Loc d)))) x hx⟩,
   fun c i => ((sep_mono_left (sep_elim_right.trans (sep_elim_right.trans (sep_elim_right.trans (sep_elim_right.trans
      ((SparseCore.ent (bigSep_elim (Finset.mem_univ c))).trans (SparseCore.ent (bigSep_elim (Finset.mem_univ i))))))))).trans
        (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 ⟨c.val, c.isLt⟩ ⟨i.val, i.isLt⟩

/-! ## The program's run -/

def QC : PUnit × MemSt nD τ sig (Elt F) → Prop := fun r =>
  (∀ d : Dev nD, r.2.mem (rLoc d) = (rOf m d : Buf (Elt F) (rLoc d)) ∧ r.2.mem (a0Loc d) = m (a0Loc d) ∧ r.2.mem (a1Loc d) = m (a1Loc d) ∧ r.2.mem (a2Loc d) = m (a2Loc d))
    ∧ r.2.sem = fun _ => 0

theorem run_main [FloatOps F] [∀ e, Nonempty (Elt F e)] (hI : ∀ x, (wOf m 0 x).toNat < 49) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (hA := hA m) facts v₀
    (fun q hq => match q with | 0 => nomatch hq)
    (fun q _ => match q with | 0 => tileObl (wOf m 0) (tOf m 0) (m (oLoc 0)) hI facts)
    (fun q _ => match q with | 0 => vecSplit (wOf m 0) (tOf m 0) (m (oLoc 0)))
    m ρ main (fun _ => iprop(emp)) (FIN m) (u₀ (F := F)) (hu₀ (wOf m 0) (tOf m 0) (m (oLoc 0))) (hmain m ρ) (fq m) (hfin m) (QC m)
    (fun _ h hz => ⟨fun d => (h d).1, hz⟩)

end Cert.Proof

end
-- ==== Proof.Ref.lean ====
/-
  The reference at an index: its gather's start indices, and the row of the table it reads.
-/
module

public import proofs.«01_k».proof.Proof.Gen.ReferenceIdeal.Run
public import Idealize.ShloMosaic.Lib.Affine
public import Idealize.ShloMosaic.Lib.ValueIdxCore
public import Idealize.ShloMosaic.Lib.Pipeline.Value

@[expose] public section

set_option maxRecDepth 16384

noncomputable section

namespace Cert.Proof

open Cert.ReferenceIdeal Cert.ReferenceIdeal.Gen
open Idealize.ShloMosaic Idealize.ShloMosaic.ValueIdx

variable {F : FTy → Type}

/-- Element `(b, l, k, y, z)` of the result, of the index words and the table as @main takes them: element `(y, z)` of row
    `v` of sample `b`, `v` the index word at `(b, l, k)`. -/
def rowAt (a0 : S8x49x8.Idx → BitVec 32) (a2 : S8x49x16x768.Idx → F .f32) (h : ∀ x, (a0 x).toNat < 49)
    (b : Fin 8) (l : Fin 49) (k : Fin 8) (y : Fin 16) (z : Fin 768) : F .f32 :=
  a2 (ix4 b ⟨(a0 (ix3 b l k)).toNat, h _⟩ y z)

/-- The reference's gather at an index: the two components of the start index there, read signed and clamped. -/
theorem gather_apply (a2 : S8x49x16x768.Idx → F .f32) (idx : S8x49x8x2.Idx → BitVec 32)
    (b : Fin 8) (l : Fin 49) (k : Fin 8) (y : Fin 16) (z : Fin 768) :
    Host.gather gather_S8x49x16x768_S8x49x8x2_S8x49x8x16x768_34_01_n_n_01_3_1116768 a2 idx (ix5 b l k y z)
      = a2 (ix4 ⟨min (idx (ix4 b l k 0)).toInt.toNat 7, by omega⟩ ⟨min (idx (ix4 b l k 1)).toInt.toNat 48, by omega⟩ y z) := by
  unfold Host.gather
  refine congrArg a2 (funext fun a => Fin.ext ?_)
  show GatherDims.start _ _ idx a + GatherDims.batchCoord _ _ a + GatherDims.offCoord _ _ a = _
  rw [GatherDims.batchCoord_eq_zero _ _ _ List.not_mem_nil, Nat.add_zero]
  have hsi : ∀ c : Fin 2, GatherDims.siIdx gather_S8x49x16x768_S8x49x8x2_S8x49x8x16x768_34_01_n_n_01_3_1116768 (ix5 b l k y z) c
      = ix4 b l k c := fun c => by
    funext e
    match e with
    | ⟨0, _⟩ => rfl
    | ⟨1, _⟩ => rfl
    | ⟨2, _⟩ => rfl
    | ⟨3, _⟩ => rfl
  have h0 : ∀ a : Fin 4, a ∉ [(0 : Fin 4), 1] → GatherDims.start gather_S8x49x16x768_S8x49x8x2_S8x49x8x16x768_34_01_n_n_01_3_1116768 (ix5 b l k y z) idx a = 0 :=
    fun a h => dif_neg h
  have h1 : GatherDims.start gather_S8x49x16x768_S8x49x8x2_S8x49x8x16x768_34_01_n_n_01_3_1116768 (ix5 b l k y z) idx 0 = min (idx (ix4 b l k 0)).toInt.toNat 7 := by
    rw [← hsi 0]; exact dif_pos (show (0 : Fin 4) ∈ [(0 : Fin 4), 1] by decide)
  have h2 : GatherDims.start gather_S8x49x16x768_S8x49x8x2_S8x49x8x16x768_34_01_n_n_01_3_1116768 (ix5 b l k y z) idx 1 = min (idx (ix4 b l k 1)).toInt.toNat 48 := by
    rw [← hsi 1]; exact dif_pos (show (1 : Fin 4) ∈ [(0 : Fin 4), 1] by decide)
  match a with
  | ⟨0, _⟩ => exact h1
  | ⟨1, _⟩ => exact h2
  | ⟨2, _⟩ => exact (congrArg (· + _) (h0 2 (by decide))).trans (Nat.zero_add _)
  | ⟨3, _⟩ => exact (congrArg (· + _) (h0 3 (by decide))).trans (Nat.zero_add _)

/-- A sample's number, as the reference spells it: no negative one to wrap. -/
theorem sample_word : ∀ b : Fin 8, (Scalar.select (IntOp.cmpi .slt (BitVec.ofNat 32 b.val) 0#32) (IntOp.addi (BitVec.ofNat 32 b.val) 8#32) (BitVec.ofNat 32 b.val)).toInt.toNat = b.val := by
  decide

/-- An index word, as the reference spells it: no negative one to wrap. -/
theorem index_word (v : BitVec 32) (h : v.toNat < 49) :
    (Scalar.select (IntOp.cmpi .slt v 0#32) (IntOp.addi v 49#32) v).toInt.toNat = v.toNat := by
  have hv : v.toInt = v.toNat := by rw [BitVec.toInt_eq_toNat_cond, if_pos (by omega)]
  have hc : ¬ IntOp.cmpi .slt v 0#32 = 1 := fun e => by
    have := IntOp.cmpi_slt.1 e
    rw [hv, show (0#32 : BitVec 32).toInt = 0 from by decide] at this; omega
  rw [Scalar.select, if_neg hc, hv]; rfl

/-- The reference's start indices: the sample's number beside the index word. -/
def refIdx (a0 : S8x49x8.Idx → BitVec 32) : S8x49x8x2.Idx → BitVec 32 :=
  concatenate S8x49x8x2 3 [⟨S8x49x8x1, (broadcastInDim S8x49x8x1 ![0, 1, 2] bcast_S8x49x8_S8x49x8x1_0_1_2 (broadcastInDim S8x49x8 ![0, 1, 2] bcast_S8x1x1_S8x49x8_0_1_2
      (select (cmpi .slt (broadcastInDim S8x1x1 ![0] bcast_S8_S8x1x1_0 (iotaInDim S8 32 0)) (broadcastInDim S8x1x1 ![] bcast_S_S8x1x1 (constantI S_ 32 0#32)))
        (addi (broadcastInDim S8x1x1 ![0] bcast_S8_S8x1x1_0 (iotaInDim S8 32 0)) (broadcastInDim S8x1x1 ![] bcast_S_S8x1x1 (constantI S_ 32 8#32)))
        (broadcastInDim S8x1x1 ![0] bcast_S8_S8x1x1_0 (iotaInDim S8 32 0)))))⟩,
    ⟨S8x49x8x1, (broadcastInDim S8x49x8x1 ![0, 1, 2] bcast_S8x49x8_S8x49x8x1_0_1_2
      (select (cmpi .slt a0 (broadcastInDim S8x49x8 ![] bcast_S_S8x49x8 (constantI S_ 32 0#32))) (addi a0 (broadcastInDim S8x49x8 ![] bcast_S_S8x49x8 (constantI S_ 32 49#32))) a0))⟩]
    concatenates_S8x49x8x1_S8x49x8x1_S8x49x8x2_d3

/-- The first component of the start index is the sample's number. -/
theorem refIdx_sample (a0 : S8x49x8.Idx → BitVec 32) (b : Fin 8) (l : Fin 49) (k : Fin 8) : (refIdx a0 (ix4 b l k 0)).toInt.toNat = b.val := by
  unfold refIdx
  refine (congrArg (fun v : BitVec 32 => v.toInt.toNat) (concatenate_pair_apply_left (t := S8x49x8x2) (s₁ := S8x49x8x1) (s₂ := S8x49x8x1) (3 : Fin 4) _ _ concatenates_S8x49x8x1_S8x49x8x1_S8x49x8x2_d3 (ix4 b l k 0) rfl (ix4 b l k 0) (fun e => by
    match e with
    | ⟨0, _⟩ => rfl
    | ⟨1, _⟩ => rfl
    | ⟨2, _⟩ => rfl
    | ⟨3, _⟩ => rfl))).trans ?_
  exact sample_word b

/-- The second component of the start index is the index word. -/
theorem refIdx_index (a0 : S8x49x8.Idx → BitVec 32) (h : ∀ x, (a0 x).toNat < 49) (b : Fin 8) (l : Fin 49) (k : Fin 8) :
    (refIdx a0 (ix4 b l k 1)).toInt.toNat = (a0 (ix3 b l k)).toNat := by
  unfold refIdx
  refine (congrArg (fun v : BitVec 32 => v.toInt.toNat) (concatenate_pair_apply_right (t := S8x49x8x2) (s₁ := S8x49x8x1) (s₂ := S8x49x8x1) (3 : Fin 4) _ _ concatenates_S8x49x8x1_S8x49x8x1_S8x49x8x2_d3 (ix4 b l k 1) rfl rfl (ix4 b l k 0) (fun e he => by
    match e with
    | ⟨0, _⟩ => rfl
    | ⟨1, _⟩ => rfl
    | ⟨2, _⟩ => rfl
    | ⟨3, _⟩ => exact absurd rfl he) rfl)).trans ?_
  have e : ∀ (u : S8x49x8.Idx → BitVec 32), broadcastInDim S8x49x8x1 ![0, 1, 2] bcast_S8x49x8_S8x49x8x1_0_1_2 u (ix4 b l k 0) = u (ix3 b l k) := fun u => by
    unfold broadcastInDim
    refine congrArg u (funext fun a => ?_)
    match a with
    | ⟨0, _⟩ => rfl
    | ⟨1, _⟩ => rfl
    | ⟨2, _⟩ => rfl
  exact (congrArg (fun v : BitVec 32 => v.toInt.toNat) (e _)).trans (index_word _ (h _))

/-- The reference's result at an index is an element of the row that the index word names. -/
theorem reference_value (a0 : S8x49x8.Idx → BitVec 32) (a2 : S8x49x16x768.Idx → F .f32) (h : ∀ x, (a0 x).toNat < 49)
    (b : Fin 8) (l : Fin 49) (k : Fin 8) (y : Fin 16) (z : Fin 768) :
    Host.gather gather_S8x49x16x768_S8x49x8x2_S8x49x8x16x768_34_01_n_n_01_3_1116768 a2 (refIdx a0) (ix5 b l k y z) = rowAt a0 a2 h b l k y z := by
  rw [gather_apply]
  unfold rowAt
  have hb := b.isLt; have hv := h (ix3 b l k)
  congr 2
  · exact Fin.ext (by show min _ 7 = b.val; rw [refIdx_sample]; omega)
  · exact Fin.ext (by show min _ 48 = (a0 (ix3 b l k)).toNat; rw [refIdx_index a0 h]; omega)

end Cert.Proof

end
-- ==== Proof.Value.lean ====
/-
  What the precondition says of the index words, the kernel's result at an index, its equality with the reference's, and the
  claims.
-/
module

public import proofs.«01_k».proof.Defs
public import proofs.«01_k».proof.Proof.Run
public import proofs.«01_k».proof.Proof.Ref
public import proofs.«01_k».proof.Proof.Gen.Pre_in_range
public import proofs.«01_k».proof.Proof.Gen.Kernel
public import Idealize.ShloMosaic.Lib.ReduceAll

@[expose] public section

set_option maxRecDepth 16384

noncomputable section

namespace Cert.Proof

open Cert.KernelIdeal Cert.KernelIdeal.Gen
open Idealize.ShloMosaic Idealize.ShloMosaic.ValueIdx Idealize.SL.Sem

variable {F : FTy → Type}

/-! ## The precondition -/

/-- The precondition's check passes only if every index word, read unsigned, is below 49. -/
theorem pre_lt [FloatOps F] (a0 : S8x49x8.Idx → BitVec 32) (a1 : S8x49x8.Idx → F .f32) (a2 : S8x49x16x768.Idx → F .f32)
    (h : Cert.Pre_in_range.fn (F := F) a0 a1 a2 = fun _ => 1#1) (x : S8x49x8.Idx) : (a0 x).toNat < 49 := by
  have e := Host.reduce_andi_all _ _ Cert.Pre_in_range.Gen.facts.reducesTo_S8x49x8_S_d0_1_2 Cert.Pre_in_range.Gen.facts.h_S_
    (Shape.Idx.first Cert.Pre_in_range.Gen.facts.h_S_) (congrFun h _) x
  obtain ⟨h1, h2⟩ := IntOp.andi_eq_one.1 e
  have h1' : (0#32).toInt ≤ (a0 x).toInt := IntOp.cmpi_sge.1 h1
  have h2' : (a0 x).toInt < (49#32).toInt := IntOp.cmpi_slt.1 h2
  rw [show (0#32 : BitVec 32).toInt = 0 from by decide] at h1'
  rw [show (49#32 : BitVec 32).toInt = 49 from by decide] at h2'
  have := (a0 x).isLt
  rw [BitVec.toInt_eq_toNat_cond] at h1' h2'
  split at h1' <;> omega

/-- The words the call is given are index words. -/
theorem wOf_lt (m : (ℓ : Loc nD τ sig) → Buf (Elt F) ℓ) (d : Dev nD) (h : ∀ x, ((m (a0Loc d) : S8x49x8.Idx → BitVec 32) x).toNat < 49) (x : S3136.Idx) :
    (wOf m d x).toNat < 49 := h _

/-! ## The result at an index -/

/-- The kernel's result at an index is an element of the row that the index word names. -/
theorem kernel_value (a0 : S8x49x8.Idx → BitVec 32) (a2 : S8x49x16x768.Idx → F .f32) (h : ∀ x, (a0 x).toNat < 49)
    (b : Fin 8) (l : Fin 49) (k : Fin 8) (y : Fin 16) (z : Fin 768) :
    shapeCast S8x49x8x16x768 (gOut (shapeCast S3136 a0 shapeCasts_S8x49x8_S3136) (shapeCast S392x16x768 a2 shapeCasts_S8x49x16x768_S392x16x768))
      shapeCasts_S3136x16x768_S8x49x8x16x768 (ix5 b l k y z) = rowAt a0 a2 h b l k y z := by
  have hb := b.isLt; have hl := l.isLt; have hk := k.isLt
  have hn : 392 * b.val + 8 * l.val + k.val < 3136 := by omega
  rw [shapeCast_apply _ _ _ (ix3 ⟨392 * b.val + 8 * l.val + k.val, hn⟩ y z) (by
    rw [Shape.rowMajor_val_three, Shape.rowMajor_val_five]
    show ((392 * b.val + 8 * l.val + k.val) * 16 + y.val) * 768 + z.val = (((b.val * 49 + l.val) * 8 + k.val) * 16 + y.val) * 768 + z.val
    omega)]
  have hd : (392 * b.val + 8 * l.val + k.val) / 392 = b.val := by omega
  have hm : (392 * b.val + 8 * l.val + k.val) % 392 = 8 * l.val + k.val := by omega
  have hword : word (shapeCast S3136 a0 shapeCasts_S8x49x8_S3136) b.val (8 * l.val + k.val) = a0 (ix3 b l k) := by
    unfold word
    rw [if_pos (by omega)]
    refine shapeCast_apply _ _ _ _ ?_
    rw [Shape.rowMajor_val_three, Shape.rowMajor_val_one]
    show (b.val * 49 + l.val) * 8 + k.val = (392 * b.val + (8 * l.val + k.val)) % 3136
    omega
  show tabAt _ (49 * ((392 * b.val + 8 * l.val + k.val) / 392) + (word _ ((392 * b.val + 8 * l.val + k.val) / 392)
    ((392 * b.val + 8 * l.val + k.val) % 392)).toNat) y z = _
  rw [hd, hm, hword]
  unfold tabAt rowAt
  have hv := h (ix3 b l k)
  refine shapeCast_apply _ _ _ _ ?_
  rw [Shape.rowMajor_val_four, Shape.rowMajor_val_three]
  show ((b.val * 49 + (a0 (ix3 b l k)).toNat) * 16 + y.val) * 768 + z.val = (((49 * b.val + (a0 (ix3 b l k)).toNat) % 392) * 16 + y.val) * 768 + z.val
  rw [Nat.mod_eq_of_lt (by omega)]
  omega

/-- The kernel's result is the reference's. -/
theorem value_eq (a0 : S8x49x8.Idx → BitVec 32) (a2 : S8x49x16x768.Idx → F .f32) (h : ∀ x, (a0 x).toNat < 49) :
    Host.gather Cert.ReferenceIdeal.gather_S8x49x16x768_S8x49x8x2_S8x49x8x16x768_34_01_n_n_01_3_1116768 a2 (refIdx a0)
      = shapeCast S8x49x8x16x768 (gOut (shapeCast S3136 a0 shapeCasts_S8x49x8_S3136) (shapeCast S392x16x768 a2 shapeCasts_S8x49x16x768_S392x16x768))
          shapeCasts_S3136x16x768_S8x49x8x16x768 :=
  funext fun x => by rw [eq_ix5 x]; exact (reference_value a0 a2 h _ _ _ _ _).trans (kernel_value a0 a2 h _ _ _ _ _).symm

/-! ## The claims -/

set_option maxHeartbeats 4000000 in
/-- The kernel's frame, over float words: its text is the ideal program's, so that its run is too. -/
theorem frame_kernel : Cert.quiescent_Kernel := fun m g hpre =>
  (θ_run Cert.KernelIdeal.defs _ _).mono (fun _ h => ⟨fun c => (h.1 c).2, h.2⟩)
    (run_main (F := Bits) m g (wOf_lt m 0 (pre_lt _ _ _ (hpre 0))))

/-- The kernel's frame, over the extended reals. -/
theorem frame_kernelIdeal : Cert.quiescent_KernelIdeal := fun m g hpre =>
  (θ_run Cert.KernelIdeal.defs _ _).mono (fun _ h => ⟨fun c => (h.1 c).2, h.2⟩)
    (run_main (F := Ideal) m g (wOf_lt m 0 (pre_lt _ _ _ (hpre 0))))

/-- The reference's frame, on all arguments. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference's frame, on arguments in range. -/
theorem frame_reference_pre : Cert.quiescent_ReferenceIdeal_pre_in_range := fun m g _ => frame_reference m g trivial

/-- Kernel and reference, from the same arguments, both in range, end with the same result. -/
theorem algebraic : Cert.algebraic_KernelIdeal_ReferenceIdeal := by
  intro m g m' g' hpre hagree
  refine ⟨fun c => rOf m c, (θ_run Cert.KernelIdeal.defs _ _).mono (fun _ h c => h.1 c)
    (run_main (F := Ideal) m g (wOf_lt m 0 (pre_lt _ _ _ (hpre 0)))), ?_⟩
  refine (θ_run Cert.ReferenceIdeal.defs _ _).mono (fun _ h c => ⟨(h c).1.trans ?_, (h c).2⟩) (Cert.ReferenceIdeal.Value.run (F := Ideal) m' g')
  obtain ⟨h0, -, h2⟩ := hagree c
  rw [h0, h2]
  exact value_eq (F := Ideal) (m (a0Loc c)) (m (a2Loc c)) (pre_lt _ _ _ (hpre c))

end Cert.Proof

end
-- ==== Proof.lean ====
/-
  The proof of `Cert.Claim`. Its parts: the two frames of the kernel and its value, from the run of `Run.lean`; the reference's
  frame, from its generated run; and the equation of the two values (`Value.lean`). The kernel is rewritten nowhere, so that its
  ideal program is the program itself.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Value

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Pre_in_range.Gen.facts,
  frame_kernel, frame_kernelIdeal, frame_reference, frame_reference_pre, trivial, algebraic⟩

end Cert.Proof

end
